-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S4096x8192 : Shape := ⟨2, ![4096, 8192]⟩
abbrev S3584x1280 : Shape := ⟨2, ![3584, 1280]⟩
abbrev S3584x1408 : Shape := ⟨2, ![3584, 1408]⟩
abbrev S2048x1280 : Shape := ⟨2, ![2048, 1280]⟩
abbrev S2048x1408 : Shape := ⟨2, ![2048, 1408]⟩
abbrev S3x7 : Shape := ⟨2, ![3, 7]⟩
abbrev S3 : Shape := ⟨1, ![3]⟩
abbrev S_ : Shape := ⟨0, ![]⟩
abbrev S2048x512 : Shape := ⟨2, ![2048, 512]⟩
abbrev S512x1280 : Shape := ⟨2, ![512, 1280]⟩
abbrev S1x1 : Shape := ⟨2, ![1, 1]⟩
abbrev S1024x1280 : Shape := ⟨2, ![1024, 1280]⟩
abbrev S512x1408 : Shape := ⟨2, ![512, 1408]⟩
abbrev S1024x1408 : Shape := ⟨2, ![1024, 1408]⟩
abbrev S1024x512 : Shape := ⟨2, ![1024, 512]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S4096x8192, .bf16⟩
  | .local _ .vmem, ⟨0, _⟩ => ⟨S4096x512, .bf16⟩
  | .local _ .vmem, ⟨1, _⟩ => ⟨S512x8192, .bf16⟩
  | .local _ .vmem, ⟨2, _⟩ => ⟨S3584x1280, .bf16⟩
  | .local _ .vmem, ⟨3, _⟩ => ⟨S3584x1408, .bf16⟩
  | .local _ .vmem, ⟨4, _⟩ => ⟨S3584x1408, .bf16⟩
  | .local _ .vmem, ⟨5, _⟩ => ⟨S2048x1280, .bf16⟩
  | .local _ .vmem, ⟨6, _⟩ => ⟨S2048x1408, .bf16⟩
  | .local _ .vmem, ⟨7, _⟩ => ⟨S2048x1408, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 13 47 bufScoped semScoped dmaSemScoped tileCredit tileCredit_eq_zero tileCredit_pos).withBarriers [(0, 12)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 12

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v19 : BitVec 32 := Scalar.xori v2 c1_i32_11
  let c1_i32_13 : BitVec 32 := 1#32
  let v20 : BitVec 32 := Scalar.muli v19 c1_i32_13
  let v21 : BitVec 32 := Scalar.addi c0_i32 v20
  v21.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_14 : BitVec 32 := 3#32
  let v22 : BitVec 32 := Scalar.xori v2 c3_i32_14
  let c1_i32_16 : BitVec 32 := 1#32
  let v23 : BitVec 32 := Scalar.muli v22 c1_i32_16
  let v24 : BitVec 32 := Scalar.addi c0_i32_17 v23
  v24.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v25 : BitVec 32 := Scalar.xori v2 c4_i32_18
  let c1_i32_20 : BitVec 32 := 1#32
  let v26 : BitVec 32 := Scalar.muli v25 c1_i32_20
  let v27 : BitVec 32 := Scalar.addi c0_i32_21 v26
  v27.toNat
def k0_off1 (d0 : Dev nD) : Fin 2 → Nat :=
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v43 : BitVec 32 := Scalar.subi c1_i32_32 v8
  let c2048_i32_33 : BitVec 32 := 2048#32
  let v44 : BitVec 32 := Scalar.muli v43 c2048_i32_33
  let v45 : Index := Scalar.indexCast v44
  let c0 : Index := 0#32
  ![v45.toNat, 0]
def k0_off2 (d0 : Dev nD) : Fin 2 → Nat :=
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v57 : BitVec 32 := Scalar.subi c1_i32_40 v6
  let c1024_i32_41 : BitVec 32 := 1024#32
  let v58 : BitVec 32 := Scalar.muli v57 c1024_i32_41
  let c0_i32_48 : BitVec 32 := 0#32
  ![v58.toNat, 0]
def k0_off3 (d0 : Dev nD) : Fin 2 → Nat :=
  let c1_i32_38 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v55 : BitVec 32 := Scalar.subi c1_i32_38 v6
  let c1024_i32_39 : BitVec 32 := 1024#32
  let v56 : BitVec 32 := Scalar.muli v55 c1024_i32_39
  let c0_i32_49 : BitVec 32 := 0#32
  ![v56.toNat, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_46 : BitVec 32 := 1#32
  let v59 : BitVec 32 := Scalar.muli v9 c1_i32_46
  let v60 : BitVec 32 := Scalar.addi c0_i32_47 v59
  v60.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c1024_i32_51 : BitVec 32 := 1024#32
  let v68 : BitVec 32 := Scalar.muli v6 c1024_i32_51
  let c0_i32_57 : BitVec 32 := 0#32
  ![v68.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c1024_i32_50 : BitVec 32 := 1024#32
  let v67 : BitVec 32 := Scalar.muli v6 c1024_i32_50
  let c0_i32_58 : BitVec 32 := 0#32
  ![v67.toNat, 0]
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_55 : BitVec 32 := 1#32
  let v69 : BitVec 32 := Scalar.muli v9 c1_i32_55
  let v70 : BitVec 32 := Scalar.addi c0_i32_56 v69
  v70.toNat
def k0_off6 (d0 : Dev nD) (c1_i32_1 : BitVec 32) : Fin 2 → Nat :=
  let c1_i32_59 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : BitVec 32 := Scalar.shrsi v2 c1_i32_1
  let c1_i32_2 : BitVec 32 := 1#32
  let v6 : BitVec 32 := Scalar.andi v5 c1_i32_2
  let v77 : BitVec 32 := Scalar.subi c1_i32_59 v6
  let c2048_i32_60 : BitVec 32 := 2048#32
  let v78 : BitVec 32 := Scalar.muli v77 c2048_i32_60
  let v79 : Index := Scalar.indexCast v78
  let c0_61 : Index := 0#32
  ![v79.toNat, 0]
def k0_off7 (d0 : Dev nD) : Fin 2 → Nat :=
  let c1_i32_68 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let v91 : BitVec 32 := Scalar.subi c1_i32_68 v4
  let c1024_i32_69 : BitVec 32 := 1024#32
  let v92 : BitVec 32 := Scalar.muli v91 c1024_i32_69
  let c0_i32_76 : BitVec 32 := 0#32
  ![v92.toNat, 0]
def k0_off8 (d0 : Dev nD) : Fin 2 → Nat :=
  let c1_i32_66 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let v89 : BitVec 32 := Scalar.subi c1_i32_66 v4
  let c1024_i32_67 : BitVec 32 := 1024#32
  let v90 : BitVec 32 := Scalar.muli v89 c1024_i32_67
  let c0_i32_77 : BitVec 32 := 0#32
  ![v90.toNat, 0]
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5 : BitVec 32 := 3#32
  let v12 : BitVec 32 := Scalar.xori v2 c3_i32_5
  let c1_i32_74 : BitVec 32 := 1#32
  let v93 : BitVec 32 := Scalar.muli v12 c1_i32_74
  let v94 : BitVec 32 := Scalar.addi c0_i32_75 v93
  v94.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c1024_i32_79 : BitVec 32 := 1024#32
  let v102 : BitVec 32 := Scalar.muli v4 c1024_i32_79
  let c0_i32_86 : BitVec 32 := 0#32
  ![v102.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c1024_i32_78 : BitVec 32 := 1024#32
  let v101 : BitVec 32 := Scalar.muli v4 c1024_i32_78
  let c0_i32_87 : BitVec 32 := 0#32
  ![v101.toNat, 0]
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5 : BitVec 32 := 3#32
  let v12 : BitVec 32 := Scalar.xori v2 c3_i32_5
  let c1_i32_84 : BitVec 32 := 1#32
  let v103 : BitVec 32 := Scalar.muli v12 c1_i32_84
  let v104 : BitVec 32 := Scalar.addi c0_i32_85 v103
  v104.toNat
def k0_off11 (d0 : Dev nD) : Fin 2 → Nat :=
  let c1_i32_97 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v125 : BitVec 32 := Scalar.subi c1_i32_97 v8
  let c1024_i32_98 : BitVec 32 := 1024#32
  let v126 : BitVec 32 := Scalar.muli v125 c1024_i32_98
  let c0_i32_105 : BitVec 32 := 0#32
  ![v126.toNat, 0]
def k0_off12 (d0 : Dev nD) : Fin 2 → Nat :=
  let c1_i32_95 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v123 : BitVec 32 := Scalar.subi c1_i32_95 v8
  let c1024_i32_96 : BitVec 32 := 1024#32
  let v124 : BitVec 32 := Scalar.muli v123 c1024_i32_96
  let c0_i32_106 : BitVec 32 := 0#32
  ![v124.toNat, 0]
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_103 : BitVec 32 := 1#32
  let v127 : BitVec 32 := Scalar.muli v15 c1_i32_103
  let v128 : BitVec 32 := Scalar.addi c0_i32_104 v127
  v128.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_108 : BitVec 32 := 1024#32
  let v136 : BitVec 32 := Scalar.muli v8 c1024_i32_108
  let c0_i32_115 : BitVec 32 := 0#32
  ![v136.toNat, 0]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_107 : BitVec 32 := 1024#32
  let v135 : BitVec 32 := Scalar.muli v8 c1024_i32_107
  let c0_i32_116 : BitVec 32 := 0#32
  ![v135.toNat, 0]
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_113 : BitVec 32 := 1#32
  let v137 : BitVec 32 := Scalar.muli v15 c1_i32_113
  let v138 : BitVec 32 := Scalar.addi c0_i32_114 v137
  v138.toNat
def k0_off15 (d0 : Dev nD) : Fin 2 → Nat :=
  let c1_i32_132 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v155 : BitVec 32 := Scalar.subi c1_i32_132 v6
  let c1024_i32_133 : BitVec 32 := 1024#32
  let v156 : BitVec 32 := Scalar.muli v155 c1024_i32_133
  let v157 : Index := Scalar.indexCast v156
  let c0_134 : Index := 0#32
  ![v157.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c2048_i32 : BitVec 32 := 2048#32
  let v28 : BitVec 32 := Scalar.muli v8 c2048_i32
  let c1_i32_135 : BitVec 32 := 1#32
  let v159 : BitVec 32 := Scalar.subi c1_i32_135 v6
  let c1024_i32_136 : BitVec 32 := 1024#32
  let v160 : BitVec 32 := Scalar.muli v159 c1024_i32_136
  let v161 : BitVec 32 := Scalar.addi v28 v160
  let v162 : Index := Scalar.indexCast v161
  let c0_137 : Index := 0#32
  ![v162.toNat, 0]
def k0_dev10 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_150 : BitVec 32 := 1#32
  let v178 : BitVec 32 := Scalar.muli v10 c1_i32_150
  let v179 : BitVec 32 := Scalar.addi c0_i32_151 v178
  v179.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c1024_i32_170 : BitVec 32 := 1024#32
  let v196 : BitVec 32 := Scalar.muli v6 c1024_i32_170
  let v197 : Index := Scalar.indexCast v196
  let c0_171 : Index := 0#32
  ![v197.toNat, 0]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c2048_i32 : BitVec 32 := 2048#32
  let v28 : BitVec 32 := Scalar.muli v8 c2048_i32
  let c1024_i32_172 : BitVec 32 := 1024#32
  let v199 : BitVec 32 := Scalar.muli v6 c1024_i32_172
  let v200 : BitVec 32 := Scalar.addi v28 v199
  let v201 : Index := Scalar.indexCast v200
  let c0_173 : Index := 0#32
  ![v201.toNat, 0]
def k0_off19 (d0 : Dev nD) : Fin 2 → Nat :=
  let c1_i32_194 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let v224 : BitVec 32 := Scalar.subi c1_i32_194 v4
  let c1024_i32_195 : BitVec 32 := 1024#32
  let v225 : BitVec 32 := Scalar.muli v224 c1024_i32_195
  let v226 : Index := Scalar.indexCast v225
  let c0_196 : Index := 0#32
  ![v226.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c2048_i32_23 : BitVec 32 := 2048#32
  let v29 : BitVec 32 := Scalar.muli v6 c2048_i32_23
  let c1_i32_197 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v228 : BitVec 32 := Scalar.subi c1_i32_197 v4
  let c1024_i32_198 : BitVec 32 := 1024#32
  let v229 : BitVec 32 := Scalar.muli v228 c1024_i32_198
  let v230 : BitVec 32 := Scalar.addi v29 v229
  let v231 : Index := Scalar.indexCast v230
  let c0_199 : Index := 0#32
  ![v231.toNat, 0]
def k0_dev11 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v13 : BitVec 32 := Scalar.xori v2 c4_i32_6
  let c1_i32_212 : BitVec 32 := 1#32
  let v247 : BitVec 32 := Scalar.muli v13 c1_i32_212
  let v248 : BitVec 32 := Scalar.addi c0_i32_213 v247
  v248.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c1024_i32_232 : BitVec 32 := 1024#32
  let v265 : BitVec 32 := Scalar.muli v4 c1024_i32_232
  let v266 : Index := Scalar.indexCast v265
  let c0_233 : Index := 0#32
  ![v266.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c2048_i32_23 : BitVec 32 := 2048#32
  let v29 : BitVec 32 := Scalar.muli v6 c2048_i32_23
  let c2_i32 : BitVec 32 := 2#32
  let v3 : BitVec 32 := Scalar.shrsi v2 c2_i32
  let c1_i32_0 : BitVec 32 := 1#32
  let v4 : BitVec 32 := Scalar.andi v3 c1_i32_0
  let c1024_i32_234 : BitVec 32 := 1024#32
  let v268 : BitVec 32 := Scalar.muli v4 c1024_i32_234
  let v269 : BitVec 32 := Scalar.addi v29 v268
  let v270 : Index := Scalar.indexCast v269
  let c0_235 : Index := 0#32
  ![v270.toNat, 0]
def k0_off23 (d0 : Dev nD) : Fin 2 → Nat :=
  let c1_i32_256 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v293 : BitVec 32 := Scalar.subi c1_i32_256 v8
  let c1024_i32_257 : BitVec 32 := 1024#32
  let v294 : BitVec 32 := Scalar.muli v293 c1024_i32_257
  let v295 : Index := Scalar.indexCast v294
  let c0_258 : Index := 0#32
  ![v295.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c2048_i32_24 : BitVec 32 := 2048#32
  let v30 : BitVec 32 := Scalar.muli v4 c2048_i32_24
  let c1_i32_259 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v297 : BitVec 32 := Scalar.subi c1_i32_259 v8
  let c1024_i32_260 : BitVec 32 := 1024#32
  let v298 : BitVec 32 := Scalar.muli v297 c1024_i32_260
  let v299 : BitVec 32 := Scalar.addi v30 v298
  let v300 : Index := Scalar.indexCast v299
  let c0_261 : Index := 0#32
  ![v300.toNat, 0]
def k0_dev12 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v16 : BitVec 32 := Scalar.xori v2 c1_i32_9
  let c1_i32_274 : BitVec 32 := 1#32
  let v316 : BitVec 32 := Scalar.muli v16 c1_i32_274
  let v317 : BitVec 32 := Scalar.addi c0_i32_275 v316
  v317.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_294 : BitVec 32 := 1024#32
  let v334 : BitVec 32 := Scalar.muli v8 c1024_i32_294
  let v335 : Index := Scalar.indexCast v334
  let c0_295 : Index := 0#32
  ![v335.toNat, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c2048_i32_24 : BitVec 32 := 2048#32
  let v30 : BitVec 32 := Scalar.muli v4 c2048_i32_24
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_296 : BitVec 32 := 1024#32
  let v337 : BitVec 32 := Scalar.muli v8 c1024_i32_296
  let v338 : BitVec 32 := Scalar.addi v30 v337
  let v339 : Index := Scalar.indexCast v338
  let c0_297 : Index := 0#32
  ![v339.toNat, 0]
def k0_dev13 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_321 : BitVec 32 := 1#32
  let v362 : BitVec 32 := Scalar.muli v9 c1_i32_321
  let v363 : BitVec 32 := Scalar.addi c0_i32_322 v362
  v363.toNat
def k0_dev14 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_327 : BitVec 32 := 1#32
  let v372 : BitVec 32 := Scalar.muli v10 c1_i32_327
  let v373 : BitVec 32 := Scalar.addi c0_i32_328 v372
  v373.toNat
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c1024_i32 : BitVec 32 := 1024#32
  let v31 : BitVec 32 := Scalar.muli v6 c1024_i32
  let c1_i32_329 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v374 : BitVec 32 := Scalar.subi c1_i32_329 v4
  let c512_i32_330 : BitVec 32 := 512#32
  let v375 : BitVec 32 := Scalar.muli v374 c512_i32_330
  let v376 : BitVec 32 := Scalar.addi v31 v375
  let c0_i32_338 : BitVec 32 := 0#32
  ![v376.toNat, 0]
def k0_dev15 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_335 : BitVec 32 := 1#32
  let v377 : BitVec 32 := Scalar.muli v11 c1_i32_335
  let v378 : BitVec 32 := Scalar.addi c0_i32_336 v377
  v378.toNat
def k0_off28 (d0 : Dev nD) : Fin 2 → Nat :=
  let c1_i32_339 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v385 : BitVec 32 := Scalar.subi c1_i32_339 v8
  let c2048_i32_340 : BitVec 32 := 2048#32
  let v386 : BitVec 32 := Scalar.muli v385 c2048_i32_340
  let c1_i32_341 : BitVec 32 := 1#32
  let v387 : BitVec 32 := Scalar.subi c1_i32_341 v6
  let c1024_i32_342 : BitVec 32 := 1024#32
  let v388 : BitVec 32 := Scalar.muli v387 c1024_i32_342
  let v389 : BitVec 32 := Scalar.addi v386 v388
  let v390 : Index := Scalar.indexCast v389
  let c0_343 : Index := 0#32
  ![v390.toNat, 0]
def k0_off29 (d0 : Dev nD) : Fin 2 → Nat :=
  let c1_i32_346 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v397 : BitVec 32 := Scalar.subi c1_i32_346 v6
  let c1024_i32_347 : BitVec 32 := 1024#32
  let v398 : BitVec 32 := Scalar.muli v397 c1024_i32_347
  let v399 : Index := Scalar.indexCast v398
  let c0_348 : Index := 0#32
  ![v399.toNat, 0]
def k0_dev16 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_359 : BitVec 32 := 1#32
  let v407 : BitVec 32 := Scalar.muli v9 c1_i32_359
  let v408 : BitVec 32 := Scalar.addi c0_i32_360 v407
  v408.toNat
def k0_dev17 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5 : BitVec 32 := 3#32
  let v12 : BitVec 32 := Scalar.xori v2 c3_i32_5
  let c1_i32_381 : BitVec 32 := 1#32
  let v425 : BitVec 32 := Scalar.muli v12 c1_i32_381
  let v426 : BitVec 32 := Scalar.addi c0_i32_382 v425
  v426.toNat
def k0_dev18 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v13 : BitVec 32 := Scalar.xori v2 c4_i32_6
  let c1_i32_388 : BitVec 32 := 1#32
  let v435 : BitVec 32 := Scalar.muli v13 c1_i32_388
  let v436 : BitVec 32 := Scalar.addi c0_i32_389 v435
  v436.toNat
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c1024_i32_25 : BitVec 32 := 1024#32
  let v32 : BitVec 32 := Scalar.muli v4 c1024_i32_25
  let c1_i32_390 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v437 : BitVec 32 := Scalar.subi c1_i32_390 v8
  let c512_i32_391 : BitVec 32 := 512#32
  let v438 : BitVec 32 := Scalar.muli v437 c512_i32_391
  let v439 : BitVec 32 := Scalar.addi v32 v438
  let c0_i32_400 : BitVec 32 := 0#32
  ![v439.toNat, 0]
def k0_dev19 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v14 : BitVec 32 := Scalar.xori v2 c1_i32_7
  let c1_i32_396 : BitVec 32 := 1#32
  let v440 : BitVec 32 := Scalar.muli v14 c1_i32_396
  let v441 : BitVec 32 := Scalar.addi c0_i32_397 v440
  v441.toNat
def k0_off31 (d0 : Dev nD) : Fin 2 → Nat :=
  let c1_i32_401 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v448 : BitVec 32 := Scalar.subi c1_i32_401 v6
  let c2048_i32_402 : BitVec 32 := 2048#32
  let v449 : BitVec 32 := Scalar.muli v448 c2048_i32_402
  let c1_i32_403 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v450 : BitVec 32 := Scalar.subi c1_i32_403 v4
  let c1024_i32_404 : BitVec 32 := 1024#32
  let v451 : BitVec 32 := Scalar.muli v450 c1024_i32_404
  let v452 : BitVec 32 := Scalar.addi v449 v451
  let v453 : Index := Scalar.indexCast v452
  let c0_405 : Index := 0#32
  ![v453.toNat, 0]
def k0_off32 (d0 : Dev nD) : Fin 2 → Nat :=
  let c1_i32_408 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let v460 : BitVec 32 := Scalar.subi c1_i32_408 v4
  let c1024_i32_409 : BitVec 32 := 1024#32
  let v461 : BitVec 32 := Scalar.muli v460 c1024_i32_409
  let v462 : Index := Scalar.indexCast v461
  let c0_410 : Index := 0#32
  ![v462.toNat, 0]
def k0_dev20 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5 : BitVec 32 := 3#32
  let v12 : BitVec 32 := Scalar.xori v2 c3_i32_5
  let c1_i32_421 : BitVec 32 := 1#32
  let v470 : BitVec 32 := Scalar.muli v12 c1_i32_421
  let v471 : BitVec 32 := Scalar.addi c0_i32_422 v470
  v471.toNat
def k0_dev21 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_443 : BitVec 32 := 1#32
  let v488 : BitVec 32 := Scalar.muli v15 c1_i32_443
  let v489 : BitVec 32 := Scalar.addi c0_i32_444 v488
  v489.toNat
def k0_dev22 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v16 : BitVec 32 := Scalar.xori v2 c1_i32_9
  let c1_i32_450 : BitVec 32 := 1#32
  let v498 : BitVec 32 := Scalar.muli v16 c1_i32_450
  let v499 : BitVec 32 := Scalar.addi c0_i32_451 v498
  v499.toNat
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_26 : BitVec 32 := 1024#32
  let v33 : BitVec 32 := Scalar.muli v8 c1024_i32_26
  let c1_i32_452 : BitVec 32 := 1#32
  let v500 : BitVec 32 := Scalar.subi c1_i32_452 v6
  let c512_i32_453 : BitVec 32 := 512#32
  let v501 : BitVec 32 := Scalar.muli v500 c512_i32_453
  let v502 : BitVec 32 := Scalar.addi v33 v501
  let c0_i32_462 : BitVec 32 := 0#32
  ![v502.toNat, 0]
def k0_dev23 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_10 : BitVec 32 := 3#32
  let v17 : BitVec 32 := Scalar.xori v2 c3_i32_10
  let c1_i32_458 : BitVec 32 := 1#32
  let v503 : BitVec 32 := Scalar.muli v17 c1_i32_458
  let v504 : BitVec 32 := Scalar.addi c0_i32_459 v503
  v504.toNat
def k0_off34 (d0 : Dev nD) : Fin 2 → Nat :=
  let c1_i32_463 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let v511 : BitVec 32 := Scalar.subi c1_i32_463 v4
  let c2048_i32_464 : BitVec 32 := 2048#32
  let v512 : BitVec 32 := Scalar.muli v511 c2048_i32_464
  let c1_i32_465 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v513 : BitVec 32 := Scalar.subi c1_i32_465 v8
  let c1024_i32_466 : BitVec 32 := 1024#32
  let v514 : BitVec 32 := Scalar.muli v513 c1024_i32_466
  let v515 : BitVec 32 := Scalar.addi v512 v514
  let v516 : Index := Scalar.indexCast v515
  let c0_467 : Index := 0#32
  ![v516.toNat, 0]
def k0_off35 (d0 : Dev nD) : Fin 2 → Nat :=
  let c1_i32_470 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v523 : BitVec 32 := Scalar.subi c1_i32_470 v8
  let c1024_i32_471 : BitVec 32 := 1024#32
  let v524 : BitVec 32 := Scalar.muli v523 c1024_i32_471
  let v525 : Index := Scalar.indexCast v524
  let c0_472 : Index := 0#32
  ![v525.toNat, 0]
def k0_dev24 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_483 : BitVec 32 := 1#32
  let v533 : BitVec 32 := Scalar.muli v15 c1_i32_483
  let v534 : BitVec 32 := Scalar.addi c0_i32_484 v533
  v534.toNat
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c1024_i32_27 : BitVec 32 := 1024#32
  let v34 : BitVec 32 := Scalar.muli v6 c1024_i32_27
  let c2_i32 : BitVec 32 := 2#32
  let v3 : BitVec 32 := Scalar.shrsi v2 c2_i32
  let c1_i32_0 : BitVec 32 := 1#32
  let v4 : BitVec 32 := Scalar.andi v3 c1_i32_0
  let c512_i32 : BitVec 32 := 512#32
  let v35 : BitVec 32 := Scalar.muli v4 c512_i32
  let v36 : BitVec 32 := Scalar.addi v34 v35
  let v551 : Index := Scalar.indexCast v36
  let c0_504 : Index := 0#32
  ![v551.toNat, 0]
def k0_dev25 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_509 : BitVec 32 := 1#32
  let v561 : BitVec 32 := Scalar.muli v11 c1_i32_509
  let v562 : BitVec 32 := Scalar.addi c0_i32_510 v561
  v562.toNat
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c2048_i32 : BitVec 32 := 2048#32
  let v28 : BitVec 32 := Scalar.muli v8 c2048_i32
  let c1024_i32_27 : BitVec 32 := 1024#32
  let v34 : BitVec 32 := Scalar.muli v6 c1024_i32_27
  let c2_i32 : BitVec 32 := 2#32
  let v3 : BitVec 32 := Scalar.shrsi v2 c2_i32
  let c1_i32_0 : BitVec 32 := 1#32
  let v4 : BitVec 32 := Scalar.andi v3 c1_i32_0
  let c512_i32 : BitVec 32 := 512#32
  let v35 : BitVec 32 := Scalar.muli v4 c512_i32
  let v36 : BitVec 32 := Scalar.addi v34 v35
  let v563 : BitVec 32 := Scalar.addi v28 v36
  let c0_i32_512 : BitVec 32 := 0#32
  ![v563.toNat, 0]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c1024_i32_27 : BitVec 32 := 1024#32
  let v34 : BitVec 32 := Scalar.muli v6 c1024_i32_27
  let c2_i32 : BitVec 32 := 2#32
  let v3 : BitVec 32 := Scalar.shrsi v2 c2_i32
  let c1_i32_0 : BitVec 32 := 1#32
  let v4 : BitVec 32 := Scalar.andi v3 c1_i32_0
  let c512_i32 : BitVec 32 := 512#32
  let v35 : BitVec 32 := Scalar.muli v4 c512_i32
  let v36 : BitVec 32 := Scalar.addi v34 v35
  let c0_i32_513 : BitVec 32 := 0#32
  ![v36.toNat, 0]
def k0_dev26 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_518 : BitVec 32 := 1#32
  let v568 : BitVec 32 := Scalar.muli v11 c1_i32_518
  let v569 : BitVec 32 := Scalar.addi c0_i32_519 v568
  v569.toNat
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c1024_i32_28 : BitVec 32 := 1024#32
  let v37 : BitVec 32 := Scalar.muli v4 c1024_i32_28
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_29 : BitVec 32 := 512#32
  let v38 : BitVec 32 := Scalar.muli v8 c512_i32_29
  let v39 : BitVec 32 := Scalar.addi v37 v38
  let v586 : Index := Scalar.indexCast v39
  let c0_539 : Index := 0#32
  ![v586.toNat, 0]
def k0_dev27 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v14 : BitVec 32 := Scalar.xori v2 c1_i32_7
  let c1_i32_545 : BitVec 32 := 1#32
  let v596 : BitVec 32 := Scalar.muli v14 c1_i32_545
  let v597 : BitVec 32 := Scalar.addi c0_i32_546 v596
  v597.toNat
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c2048_i32_23 : BitVec 32 := 2048#32
  let v29 : BitVec 32 := Scalar.muli v6 c2048_i32_23
  let c2_i32 : BitVec 32 := 2#32
  let v3 : BitVec 32 := Scalar.shrsi v2 c2_i32
  let c1_i32_0 : BitVec 32 := 1#32
  let v4 : BitVec 32 := Scalar.andi v3 c1_i32_0
  let c1024_i32_28 : BitVec 32 := 1024#32
  let v37 : BitVec 32 := Scalar.muli v4 c1024_i32_28
  let c1_i32_3 : BitVec 32 := 1#32
  let v7 : BitVec 32 := Scalar.andi v2 c1_i32_3
  let v8 : BitVec 32 := Scalar.xori v7 v6
  let c512_i32_29 : BitVec 32 := 512#32
  let v38 : BitVec 32 := Scalar.muli v8 c512_i32_29
  let v39 : BitVec 32 := Scalar.addi v37 v38
  let v598 : BitVec 32 := Scalar.addi v29 v39
  let c2560_i32 : BitVec 32 := 2560#32
  ![v598.toNat, 2560]
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c1024_i32_28 : BitVec 32 := 1024#32
  let v37 : BitVec 32 := Scalar.muli v4 c1024_i32_28
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_29 : BitVec 32 := 512#32
  let v38 : BitVec 32 := Scalar.muli v8 c512_i32_29
  let v39 : BitVec 32 := Scalar.addi v37 v38
  let c0_i32_548 : BitVec 32 := 0#32
  ![v39.toNat, 0]
def k0_dev28 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v14 : BitVec 32 := Scalar.xori v2 c1_i32_7
  let c1_i32_553 : BitVec 32 := 1#32
  let v603 : BitVec 32 := Scalar.muli v14 c1_i32_553
  let v604 : BitVec 32 := Scalar.addi c0_i32_554 v603
  v604.toNat
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_30 : BitVec 32 := 1024#32
  let v40 : BitVec 32 := Scalar.muli v8 c1024_i32_30
  let c512_i32_31 : BitVec 32 := 512#32
  let v41 : BitVec 32 := Scalar.muli v6 c512_i32_31
  let v42 : BitVec 32 := Scalar.addi v40 v41
  let v621 : Index := Scalar.indexCast v42
  let c0_574 : Index := 0#32
  ![v621.toNat, 0]
def k0_dev29 (d0 : Dev nD) : Nat :=
  let c0_i32_581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_10 : BitVec 32 := 3#32
  let v17 : BitVec 32 := Scalar.xori v2 c3_i32_10
  let c1_i32_580 : BitVec 32 := 1#32
  let v631 : BitVec 32 := Scalar.muli v17 c1_i32_580
  let v632 : BitVec 32 := Scalar.addi c0_i32_581 v631
  v632.toNat
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c2048_i32_24 : BitVec 32 := 2048#32
  let v30 : BitVec 32 := Scalar.muli v4 c2048_i32_24
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_30 : BitVec 32 := 1024#32
  let v40 : BitVec 32 := Scalar.muli v8 c1024_i32_30
  let c512_i32_31 : BitVec 32 := 512#32
  let v41 : BitVec 32 := Scalar.muli v6 c512_i32_31
  let v42 : BitVec 32 := Scalar.addi v40 v41
  let v633 : BitVec 32 := Scalar.addi v30 v42
  let c5376_i32 : BitVec 32 := 5376#32
  ![v633.toNat, 5376]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_30 : BitVec 32 := 1024#32
  let v40 : BitVec 32 := Scalar.muli v8 c1024_i32_30
  let c512_i32_31 : BitVec 32 := 512#32
  let v41 : BitVec 32 := Scalar.muli v6 c512_i32_31
  let v42 : BitVec 32 := Scalar.addi v40 v41
  let c0_i32_583 : BitVec 32 := 0#32
  ![v42.toNat, 0]
def k0_dev30 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_10 : BitVec 32 := 3#32
  let v17 : BitVec 32 := Scalar.xori v2 c3_i32_10
  let c1_i32_588 : BitVec 32 := 1#32
  let v638 : BitVec 32 := Scalar.muli v17 c1_i32_588
  let v639 : BitVec 32 := Scalar.addi c0_i32_589 v638
  v639.toNat
def k0_dev31 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_611 : BitVec 32 := 1#32
  let v660 : BitVec 32 := Scalar.muli v9 c1_i32_611
  let v661 : BitVec 32 := Scalar.addi c0_i32_612 v660
  v661.toNat
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c2048_i32 : BitVec 32 := 2048#32
  let v28 : BitVec 32 := Scalar.muli v8 c2048_i32
  let c1024_i32 : BitVec 32 := 1024#32
  let v31 : BitVec 32 := Scalar.muli v6 c1024_i32
  let v662 : BitVec 32 := Scalar.addi v28 v31
  let c0_i32_619 : BitVec 32 := 0#32
  ![v662.toNat, 0]
def k0_dev32 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_617 : BitVec 32 := 1#32
  let v663 : BitVec 32 := Scalar.muli v10 c1_i32_617
  let v664 : BitVec 32 := Scalar.addi c0_i32_618 v663
  v664.toNat
def k0_off46 (d0 : Dev nD) : Fin 2 → Nat :=
  let c1_i32_621 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v671 : BitVec 32 := Scalar.subi c1_i32_621 v8
  let c2048_i32_622 : BitVec 32 := 2048#32
  let v672 : BitVec 32 := Scalar.muli v671 c2048_i32_622
  let c1024_i32_623 : BitVec 32 := 1024#32
  let v673 : BitVec 32 := Scalar.muli v6 c1024_i32_623
  let v674 : BitVec 32 := Scalar.addi v672 v673
  let v675 : Index := Scalar.indexCast v674
  let c0_624 : Index := 0#32
  ![v675.toNat, 0]
def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c1024_i32_628 : BitVec 32 := 1024#32
  let v682 : BitVec 32 := Scalar.muli v6 c1024_i32_628
  let v683 : Index := Scalar.indexCast v682
  let c0_629 : Index := 0#32
  ![v683.toNat, 0]
def k0_dev33 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_638 : BitVec 32 := 1#32
  let v689 : BitVec 32 := Scalar.muli v9 c1_i32_638
  let v690 : BitVec 32 := Scalar.addi c0_i32_639 v689
  v690.toNat
def k0_dev34 (d0 : Dev nD) : Nat :=
  let c0_i32_662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5 : BitVec 32 := 3#32
  let v12 : BitVec 32 := Scalar.xori v2 c3_i32_5
  let c1_i32_661 : BitVec 32 := 1#32
  let v711 : BitVec 32 := Scalar.muli v12 c1_i32_661
  let v712 : BitVec 32 := Scalar.addi c0_i32_662 v711
  v712.toNat
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c2048_i32_23 : BitVec 32 := 2048#32
  let v29 : BitVec 32 := Scalar.muli v6 c2048_i32_23
  let c2_i32 : BitVec 32 := 2#32
  let v3 : BitVec 32 := Scalar.shrsi v2 c2_i32
  let c1_i32_0 : BitVec 32 := 1#32
  let v4 : BitVec 32 := Scalar.andi v3 c1_i32_0
  let c1024_i32_25 : BitVec 32 := 1024#32
  let v32 : BitVec 32 := Scalar.muli v4 c1024_i32_25
  let v713 : BitVec 32 := Scalar.addi v29 v32
  let c2560_i32_669 : BitVec 32 := 2560#32
  ![v713.toNat, 2560]
def k0_dev35 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v13 : BitVec 32 := Scalar.xori v2 c4_i32_6
  let c1_i32_667 : BitVec 32 := 1#32
  let v714 : BitVec 32 := Scalar.muli v13 c1_i32_667
  let v715 : BitVec 32 := Scalar.addi c0_i32_668 v714
  v715.toNat
def k0_off49 (d0 : Dev nD) : Fin 2 → Nat :=
  let c1_i32_671 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v722 : BitVec 32 := Scalar.subi c1_i32_671 v6
  let c2048_i32_672 : BitVec 32 := 2048#32
  let v723 : BitVec 32 := Scalar.muli v722 c2048_i32_672
  let c2_i32 : BitVec 32 := 2#32
  let v3 : BitVec 32 := Scalar.shrsi v2 c2_i32
  let c1_i32_0 : BitVec 32 := 1#32
  let v4 : BitVec 32 := Scalar.andi v3 c1_i32_0
  let c1024_i32_673 : BitVec 32 := 1024#32
  let v724 : BitVec 32 := Scalar.muli v4 c1024_i32_673
  let v725 : BitVec 32 := Scalar.addi v723 v724
  let v726 : Index := Scalar.indexCast v725
  let c0_674 : Index := 0#32
  ![v726.toNat, 0]
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c1024_i32_678 : BitVec 32 := 1024#32
  let v733 : BitVec 32 := Scalar.muli v4 c1024_i32_678
  let v734 : Index := Scalar.indexCast v733
  let c0_679 : Index := 0#32
  ![v734.toNat, 0]
def k0_dev36 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5 : BitVec 32 := 3#32
  let v12 : BitVec 32 := Scalar.xori v2 c3_i32_5
  let c1_i32_688 : BitVec 32 := 1#32
  let v740 : BitVec 32 := Scalar.muli v12 c1_i32_688
  let v741 : BitVec 32 := Scalar.addi c0_i32_689 v740
  v741.toNat
def k0_dev37 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_711 : BitVec 32 := 1#32
  let v762 : BitVec 32 := Scalar.muli v15 c1_i32_711
  let v763 : BitVec 32 := Scalar.addi c0_i32_712 v762
  v763.toNat
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c2048_i32_24 : BitVec 32 := 2048#32
  let v30 : BitVec 32 := Scalar.muli v4 c2048_i32_24
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_26 : BitVec 32 := 1024#32
  let v33 : BitVec 32 := Scalar.muli v8 c1024_i32_26
  let v764 : BitVec 32 := Scalar.addi v30 v33
  let c5376_i32_719 : BitVec 32 := 5376#32
  ![v764.toNat, 5376]
def k0_dev38 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v16 : BitVec 32 := Scalar.xori v2 c1_i32_9
  let c1_i32_717 : BitVec 32 := 1#32
  let v765 : BitVec 32 := Scalar.muli v16 c1_i32_717
  let v766 : BitVec 32 := Scalar.addi c0_i32_718 v765
  v766.toNat
def k0_off52 (d0 : Dev nD) : Fin 2 → Nat :=
  let c1_i32_721 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let v773 : BitVec 32 := Scalar.subi c1_i32_721 v4
  let c2048_i32_722 : BitVec 32 := 2048#32
  let v774 : BitVec 32 := Scalar.muli v773 c2048_i32_722
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_723 : BitVec 32 := 1024#32
  let v775 : BitVec 32 := Scalar.muli v8 c1024_i32_723
  let v776 : BitVec 32 := Scalar.addi v774 v775
  let v777 : Index := Scalar.indexCast v776
  let c0_724 : Index := 0#32
  ![v777.toNat, 0]
def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_728 : BitVec 32 := 1024#32
  let v784 : BitVec 32 := Scalar.muli v8 c1024_i32_728
  let v785 : Index := Scalar.indexCast v784
  let c0_729 : Index := 0#32
  ![v785.toNat, 0]
def k0_dev39 (d0 : Dev nD) : Nat :=
  let c0_i32_739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_738 : BitVec 32 := 1#32
  let v791 : BitVec 32 := Scalar.muli v15 c1_i32_738
  let v792 : BitVec 32 := Scalar.addi c0_i32_739 v791
  v792.toNat
def k0_off54 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c2048_i32 : BitVec 32 := 2048#32
  let v28 : BitVec 32 := Scalar.muli v8 c2048_i32
  let c0_i32_762 : BitVec 32 := 0#32
  ![v28.toNat, 0]
def k0_dev40 (d0 : Dev nD) : Nat :=
  let c0_i32_761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_760 : BitVec 32 := 1#32
  let v809 : BitVec 32 := Scalar.muli v9 c1_i32_760
  let v810 : BitVec 32 := Scalar.addi c0_i32_761 v809
  v810.toNat
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c2048_i32_23 : BitVec 32 := 2048#32
  let v29 : BitVec 32 := Scalar.muli v6 c2048_i32_23
  let c2560_i32_785 : BitVec 32 := 2560#32
  ![v29.toNat, 2560]
def k0_dev41 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5 : BitVec 32 := 3#32
  let v12 : BitVec 32 := Scalar.xori v2 c3_i32_5
  let c1_i32_783 : BitVec 32 := 1#32
  let v827 : BitVec 32 := Scalar.muli v12 c1_i32_783
  let v828 : BitVec 32 := Scalar.addi c0_i32_784 v827
  v828.toNat
def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c2048_i32_24 : BitVec 32 := 2048#32
  let v30 : BitVec 32 := Scalar.muli v4 c2048_i32_24
  let c5376_i32_808 : BitVec 32 := 5376#32
  ![v30.toNat, 5376]
def k0_dev42 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_806 : BitVec 32 := 1#32
  let v845 : BitVec 32 := Scalar.muli v15 c1_i32_806
  let v846 : BitVec 32 := Scalar.addi c0_i32_807 v845
  v846.toNat
def k0_dev43 (d0 : Dev nD) : Nat :=
  let c0_i32_891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_890 : BitVec 32 := 1#32
  let v916 : BitVec 32 := Scalar.muli v10 c1_i32_890
  let v917 : BitVec 32 := Scalar.addi c0_i32_891 v916
  v917.toNat
def k0_dev44 (d0 : Dev nD) : Nat :=
  let c0_i32_955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v13 : BitVec 32 := Scalar.xori v2 c4_i32_6
  let c1_i32_954 : BitVec 32 := 1#32
  let v985 : BitVec 32 := Scalar.muli v13 c1_i32_954
  let v986 : BitVec 32 := Scalar.addi c0_i32_955 v985
  v986.toNat
def k0_dev45 (d0 : Dev nD) : Nat :=
  let c0_i32_1019 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v16 : BitVec 32 := Scalar.xori v2 c1_i32_9
  let c1_i32_1018 : BitVec 32 := 1#32
  let v1054 : BitVec 32 := Scalar.muli v16 c1_i32_1018
  let v1055 : BitVec 32 := Scalar.addi c0_i32_1019 v1054
  v1055.toNat
def k0_dev46 (d0 : Dev nD) : Nat :=
  let c0_i32_1077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1076 : BitVec 32 := 1#32
  let v1111 : BitVec 32 := Scalar.muli v11 c1_i32_1076
  let v1112 : BitVec 32 := Scalar.addi c0_i32_1077 v1111
  v1112.toNat
def k0_dev47 (d0 : Dev nD) : Nat :=
  let c0_i32_1111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v14 : BitVec 32 := Scalar.xori v2 c1_i32_7
  let c1_i32_1110 : BitVec 32 := 1#32
  let v1140 : BitVec 32 := Scalar.muli v14 c1_i32_1110
  let v1141 : BitVec 32 := Scalar.addi c0_i32_1111 v1140
  v1141.toNat
def k0_dev48 (d0 : Dev nD) : Nat :=
  let c0_i32_1145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_10 : BitVec 32 := 3#32
  let v17 : BitVec 32 := Scalar.xori v2 c3_i32_10
  let c1_i32_1144 : BitVec 32 := 1#32
  let v1169 : BitVec 32 := Scalar.muli v17 c1_i32_1144
  let v1170 : BitVec 32 := Scalar.addi c0_i32_1145 v1169
  v1170.toNat
def k0_off57 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c2048_i32 : BitVec 32 := 2048#32
  let v28 : BitVec 32 := Scalar.muli v8 c2048_i32
  let c1024_i32_27 : BitVec 32 := 1024#32
  let v34 : BitVec 32 := Scalar.muli v6 c1024_i32_27
  let c2_i32 : BitVec 32 := 2#32
  let v3 : BitVec 32 := Scalar.shrsi v2 c2_i32
  let c1_i32_0 : BitVec 32 := 1#32
  let v4 : BitVec 32 := Scalar.andi v3 c1_i32_0
  let c512_i32 : BitVec 32 := 512#32
  let v35 : BitVec 32 := Scalar.muli v4 c512_i32
  let v36 : BitVec 32 := Scalar.addi v34 v35
  let v1197 : BitVec 32 := Scalar.addi v28 v36
  let c1280_i32 : BitVec 32 := 1280#32
  ![v1197.toNat, 1280]
def k0_dev49 (d0 : Dev nD) : Nat :=
  let c0_i32_1178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_1177 : BitVec 32 := 1#32
  let v1202 : BitVec 32 := Scalar.muli v11 c1_i32_1177
  let v1203 : BitVec 32 := Scalar.addi c0_i32_1178 v1202
  v1203.toNat
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c2048_i32_23 : BitVec 32 := 2048#32
  let v29 : BitVec 32 := Scalar.muli v6 c2048_i32_23
  let c2_i32 : BitVec 32 := 2#32
  let v3 : BitVec 32 := Scalar.shrsi v2 c2_i32
  let c1_i32_0 : BitVec 32 := 1#32
  let v4 : BitVec 32 := Scalar.andi v3 c1_i32_0
  let c1024_i32_28 : BitVec 32 := 1024#32
  let v37 : BitVec 32 := Scalar.muli v4 c1024_i32_28
  let c1_i32_3 : BitVec 32 := 1#32
  let v7 : BitVec 32 := Scalar.andi v2 c1_i32_3
  let v8 : BitVec 32 := Scalar.xori v7 v6
  let c512_i32_29 : BitVec 32 := 512#32
  let v38 : BitVec 32 := Scalar.muli v8 c512_i32_29
  let v39 : BitVec 32 := Scalar.addi v37 v38
  let v1230 : BitVec 32 := Scalar.addi v29 v39
  let c3968_i32 : BitVec 32 := 3968#32
  ![v1230.toNat, 3968]
def k0_dev50 (d0 : Dev nD) : Nat :=
  let c0_i32_1210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v14 : BitVec 32 := Scalar.xori v2 c1_i32_7
  let c1_i32_1209 : BitVec 32 := 1#32
  let v1235 : BitVec 32 := Scalar.muli v14 c1_i32_1209
  let v1236 : BitVec 32 := Scalar.addi c0_i32_1210 v1235
  v1236.toNat
def k0_off59 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c2048_i32_24 : BitVec 32 := 2048#32
  let v30 : BitVec 32 := Scalar.muli v4 c2048_i32_24
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_30 : BitVec 32 := 1024#32
  let v40 : BitVec 32 := Scalar.muli v8 c1024_i32_30
  let c512_i32_31 : BitVec 32 := 512#32
  let v41 : BitVec 32 := Scalar.muli v6 c512_i32_31
  let v42 : BitVec 32 := Scalar.addi v40 v41
  let v1263 : BitVec 32 := Scalar.addi v30 v42
  let c6784_i32 : BitVec 32 := 6784#32
  ![v1263.toNat, 6784]
def k0_dev51 (d0 : Dev nD) : Nat :=
  let c0_i32_1242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_10 : BitVec 32 := 3#32
  let v17 : BitVec 32 := Scalar.xori v2 c3_i32_10
  let c1_i32_1241 : BitVec 32 := 1#32
  let v1268 : BitVec 32 := Scalar.muli v17 c1_i32_1241
  let v1269 : BitVec 32 := Scalar.addi c0_i32_1242 v1268
  v1269.toNat
def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c2048_i32 : BitVec 32 := 2048#32
  let v28 : BitVec 32 := Scalar.muli v8 c2048_i32
  let c1024_i32 : BitVec 32 := 1024#32
  let v31 : BitVec 32 := Scalar.muli v6 c1024_i32
  let v1290 : BitVec 32 := Scalar.addi v28 v31
  let c1280_i32_1269 : BitVec 32 := 1280#32
  ![v1290.toNat, 1280]
def k0_dev52 (d0 : Dev nD) : Nat :=
  let c0_i32_1268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_1267 : BitVec 32 := 1#32
  let v1291 : BitVec 32 := Scalar.muli v10 c1_i32_1267
  let v1292 : BitVec 32 := Scalar.addi c0_i32_1268 v1291
  v1292.toNat
def k0_off61 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c2048_i32_23 : BitVec 32 := 2048#32
  let v29 : BitVec 32 := Scalar.muli v6 c2048_i32_23
  let c2_i32 : BitVec 32 := 2#32
  let v3 : BitVec 32 := Scalar.shrsi v2 c2_i32
  let c1_i32_0 : BitVec 32 := 1#32
  let v4 : BitVec 32 := Scalar.andi v3 c1_i32_0
  let c1024_i32_25 : BitVec 32 := 1024#32
  let v32 : BitVec 32 := Scalar.muli v4 c1024_i32_25
  let v1313 : BitVec 32 := Scalar.addi v29 v32
  let c3968_i32_1295 : BitVec 32 := 3968#32
  ![v1313.toNat, 3968]
def k0_dev53 (d0 : Dev nD) : Nat :=
  let c0_i32_1294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v13 : BitVec 32 := Scalar.xori v2 c4_i32_6
  let c1_i32_1293 : BitVec 32 := 1#32
  let v1314 : BitVec 32 := Scalar.muli v13 c1_i32_1293
  let v1315 : BitVec 32 := Scalar.addi c0_i32_1294 v1314
  v1315.toNat
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c2048_i32_24 : BitVec 32 := 2048#32
  let v30 : BitVec 32 := Scalar.muli v4 c2048_i32_24
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c1024_i32_26 : BitVec 32 := 1024#32
  let v33 : BitVec 32 := Scalar.muli v8 c1024_i32_26
  let v1336 : BitVec 32 := Scalar.addi v30 v33
  let c6784_i32_1321 : BitVec 32 := 6784#32
  ![v1336.toNat, 6784]
def k0_dev54 (d0 : Dev nD) : Nat :=
  let c0_i32_1320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v16 : BitVec 32 := Scalar.xori v2 c1_i32_9
  let c1_i32_1319 : BitVec 32 := 1#32
  let v1337 : BitVec 32 := Scalar.muli v16 c1_i32_1319
  let v1338 : BitVec 32 := Scalar.addi c0_i32_1320 v1337
  v1338.toNat
def k0_off63 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c2048_i32 : BitVec 32 := 2048#32
  let v28 : BitVec 32 := Scalar.muli v8 c2048_i32
  let c1280_i32_1344 : BitVec 32 := 1280#32
  ![v28.toNat, 1280]
def k0_dev55 (d0 : Dev nD) : Nat :=
  let c0_i32_1343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_1342 : BitVec 32 := 1#32
  let v1355 : BitVec 32 := Scalar.muli v9 c1_i32_1342
  let v1356 : BitVec 32 := Scalar.addi c0_i32_1343 v1355
  v1356.toNat
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c2048_i32_23 : BitVec 32 := 2048#32
  let v29 : BitVec 32 := Scalar.muli v6 c2048_i32_23
  let c3968_i32_1367 : BitVec 32 := 3968#32
  ![v29.toNat, 3968]
def k0_dev56 (d0 : Dev nD) : Nat :=
  let c0_i32_1366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5 : BitVec 32 := 3#32
  let v12 : BitVec 32 := Scalar.xori v2 c3_i32_5
  let c1_i32_1365 : BitVec 32 := 1#32
  let v1373 : BitVec 32 := Scalar.muli v12 c1_i32_1365
  let v1374 : BitVec 32 := Scalar.addi c0_i32_1366 v1373
  v1374.toNat
def k0_off65 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c2048_i32_24 : BitVec 32 := 2048#32
  let v30 : BitVec 32 := Scalar.muli v4 c2048_i32_24
  let c6784_i32_1390 : BitVec 32 := 6784#32
  ![v30.toNat, 6784]
def k0_dev57 (d0 : Dev nD) : Nat :=
  let c0_i32_1389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_1388 : BitVec 32 := 1#32
  let v1391 : BitVec 32 := Scalar.muli v15 c1_i32_1388
  let v1392 : BitVec 32 := Scalar.addi c0_i32_1389 v1391
  v1392.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Proto.lean ====
/-
The protocol of the kernel, written down: the mesh's neighbours, the cells, the buffers and the boxes of rows and
columns that move, the program of protocol events in order, and what every event needs and leaves.

A device's columns are cut in three groups `g`, each in two passes `p`. For a group a device has three partners, one
for each of its masks; transfer `k` (0 to 6) of a group goes to the partner of the mask `kk k`. Transfers 0 and 6 send
the two parts of the half of the rows that the partner sums, 1 and 2 halve twice more, 3, 4 and 5 give the summed rows
back in the opposite order.
-/
module

public import proofs.«01_k».proof.Proof.Gen.KernelIdeal
public import proofs.«01_k».proof.Proof.Gen.KernelIdeal.Skeleton

@[expose] public section

noncomputable section

namespace Cert.Hyper

open Cert.KernelIdeal
open Idealize.ShloMosaic

/-! ## Neighbours and bits -/

/-- The neighbour of a device under mask number `i` (masks 1, 3, 4). -/
@[irreducible] def nbr (i : Fin 3) (c : Dev nD) : Dev nD :=
  (![![1, 0, 3, 2, 5, 4, 7, 6], ![3, 2, 1, 0, 7, 6, 5, 4], ![4, 5, 6, 7, 0, 1, 2, 3]] i : Fin 8 → Fin 8) c

theorem nbr_nbr : ∀ (i : Fin 3) (c : Dev nD), nbr i (nbr i c) = c := by unfold nbr; decide +kernel

/-- The bit of a device that the neighbour under mask number `i` has flipped. -/
@[irreducible] def bt (i : Fin 3) (c : Dev nD) : ℕ :=
  (![![0, 1, 1, 0, 0, 1, 1, 0], ![0, 0, 1, 1, 0, 0, 1, 1], ![0, 0, 0, 0, 1, 1, 1, 1]] i : Fin 8 → ℕ) c

theorem bt_le : ∀ (i : Fin 3) (c : Dev nD), bt i c ≤ 1 := by unfold bt; decide +kernel
theorem bt_nbr : ∀ (i j : Fin 3) (c : Dev nD), bt i (nbr j c) = if i = j then 1 - bt i c else bt i c := by unfold bt nbr; decide +kernel

/-- The mask's place among the group's three, for transfer `k`. -/
def kk (k : Fin 7) : Fin 3 := ![0, 1, 2, 2, 1, 0, 0] k
/-- The mask number of transfer `k` of group `g`. -/
def via (g : Fin 3) (k : Fin 7) : Fin 3 := kk k + g
/-- The partner of transfer `k` of group `g`. -/
def peer (g : Fin 3) (k : Fin 7) (c : Dev nD) : Dev nD := nbr (via g k) c
theorem peer_peer (g : Fin 3) (k : Fin 7) (c : Dev nD) : peer g k (peer g k c) = c := nbr_nbr _ _

/-- The three bits of a device in a group's order. -/
def b0 (g : Fin 3) (c : Dev nD) : ℕ := bt (0 + g) c
@[inherit_doc b0] def b1 (g : Fin 3) (c : Dev nD) : ℕ := bt (1 + g) c
@[inherit_doc b0] def b2 (g : Fin 3) (c : Dev nD) : ℕ := bt (2 + g) c

/-! ## Cells -/

/-- A device's semaphore cells: send, receive, local copy, handshake, barrier. -/
inductive CK
  | snd (g : Fin 3) (k : Fin 7)
  | rcv (g : Fin 3) (k : Fin 7)
  | outc (g : Fin 3)
  | hsc (h : Fin 4) (g : Fin 3)
  | bar
  deriving DecidableEq

/-- The semaphore of a cell. -/
def CK.sem : CK → SemLoc sig
  | .snd g k => .dma (⟨2 + 7 * g + k, by have := g.isLt; have := k.isLt; show _ < 47; omega⟩ : Fin 47)
  | .rcv g k => .dma (⟨23 + 7 * g + k, by have := g.isLt; have := k.isLt; show _ < 47; omega⟩ : Fin 47)
  | .outc g => .dma (⟨44 + g, by have := g.isLt; show _ < 47; omega⟩ : Fin 47)
  | .hsc h g => .reg (⟨3 * h + g, by have := g.isLt; have := h.isLt; show _ < 13; omega⟩ : Fin 13)
  | .bar => .reg (12 : Fin 13)

/-- The cell of a semaphore. -/
def ckOf : SemLoc sig → Option CK
  | .dma n => (fun n : ℕ =>
      if n < 2 then none
      else if n < 23 then some (.snd (Fin.ofNat 3 ((n - 2) / 7)) (Fin.ofNat 7 ((n - 2) % 7)))
      else if n < 44 then some (.rcv (Fin.ofNat 3 ((n - 23) / 7)) (Fin.ofNat 7 ((n - 23) % 7)))
      else some (.outc (Fin.ofNat 3 (n - 44)))) n.val
  | .reg n => (fun n : ℕ => if n < 12 then some (.hsc (Fin.ofNat 4 (n / 3)) (Fin.ofNat 3 (n % 3))) else some .bar) n.val

theorem ckOf_sem (x : CK) : ckOf x.sem = some x := by
  cases x with
  | snd g k => revert g k; decide +kernel
  | rcv g k => revert g k; decide +kernel
  | outc g => revert g; decide +kernel
  | hsc h g => revert h g; decide +kernel
  | bar => decide +kernel

def gs : List (Fin 3) := [0, 1, 2]
def ks : List (Fin 7) := [0, 1, 2, 3, 4, 5, 6]
def ps : List (Fin 2) := [0, 1]

/-- All cells of a device. -/
def cells : List CK :=
  (gs.flatMap fun g => ks.map fun k => .snd g k) ++ (gs.flatMap fun g => ks.map fun k => .rcv g k) ++ gs.map .outc
    ++ ([0, 1, 2, 3] : List (Fin 4)).flatMap (fun h => gs.map fun g => .hsc h g) ++ [.bar]

theorem cells_nodup : cells.Nodup := by decide +kernel
theorem mem_cells (x : CK) : x ∈ cells := by
  cases x with
  | snd g k => revert g k; decide +kernel
  | rcv g k => revert g k; decide +kernel
  | outc g => revert g; decide +kernel
  | hsc h g => revert h g; decide +kernel
  | bar => decide +kernel

/-! ## Events -/

/-- The kernel's effects on the protocol and its stores, in symbols. -/
inductive Ev
  | bsig (i : Fin 3)
  | bwait
  | init (g : Fin 3)
  | prod (g : Fin 3) (h : Bool)
  | send (g : Fin 3) (k : Fin 7) (p : Fin 2)
  | wsend (g : Fin 3) (k : Fin 7) (p : Fin 2)
  | wrecv (g : Fin 3) (k : Fin 7) (p : Fin 2)
  | acc (g : Fin 3) (p : Fin 2) (h : Bool)
  | add1 (g : Fin 3) (p : Fin 2)
  | fin (g : Fin 3) (p : Fin 2)
  | hsig (h : Fin 4) (g : Fin 3)
  | hwait (h : Fin 4) (g : Fin 3)
  | copy (g : Fin 3) (p : Fin 2)
  | wcopy (g : Fin 3) (p : Fin 2)
  deriving DecidableEq

/-- The transfer whose target a handshake gives back. -/
def slotH (h : Fin 4) : Fin 7 := ![6, 1, 2, 0] h

/-- The stages of one group in one pass. -/
def st0 (p : Fin 2) (fst : Bool) (g : Fin 3) : List Ev :=
  [.wsend g 0 p, .wrecv g 0 p, .acc g p false] ++ (bif fst then [] else [.hwait 1 g])
    ++ [.send g 1 p, .wsend g 6 p, .wrecv g 6 p, .acc g p true]
@[inherit_doc st0] def st1 (p : Fin 2) (fst : Bool) (g : Fin 3) : List Ev :=
  [.wsend g 1 p, .wrecv g 1 p] ++ (bif fst then [.hsig 3 g, .add1 g p, .hsig 1 g] else [.add1 g p, .hwait 2 g])
    ++ [.send g 2 p] ++ (bif fst then [.prod g false, .hwait 3 g, .send g 0 1] else [])
@[inherit_doc st0] def st2 (p : Fin 2) (fst : Bool) (g : Fin 3) : List Ev :=
  [.wsend g 2 p, .wrecv g 2 p, .fin g p] ++ (bif fst then [.hsig 2 g] else []) ++ [.copy g p, .send g 3 p]
@[inherit_doc st0] def st3 (p : Fin 2) (fst : Bool) (g : Fin 3) : List Ev :=
  [.wsend g 3 p, .wrecv g 3 p, .wcopy g p] ++ (bif fst then [.hsig 0 g] else []) ++ [.send g 4 p]
    ++ (bif fst then [.prod g true, .hwait 0 g, .send g 6 1] else [])
@[inherit_doc st0] def st4 (p : Fin 2) (g : Fin 3) : List Ev := [.wsend g 4 p, .wrecv g 4 p, .send g 5 p]
@[inherit_doc st0] def st5 (p : Fin 2) (g : Fin 3) : List Ev := [.wsend g 5 p, .wrecv g 5 p]

def pass (p : Fin 2) (fst : Bool) : List Ev :=
  gs.flatMap (st0 p fst) ++ gs.flatMap (st1 p fst) ++ gs.flatMap (st2 p fst) ++ gs.flatMap (st3 p fst) ++ gs.flatMap (st4 p) ++ gs.flatMap (st5 p)

/-- The program. -/
def prog : List Ev :=
  [.bsig 0, .bsig 1, .bsig 2, .bwait] ++ gs.flatMap (fun g => [.init g, .send g 0 0, .send g 6 0]) ++ pass 0 true ++ pass 1 false

/-- The event number `n`. -/
def ev (n : ℕ) : Ev := prog.getD n .bwait

/-- The waits: the cell waited on and its round. -/
def Ev.waits : Ev → Option (CK × ℕ)
  | .bwait => some (.bar, 0)
  | .wsend g k p => some (.snd g k, p.val)
  | .wrecv g k p => some (.rcv g k, p.val)
  | .hwait h g => some (.hsc h g, 0)
  | .wcopy g p => some (.outc g, p.val)
  | _ => none

/-- A payment to another device's cell: through which neighbour, the cell, the round, the duty, the wait it is for. -/
structure Due where
  i : Fin 3
  x : CK
  r : ℕ
  d : Fin 3
  w : Ev

def Ev.pays : Ev → Option Due
  | .bsig i => some ⟨i, .bar, 0, i, .bwait⟩
  | .send g k p => some ⟨via g k, .rcv g k, p.val, 0, .wrecv g k p⟩
  | .hsig h g => some ⟨via g (slotH h), .hsc h g, 0, 0, .hwait h g⟩
  | _ => none

/-- The index (and level) of a wait on what other devices pay: one more than its place in the program. -/
def lvl (e : Ev) : ℕ := prog.idxOf e + 1

theorem prog_length : prog.length = 199 := by decide +kernel
theorem prog_nodup : prog.Nodup := by decide +kernel
/-- Whatever is paid at place `n` is waited for later. -/
theorem pays_later : ∀ n < 199, ∀ q ∈ (ev n).pays, n + 1 < lvl q.w ∧ lvl q.w < 200 := by decide +kernel

/-- How many waits on a cell the first `n` events made. -/
def cnt (n : ℕ) (x : CK) : ℕ := (prog.take n).countP fun e => e.waits.map Prod.fst = some x

end Cert.Hyper

end
-- ==== Proof.Items.lean ====
/-
The buffers' pieces and what a device holds between two events: which pieces, with what in them, and which transfers
are in flight. A piece is a box of rows and columns of one buffer; what an event takes and what it leaves is a list of
items, and the whole program is checked to take only what is there.
-/
module

public import proofs.«01_k».proof.Proof.Proto

@[expose] public section

noncomputable section

namespace Cert.Hyper

open Cert.KernelIdeal
open Idealize.ShloMosaic

/-- The buffers: a group's accumulator, its send buffer, the result. -/
inductive Bf
  | acc (g : Fin 3)
  | snd (g : Fin 3)
  | out
  deriving DecidableEq

/-- The columns of a group in one pass. -/
def wid (g : Fin 3) : ℕ := ![1280, 1408, 1408] g
/-- The first column of a group's pass. -/
def col0 (p : Fin 2) (g : Fin 3) : ℕ := ![0, 2560, 5376] g + p.val * wid g

def rows : Bf → ℕ
  | .acc _ => 2048
  | .snd _ => 3584
  | .out => 4096
def cols : Bf → ℕ
  | .acc g => wid g
  | .snd g => wid g
  | .out => 8192

/-- The pieces. -/
inductive Pc
  | A (g : Fin 3)
  | B1 (g : Fin 3)
  | B2 (g : Fin 3) (h : Bool)
  | SA (g : Fin 3)
  | SB (g : Fin 3)
  | R1 (g : Fin 3)
  | R2 (g : Fin 3)
  | OQ (g : Fin 3) (p : Fin 2)
  | OR (g : Fin 3) (p : Fin 2)
  | OH (g : Fin 3) (p : Fin 2)
  | OF (g : Fin 3) (p : Fin 2)
  deriving DecidableEq

def Pc.buf : Pc → Bf
  | .A g | .B1 g | .B2 g _ => .acc g
  | .SA g | .SB g | .R1 g | .R2 g => .snd g
  | .OQ _ _ | .OR _ _ | .OH _ _ | .OF _ _ => .out

/-- A box: first row, rows, first column, columns. -/
structure Bx where
  r : ℕ
  n : ℕ
  c : ℕ
  m : ℕ

def Pc.box (c : Dev nD) : Pc → Bx
  | .A g => ⟨(1 - b1 g c) * 1024, 1024, 0, wid g⟩
  | .B1 g => ⟨b1 g c * 1024 + (1 - b2 g c) * 512, 512, 0, wid g⟩
  | .B2 g _ => ⟨b1 g c * 1024 + b2 g c * 512, 512, 0, wid g⟩
  | .SA g => ⟨(1 - b1 g c) * 1024, 1024, 0, wid g⟩
  | .SB g => ⟨b1 g c * 1024, 1024, 0, wid g⟩
  | .R1 g => ⟨2048, 1024, 0, wid g⟩
  | .R2 g => ⟨3072, 512, 0, wid g⟩
  | .OQ g p => ⟨b0 g c * 2048 + b1 g c * 1024 + b2 g c * 512, 512, col0 p g, wid g⟩
  | .OR g p => ⟨b0 g c * 2048 + b1 g c * 1024 + (1 - b2 g c) * 512, 512, col0 p g, wid g⟩
  | .OH g p => ⟨b0 g c * 2048 + (1 - b1 g c) * 1024, 1024, col0 p g, wid g⟩
  | .OF g p => ⟨(1 - b0 g c) * 2048, 2048, col0 p g, wid g⟩

/-- What is in a piece: anything, or the partial sum of a stage, the device's own or its partner's, of a pass. -/
inductive Tg
  | any
  | t (st : Fin 4) (own : Bool) (p : Fin 2)
  deriving DecidableEq

/-- What a device holds. -/
inductive It
  | pc (x : Pc) (t : Tg)
  | lent (g : Fin 3) (k : Fin 7) (p : Fin 2)
  | fly (g : Fin 3) (k : Fin 7) (p : Fin 2)
  | flyc (g : Fin 3) (p : Fin 2)
  | rch (i : Fin 3)
  deriving DecidableEq

/-- The pieces transfer `k` of a group reads, and what is in them; -/
def srcP (g : Fin 3) (p : Fin 2) (k : Fin 7) : List Pc :=
  (![[.SA g], [.A g], [.B1 g], [.B2 g true], [.OQ g p, .OR g p], [.OQ g p, .OR g p, .OH g p], [.SB g]] : Fin 7 → List Pc) k
def srcT (p : Fin 2) (k : Fin 7) : Tg :=
  (![.t 0 true p, .t 1 true p, .t 2 true p, .t 3 true p, .t 3 true p, .t 3 true p, .t 0 true p] : Fin 7 → Tg) k
/-- the pieces it writes at the partner, and what it leaves in them. -/
def dstP (g : Fin 3) (p : Fin 2) (k : Fin 7) : List Pc :=
  (![[.A g], [.R1 g], [.R2 g], [.OR g p], [.OH g p], [.OF g p], [.B1 g, .B2 g false, .B2 g true]] : Fin 7 → List Pc) k
def dstT (p : Fin 2) (k : Fin 7) : Tg :=
  (![.t 0 false p, .t 1 false p, .t 2 false p, .t 3 true p, .t 3 true p, .t 3 true p, .t 0 false p] : Fin 7 → Tg) k

/-- Whether a transfer's target is the same piece in both passes. -/
def reused (k : Fin 7) : Bool := (![true, true, true, false, false, false, true] : Fin 7 → Bool) k

def pcs (l : List Pc) (t : Tg) : List It := l.map fun x => .pc x t

/-- The transfers whose targets the entry barrier lends through the neighbour `i`. -/
def lents (i : Fin 3) : List (Fin 3 × Fin 7 × Fin 2) :=
  (gs.flatMap fun g => ks.flatMap fun k => ps.map fun p => (g, k, p)).filter
    fun y => via y.1 y.2.1 = i ∧ (reused y.2.1 = false ∨ y.2.2 = 0)

/-- What a handshake gives back: the target's last contents. -/
def backs (h : Fin 4) (g : Fin 3) : List It :=
  (![[.pc (.B1 g) (.t 2 true 0), .pc (.B2 g false) (.t 3 true 0), .pc (.B2 g true) (.t 3 true 0)], [.pc (.R1 g) (.t 1 false 0)],
     [.pc (.R2 g) (.t 2 false 0)], [.pc (.A g) (.t 1 true 0)]] : Fin 4 → List It) h

/-- Whether a transfer needs to know its partner's receive cell is in the second round. -/
def needsRch (k : Fin 7) (p : Fin 2) : Bool := !reused k && p == 1
/-- Whether a transfer carries that knowledge. -/
def hasRch (k : Fin 7) (p : Fin 2) : Bool := k == 2 && p == 1

def acPcs (g : Fin 3) (h : Bool) : List Pc := bif h then [.B1 g, .B2 g false, .B2 g true] else [.A g]

/-- What an event takes. -/
def pre : Ev → List It
  | .bsig i => (lents i).flatMap fun y => pcs (dstP y.1 y.2.2 y.2.1) .any
  | .bwait => []
  | .init g => [.pc (.SA g) .any, .pc (.SB g) .any]
  | .prod g h => [.pc (bif h then .SB g else .SA g) (.t 0 true 0)]
  | .send g k p => pcs (srcP g p k) (srcT p k) ++ ([.lent g k p] ++ bif needsRch k p then [.rch (via g k)] else [])
  | .wsend g k p => [.fly g k p]
  | .wrecv _ _ _ => []
  | .acc g p h => pcs (acPcs g h) (.t 0 false p)
  | .add1 g p => pcs (acPcs g true) (.t 1 true p) ++ [.pc (.R1 g) (.t 1 false p)]
  | .fin g p => [.pc (.B2 g false) (.t 2 true p), .pc (.B2 g true) (.t 2 true p), .pc (.R2 g) (.t 2 false p)]
  | .hsig h g => backs h g
  | .hwait _ _ => []
  | .copy g p => [.pc (.B2 g false) (.t 3 true p), .pc (.OQ g p) .any]
  | .wcopy g p => [.flyc g p]

/-- What an event leaves. -/
def post : Ev → List It
  | .bsig _ => []
  | .bwait => [0, 1, 2].flatMap fun i => (lents i).map fun y => .lent y.1 y.2.1 y.2.2
  | .init g => [.pc (.SA g) (.t 0 true 0), .pc (.SB g) (.t 0 true 0)]
  | .prod g h => [.pc (bif h then .SB g else .SA g) (.t 0 true 1)]
  | .send g k p => [.fly g k p] ++ bif needsRch k p then [.rch (via g k)] else []
  | .wsend g k p => pcs (srcP g p k) (srcT p k)
  | .wrecv g k p => pcs (dstP g p k) (dstT p k) ++ bif hasRch k p then [.rch (via g k)] else []
  | .acc g p h => pcs (acPcs g h) (.t 1 true p)
  | .add1 g p => pcs (acPcs g true) (.t 2 true p) ++ [.pc (.R1 g) (.t 1 false p)]
  | .fin g p => [.pc (.B2 g false) (.t 3 true p), .pc (.B2 g true) (.t 3 true p), .pc (.R2 g) (.t 2 false p)]
  | .hsig _ _ => []
  | .hwait h g => [.lent g (slotH h) 1]
  | .copy g p => [.flyc g p]
  | .wcopy g p => [.pc (.B2 g false) (.t 3 true p), .pc (.OQ g p) (.t 3 true p)]

/-- Take a list of items out of another. -/
def takes {α : Type} [DecidableEq α] : List α → List α → Option (List α)
  | l, [] => some l
  | l, a :: q => if a ∈ l then takes (l.erase a) q else none

theorem takes_perm {α : Type} [DecidableEq α] : ∀ {l p r : List α}, takes l p = some r → l.Perm (p ++ r)
  | l, [], r, h => by cases h; exact .refl _
  | l, a :: q, r, h => by
    rw [takes] at h
    split at h
    next ha => exact (List.perm_cons_erase ha).trans ((takes_perm h).cons a)
    next => cases h

/-- One event. -/
def stp (l : List It) (e : Ev) : Option (List It) := (takes l (pre e)).map (· ++ post e)
def runs : List Ev → List It → Option (List It)
  | [], l => some l
  | e :: es, l => (stp l e).bind (runs es)

theorem runs_append : ∀ (a b : List Ev) (l : List It), runs (a ++ b) l = (runs a l).bind (runs b)
  | [], _, _ => rfl
  | e :: a, b, l => by
    rw [List.cons_append, runs, runs]
    cases stp l e with
    | none => rfl
    | some l' => exact runs_append a b l'

/-- All pieces. -/
def allPc : List Pc :=
  (gs.flatMap fun g => [.A g, .B1 g, .B2 g false, .B2 g true]) ++ (gs.flatMap fun g => [.SA g, .SB g, .R1 g, .R2 g])
    ++ (gs.flatMap fun g => ps.flatMap fun p => [.OQ g p, .OR g p, .OH g p, .OF g p])

/-- The items after the first `n` events. -/
def its (n : ℕ) : List It := (runs (prog.take n) (pcs allPc .any)).getD []

/-- What is left at the end. -/
def finals : List It :=
  (gs.flatMap fun g => [.pc (.A g) (.t 1 true 1), .pc (.B1 g) (.t 2 true 1), .pc (.B2 g false) (.t 3 true 1), .pc (.B2 g true) (.t 3 true 1)])
    ++ (gs.flatMap fun g => [.pc (.SA g) (.t 0 true 1), .pc (.SB g) (.t 0 true 1), .pc (.R1 g) (.t 1 false 1), .pc (.R2 g) (.t 2 false 1)])
    ++ (gs.flatMap fun g => ps.flatMap fun p => [.pc (.OQ g p) (.t 3 true p), .pc (.OR g p) (.t 3 true p), .pc (.OH g p) (.t 3 true p), .pc (.OF g p) (.t 3 true p)])
    ++ [.rch 0, .rch 1, .rch 2]

set_option maxRecDepth 20000 in
/-- The whole program takes only what is there and ends with the result. -/
theorem runs_prog : ∃ l, runs prog (pcs allPc .any) = some l ∧ l.isPerm finals = true := by
  have h : ((runs prog (pcs allPc .any)).elim false fun l => l.isPerm finals) = true := by decide +kernel
  revert h
  cases runs prog (pcs allPc .any) with
  | none => exact fun h => by cases h
  | some l => exact fun h => ⟨l, rfl, h⟩

theorem its_zero : its 0 = pcs allPc .any := rfl

theorem its_some (n : ℕ) : runs (prog.take n) (pcs allPc .any) = some (its n) := by
  obtain ⟨l, hl, -⟩ := runs_prog
  rw [← List.take_append_drop n prog, runs_append] at hl
  unfold its
  cases h : runs (prog.take n) (pcs allPc .any) with
  | none => rw [h] at hl; cases hl
  | some l' => rfl

theorem its_fin : (its 199).Perm finals := by
  obtain ⟨l, hl, hp⟩ := runs_prog
  have h := its_some 199
  rw [show prog.take 199 = prog by rw [← prog_length, List.take_length], hl] at h
  cases h
  exact List.isPerm_iff.mp hp

theorem take_succ {n : ℕ} (hn : n < 199) : prog.take (n + 1) = prog.take n ++ [ev n] := by
  rw [List.take_succ, ev, List.getD_eq_getElem?_getD, List.getElem?_eq_getElem (by rw [prog_length]; exact hn)]
  rfl

theorem drop_cons {n : ℕ} (hn : n < 199) : prog.drop n = ev n :: prog.drop (n + 1) := by
  rw [ev, List.getD_eq_getElem?_getD, List.getElem?_eq_getElem (by rw [prog_length]; exact hn)]
  exact List.drop_eq_getElem_cons _

/-- One event's items: what it takes is there, and the next items are the rest with what it leaves. -/
theorem its_step {n : ℕ} (hn : n < 199) : ∃ r, (its n).Perm (pre (ev n) ++ r) ∧ its (n + 1) = r ++ post (ev n) := by
  have h := its_some (n + 1)
  rw [take_succ hn, runs_append, its_some n] at h
  simp only [Option.bind_some, runs, stp] at h
  cases ht : takes (its n) (pre (ev n)) with
  | none => rw [ht] at h; cases h
  | some r => rw [ht] at h; exact ⟨r, takes_perm ht, (Option.some.inj h).symm⟩

end Cert.Hyper

end
-- ==== Proof.Own.lean ====
/-
What a device owns of a buffer: a box of rows and columns at a share, with a property of every element in it.
-/
module

public import proofs.«01_k».proof.Proof.Items
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.Pipeline.SiteBlocks
public import Idealize.ShloMosaic.Lib.Pipeline.BigSepL
public import Idealize.ShloMosaic.Lib.Tactic

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: which duties are paid, over the cells. -/
abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The buffers -/

abbrev shp (b : Bf) : Shape := ⟨2, ![rows b, cols b]⟩
abbrev sp : Bf → Space
  | .acc _ => .vmem
  | .snd _ => .vmem
  | .out => .hbm

/-- A buffer whole. -/
@[reducible] def bm : (b : Bf) → Memref sig .tc (sp b) (shp b) .bf16
  | .acc 0 => Memref.whole cc0_scratch3
  | .acc 1 => Memref.whole cc0_scratch4
  | .acc 2 => Memref.whole cc0_scratch5
  | .snd 0 => Memref.whole cc0_scratch0
  | .snd 1 => Memref.whole cc0_scratch1
  | .snd 2 => Memref.whole cc0_scratch2
  | .out => Memref.whole main_v1

/-- The indices of a box. -/
def boxS (b : Bf) (B : Bx) : Finset (shp b).Idx :=
  Finset.univ.filter fun i => B.r ≤ (i 0).val ∧ (i 0).val < B.r + B.n ∧ B.c ≤ (i 1).val ∧ (i 1).val < B.c + B.m

theorem mem_boxS {b : Bf} {B : Bx} {i : (shp b).Idx} :
    i ∈ boxS b B ↔ B.r ≤ (i 0).val ∧ (i 0).val < B.r + B.n ∧ B.c ≤ (i 1).val ∧ (i 1).val < B.c + B.m := by
  unfold boxS; rw [Finset.mem_filter]; exact and_iff_right (Finset.mem_univ i)

/-- A box in a buffer at a share, a property of its elements by row and column. -/
def ownB (c : Dev nD) (b : Bf) (B : Bx) (q : PosShare TreeShare) (P : ℕ → ℕ → Elt F .bf16 → Prop) : sProp 𝕄 :=
  iprop(∃ f : Buf (Elt F) ((bm b).view.loc (c : Thread nD τ)),
    ⌜∀ i ∈ boxS b B, P (i 0).val (i 1).val ((bm b).view.read (Elt F) f i)⌝
      ∗ ((bm b).view.loc (c : Thread nD τ) ↦[(bm b).view.setOn (boxS b B)]{q} f))

instance ownB_storable (c : Dev nD) (b : Bf) (B : Bx) (q) (P) : BI.Storable (upEmb : UEmb _ 𝕄) (ownB (F := F) c b B q P) := by
  unfold ownB; infer_instance

theorem ownB_mono {c : Dev nD} {b : Bf} {B : Bx} {q} {P P' : ℕ → ℕ → Elt F .bf16 → Prop}
    (h : ∀ i ∈ boxS b B, ∀ v, P (i 0).val (i 1).val v → P' (i 0).val (i 1).val v) : (ownB c b B q P : sProp 𝕄) ⊢ ownB c b B q P' := by
  unfold ownB
  iintro ⟨%f, %hf, Hf⟩
  iexists f
  isplitr [Hf]
  · ipureintro; exact fun i hi => h i hi _ (hf i hi)
  · iexact Hf

/-- A box is its two parts. -/
theorem ownB_union {c : Dev nD} {b : Bf} {B B₁ B₂ : Bx} (hu : boxS b B = boxS b B₁ ∪ boxS b B₂) (hd : Disjoint (boxS b B₁) (boxS b B₂))
    {q} {P : ℕ → ℕ → Elt F .bf16 → Prop} : (ownB c b B q P : sProp 𝕄) ⊣⊢ iprop(ownB c b B₁ q P ∗ ownB c b B₂ q P) := by
  have hd' : Disjoint ((bm b).view.setOn (boxS b B₁)) ((bm b).view.setOn (boxS b B₂)) := (Finset.disjoint_map _).mpr hd
  have hu' : (bm b).view.setOn (boxS b B) = (bm b).view.setOn (boxS b B₁) ∪ (bm b).view.setOn (boxS b B₂) := by
    unfold View.setOn; rw [hu, Finset.map_union]
  unfold ownB
  constructor
  · iintro ⟨%f, %hf, Hf⟩
    rw [hu']
    ihave Hg := (pointsTo_union (ℓ := (bm b).view.loc (c : Thread nD τ)) hd').1 $$ Hf
    icases Hg with ⟨H1, H2⟩
    isplitl [H1]
    · iexists f
      isplitr [H1]
      · ipureintro; exact fun i hi => hf i (by rw [hu]; exact Finset.mem_union_left _ hi)
      · iexact H1
    · iexists f
      isplitr [H2]
      · ipureintro; exact fun i hi => hf i (by rw [hu]; exact Finset.mem_union_right _ hi)
      · iexact H2
  · iintro ⟨⟨%f, %hf, H1⟩, ⟨%g, %hg, H2⟩⟩
    ihave H := (pointsTo_join (ℓ := (bm b).view.loc (c : Thread nD τ)) hd') $$ [H1 H2]
    · isplitl [H1]; · iexact H1
      iexact H2
    iexists ((bm b).view.setOn (boxS b B₂)).piecewise g f
    rw [hu']
    isplitr [H]
    · ipureintro
      intro i hi
      rw [View.read_apply]
      by_cases h2 : i ∈ boxS b B₂
      · rw [Finset.piecewise_eq_of_mem _ _ _ ((View.mem_setOn _).mpr h2)]; exact hg i h2
      · rw [Finset.piecewise_eq_of_notMem _ _ _ (fun h => h2 ((View.mem_setOn _).mp h))]
        rw [hu] at hi
        exact hf i ((Finset.mem_union.mp hi).resolve_right h2)
    · iexact H

theorem mem_halves : (fullShare : PosShare TreeShare) ∈ PCS.op (fullShare : PosShare TreeShare).left fullShare.right := by
  rw [PosShare.left_op_right]; exact Part.mem_some _

/-- A box held whole is its two half shares. -/
theorem ownB_share {c : Dev nD} {b : Bf} {B : Bx} {P : ℕ → ℕ → Elt F .bf16 → Prop} :
    (ownB c b B fullShare P : sProp 𝕄) ⊣⊢ iprop(ownB c b B fullShare.left P ∗ ownB c b B fullShare.right P) := by
  unfold ownB
  constructor
  · iintro ⟨%f, %hf, Hf⟩
    ihave Hg := (pointsTo_share mem_halves).1 $$ Hf
    icases Hg with ⟨H1, H2⟩
    isplitl [H1]
    · iexists f
      isplitr [H1]
      · ipureintro; exact hf
      · iexact H1
    · iexists f
      isplitr [H2]
      · ipureintro; exact hf
      · iexact H2
  · iintro ⟨⟨%f, %hf, H1⟩, ⟨%g, %hg, H2⟩⟩
    ihave %ha := (pointsTo_agree (I := (bm b).view.setOn (boxS b B)) (J := (bm b).view.setOn (boxS b B))) $$ [$]
    iexists f
    isplitr [H1 H2]
    · ipureintro; exact hf
    · iapply (pointsTo_share mem_halves).2
      isplitl [H1]; · iexact H1
      rw [pointsTo_congr (f := f) (g := g) fun i hi => (ha i (Finset.mem_inter.mpr ⟨hi, hi⟩)).1]
      iexact H2

/-! ## Rectangles -/

/-- A unit rectangle's indices are its box. -/
theorem rect_box {b : Bf} {off size : Fin 2 → ℕ} {inb} {B : Bx} (h0 : off 0 = B.r) (h1 : off 1 = B.c) (s0 : size 0 = B.n) (s1 : size 1 = B.m) :
    (Rect.unit (s := shp b) off size inb).set = boxS b B := by
  ext i
  rw [Rect.mem_set_unit, mem_boxS, Fin.forall_fin_two, h0, h1, s0, s1]
  tauto

end Cert.Hyper

end
-- ==== Proof.Sched.lean ====
/-
The schedule of the protocol's cells with contents: what every item is as a resource, what each round of each cell is
paid and hands over, and a device's state between two events.
-/
module

public import proofs.«01_k».proof.Proof.Own

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_append tallyL_pos)

variable {F : FTy → Type} [FloatOps F]

local notation "𝕄" => MT nD τ sig ℕ (Elt F) ℕ UU ℕ

/-! ## Contents -/

/-- What the elements of the partial sums are: `R0 c i j` of device `c`'s own product at row `i`, column `j` of the
    result, `R1 g c` of its sum with its first partner of group `g`, `R2` of the sum of four devices, `R3` of the result. -/
structure Spec (F : FTy → Type) where
  R0 : Dev nD → ℕ → ℕ → Elt F .bf16 → Prop
  R1 : Fin 3 → Dev nD → ℕ → ℕ → Elt F .bf16 → Prop
  R2 : Fin 3 → Dev nD → ℕ → ℕ → Elt F .bf16 → Prop
  R3 : ℕ → ℕ → Elt F .bf16 → Prop

def grp : Bf → Fin 3
  | .acc g => g
  | .snd g => g
  | .out => 0

/-- The row of the result that a buffer's row is of, on device `c`. -/
def rowOf (c : Dev nD) (b : Bf) (i : ℕ) : ℕ :=
  match b with
  | .acc g => b0 g c * 2048 + i
  | .snd g => if i < 2048 then (1 - b0 g c) * 2048 + i
      else if i < 3072 then b0 g c * 2048 + b1 g c * 1024 + (i - 2048)
      else b0 g c * 2048 + b1 g c * 1024 + b2 g c * 512 + (i - 3072)
  | .out => i
/-- The column of the result that a buffer's column is of, in a pass. -/
def colOf (b : Bf) (p : Fin 2) (j : ℕ) : ℕ :=
  match b with
  | .acc g => col0 p g + j
  | .snd g => col0 p g + j
  | .out => j

/-- Whose partial sum it is. -/
def who (c : Dev nD) (g : Fin 3) (st : Fin 4) (own : Bool) : Dev nD :=
  bif own then c else nbr ((![0, 1, 2, 2] : Fin 4 → Fin 3) st + g) c

def relT (S : Spec F) (c : Dev nD) (b : Bf) (t : Tg) (i j : ℕ) (v : Elt F .bf16) : Prop :=
  match t with
  | .any => True
  | .t 0 own p => S.R0 (who c (grp b) 0 own) (rowOf c b i) (colOf b p j) v
  | .t 1 own p => S.R1 (grp b) (who c (grp b) 1 own) (rowOf c b i) (colOf b p j) v
  | .t 2 own p => S.R2 (grp b) (who c (grp b) 2 own) (rowOf c b i) (colOf b p j) v
  | .t 3 own p => S.R3 (rowOf c b i) (colOf b p j) v

def Pc.shr : Pc → PosShare TreeShare
  | .B2 _ false => fullShare.left
  | .B2 _ true => fullShare.right
  | _ => fullShare

/-! ## Cells -/

abbrev cell (c : Dev nD) (x : CK) : GSem nD τ sig := ((c : Thread nD τ), x.sem)

theorem cell_inj {c c' : Dev nD} {x x' : CK} (h : cell c x = cell c' x') : c = c' ∧ x = x' := by
  have h1 := (Prod.ext_iff.mp h).1
  have h2 := (Prod.ext_iff.mp h).2
  refine ⟨?_, ?_⟩
  · exact (Prod.ext_iff.mp h1).1
  · have := congrArg ckOf h2
    rw [ckOf_sem, ckOf_sem] at this
    exact Option.some.inj this

/-- The buffer transfer `k` of a group writes; the one it reads; the rows it moves. -/
def dB (g : Fin 3) (k : Fin 7) : Bf := (![.acc g, .snd g, .snd g, .out, .out, .out, .acc g] : Fin 7 → Bf) k
@[inherit_doc dB] def sB (g : Fin 3) (k : Fin 7) : Bf := (![.snd g, .acc g, .acc g, .acc g, .out, .out, .snd g] : Fin 7 → Bf) k
@[inherit_doc dB] def nr (k : Fin 7) : ℕ := (![1024, 1024, 512, 512, 1024, 2048, 1024] : Fin 7 → ℕ) k

/-- What each of a cell's rounds is paid. -/
def amt : CK → ℕ
  | .snd g k => sig.dmaCredit .tc (Kind.tc.table (sp (dB g k))) (bm (dB g k)).view.buf ⟨2, ![nr k, wid g]⟩ .bf16
  | .rcv g k => sig.dmaCredit .tc (Kind.tc.table (sp (dB g k))) (bm (dB g k)).view.buf ⟨2, ![nr k, wid g]⟩ .bf16
  | .outc g => sig.dmaCredit .tc (Kind.tc.table (sp .out)) (bm .out).view.buf ⟨2, ![512, wid g]⟩ .bf16
  | .hsc _ _ => 1
  | .bar => 1

theorem amt_pos (x : CK) : 0 < amt x := by
  have h : ∀ (k : Fin 7) (g : Fin 3), 0 < (⟨2, ![nr k, wid g]⟩ : Shape).numel := by decide +kernel
  cases x with
  | snd g k => exact sig.dmaCredit_pos _ _ _ _ _ (h k g)
  | rcv g k => exact sig.dmaCredit_pos _ _ _ _ _ (h k g)
  | outc g => exact sig.dmaCredit_pos _ _ _ _ _ (h 2 g)
  | hsc _ _ => exact Nat.one_pos
  | bar => exact Nat.one_pos

/-! ## Items -/

/-- A piece of a device's. -/
def ownP (S : Spec F) (c : Dev nD) (x : Pc) (t : Tg) : sProp 𝕄 := ownB c x.buf (x.box c) x.shr (relT S c x.buf t)

instance ownP_storable (S : Spec F) (c : Dev nD) (x : Pc) (t : Tg) : BI.Storable (upEmb : UEmb _ 𝕄) (ownP S c x t) := by unfold ownP; infer_instance

theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => show BI.Storable (upEmb : UEmb _ 𝕄) iprop(emp); infer_instance
  | cons i l ih => rw [bigSepL_cons']; haveI := h i; infer_instance

/-- The cells the reach-marks of a neighbour are of. -/
def rchL : List (Fin 3 × Fin 7) := gs.flatMap fun g => [(g, 3), (g, 4), (g, 5)]

/-- That a transfer's target cell is in the transfer's round, if the target comes with it. -/
def rchd (c : Dev nD) (g : Fin 3) (k : Fin 7) (p : Fin 2) : sProp 𝕄 :=
  if reused k = true ∨ p = 0 then reached ER (cell (peer g k c) (.rcv g k)) p.val else iprop(emp)

instance rchd_storable (c : Dev nD) (g : Fin 3) (k : Fin 7) (p : Fin 2) : BI.Storable (upEmb : UEmb _ 𝕄) (rchd (F := F) c g k p) := by
  unfold rchd; split <;> infer_instance

/-- What an item is, on device `c`. -/
def Psi (S : Spec F) (c : Dev nD) : It → sProp 𝕄
  | .pc x t => ownP S c x t
  | .lent g k p => iprop(bigSepL (dstP g p k) (fun x => ownP S (peer g k c) x .any) ∗ rchd c g k p)
  | .fly g k p => cred (tallyAt (cell c (.snd g k)) 0 (amt (.snd g k)))
  | .flyc g p => cred (tallyAt (cell c (.outc g)) 0 (amt (.outc g)))
  | .rch i => bigSepL rchL fun y => reached ER (cell (nbr i c) (.rcv y.1 y.2)) 1

instance Psi_storable (S : Spec F) (c : Dev nD) (i : It) : BI.Storable (upEmb : UEmb _ 𝕄) (Psi S c i) := by
  cases i with
  | pc x t => exact ownP_storable S c x t
  | lent g k p =>
    haveI := bigSepL_storable (F := F) (dstP g p k) (fun x => ownP S (peer g k c) x .any) fun x => ownP_storable S _ x _
    show BI.Storable _ iprop(bigSepL (dstP g p k) (fun x => ownP S (peer g k c) x .any) ∗ rchd c g k p)
    infer_instance
  | fly g k p => show BI.Storable _ (cred _); infer_instance
  | flyc g p => show BI.Storable _ (cred _); infer_instance
  | rch i => exact bigSepL_storable (F := F) _ _ fun y => by infer_instance

/-! ## The schedule -/

/-- What duty `d` of round `r` of a cell hands its owner. -/
def payItems : CK → ℕ → Fin 3 → List It
  | .bar, _, d => (lents d).map fun y => .lent y.1 y.2.1 y.2.2
  | .snd g k, r, _ => post (.wsend g k (Fin.ofNat 2 r))
  | .rcv g k, r, _ => post (.wrecv g k (Fin.ofNat 2 r))
  | .outc g, r, _ => post (.wcopy g (Fin.ofNat 2 r))
  | .hsc h g, _, _ => post (.hwait h g)

/-- The duties of round `r` of a cell. -/
def dut : CK → ℕ → Finset (Fin 3)
  | .bar, r => if r < 1 then Finset.univ else ∅
  | .hsc _ _, r => if r < 1 then {0} else ∅
  | _, r => if r < 2 then {0} else ∅

def Rd (S : Spec F) : Rounds.Schedule (GSem nD τ sig) (Fin 3) 𝕄 where
  duties g r := if g.1.2 = .tc then (ckOf g.2).elim ∅ fun x => dut x r else ∅
  amount g _ _ := (ckOf g.2).elim 1 amt
  payload g r d := bigSepL ((ckOf g.2).elim [] fun x => payItems x r d) (Psi S g.1.1)
  amount_pos g _ _ _ := by
    cases ckOf g.2 with
    | none => exact Nat.one_pos
    | some x => exact amt_pos x

instance Rd_payload_storable (S : Spec F) (g : GSem nD τ sig) (r : ℕ) (d : Fin 3) :
    BI.Storable (upEmb : UEmb _ 𝕄) ((Rd S).payload g r d) :=
  bigSepL_storable _ _ fun i => Psi_storable S _ i

section Sched
variable (S : Spec F) (c : Dev nD) (x : CK)

theorem duties_cell (r : ℕ) : (Rd S).duties (cell c x) r = dut x r := by
  dsimp only [Rd]; rw [if_pos rfl, ckOf_sem]; rfl
theorem amount_cell (r : ℕ) (d : Fin 3) : (Rd S).amount (cell c x) r d = amt x := by dsimp only [Rd]; rw [ckOf_sem]; rfl
theorem payload_cell (r : ℕ) (d : Fin 3) : (Rd S).payload (cell c x) r d = bigSepL (payItems x r d) (Psi S c) := by
  dsimp only [Rd]; rw [ckOf_sem]; rfl

theorem dut_later : ∀ r, 2 ≤ r → dut x r = ∅ := by
  intro r hr
  cases x <;> exact if_neg (by omega)

/-- The whole of a wait. -/
def full : CK → ℕ
  | .bar => 3
  | x => amt x

theorem ofNat_val : ∀ p : Fin 2, Fin.ofNat 2 p.val = p := by decide

theorem dut_wait {e : Ev} {y : CK × ℕ} (h : e.waits = some y) : dut y.1 y.2 = if y.1 = .bar then Finset.univ else {0} := by
  cases e <;> first
    | (cases h; done)
    | (cases h; rfl)
    | (cases h; exact if_pos (Fin.isLt _))

theorem expect_wait {e : Ev} {y : CK × ℕ} (h : e.waits = some y) : (Rd S).expect (cell c y.1) y.2 = full y.1 := by
  unfold Schedule.expect Schedule.amountOf
  rw [duties_cell, dut_wait h, Finset.sum_congr rfl fun d _ => amount_cell S c y.1 y.2 d]
  cases e <;> first
    | (cases h; done)
    | (cases h; rfl)
    | (cases h; exact Finset.sum_singleton _ _)

/-- A wait's round hands over what the wait's event leaves. -/
theorem rest_wait {e : Ev} {y : CK × ℕ} (h : e.waits = some y) :
    bigSep ((Rd S).duties (cell c y.1) y.2 \ ∅) (fun d => (Rd S).payload (cell c y.1) y.2 d) = bigSepL (post e) (Psi S c) := by
  rw [Finset.sdiff_empty, duties_cell, dut_wait h]
  cases e with
  | bwait =>
    cases h
    rw [if_pos rfl, bigSep_univ_eq_bigSepL [0, 1, 2] (by decide) (by decide)]
    rw [bigSepL_cons', bigSepL_cons', bigSepL_cons', payload_cell, payload_cell, payload_cell]
    simp only [post, payItems, List.flatMap_cons, List.flatMap_nil, List.append_nil, bigSepL_append]
    congr 2
    exact equiv_iff.mp BI.sep_emp
  | wsend g k p => cases h; rw [if_neg (by nofun), bigSep_singleton, payload_cell, payItems, ofNat_val]
  | wrecv g k p => cases h; rw [if_neg (by nofun), bigSep_singleton, payload_cell, payItems, ofNat_val]
  | wcopy g p => cases h; rw [if_neg (by nofun), bigSep_singleton, payload_cell, payItems, ofNat_val]
  | hwait h' g => cases h; rw [if_neg (by nofun), bigSep_singleton, payload_cell, payItems]
  | _ => cases h

end Sched

/-! ## The state of a device -/

/-- A payment as a tally. -/
def dueOf (c : Dev nD) (q : Due) : GSem nD τ sig × ℕ × ℕ := (cell (nbr q.i c) q.x, lvl q.w, amt q.x)
/-- What a device owes after `n` events. -/
def dues (c : Dev nD) (n : ℕ) : List (GSem nD τ sig × ℕ × ℕ) := (prog.drop n).filterMap fun e => e.pays.map (dueOf c)

/-- The device's own cell an event pays. -/
def Ev.owns : Ev → Option (CK × ℕ)
  | .send g k p => some (.snd g k, p.val)
  | .copy g p => some (.outc g, p.val)
  | _ => none

/-- The cells an event waits on with another's payments, one for each payment. -/
def Ev.creds (e : Ev) : List (CK × ℕ) :=
  match e with
  | .bwait => [(.bar, lvl e), (.bar, lvl e), (.bar, lvl e)]
  | .wrecv g k _ => [(.rcv g k, lvl e)]
  | .hwait h g => [(.hsc h g, lvl e)]
  | _ => []

/-- What an event uses up: the tokens it pays with, the credits it waits with. -/
def tok (c : Dev nD) (e : Ev) : sProp 𝕄 :=
  iprop((e.pays.elim iprop(emp) fun q => dutyTok ER (cell (nbr q.i c) q.x) q.r q.d)
    ∗ (e.owns.elim iprop(emp) fun y => dutyTok ER (cell c y.1) y.2 0)
    ∗ bigSepL e.creds fun y => cred (tallyAt (cell c y.1) y.2 (amt y.1)))

def curAt (c : Dev nD) (n : ℕ) (x : CK) : sProp 𝕄 := iprop(atPos ER (cell c x) (cnt n x) ∅ 0 ∗ reached ER (cell c x) (cnt n x))

/-- The names of the cells' invariants. -/
abbrev Nms : Type := Dev nD × CK → ℕ

def devs : List (Dev nD) := List.finRange 8
/-- All cells of all devices. -/
def allCells : List (Dev nD × CK) := devs.flatMap fun d => cells.map fun x => (d, x)
theorem mem_allCells (y : Dev nD × CK) : y ∈ allCells :=
  List.mem_flatMap.mpr ⟨y.1, List.mem_finRange _, List.mem_map.mpr ⟨y.2, mem_cells _, rfl⟩⟩

/-- What never changes: the cells' invariants, that every cell is in round 0 or later, the levels. -/
def pers (S : Spec F) (K : Nms) : sProp 𝕄 :=
  iprop(bigSepL allCells (fun y => cellInv ER (Rd S) (K y) (cell y.1 y.2)) ∗ bigSepL allCells (fun y => reached ER (cell y.1 y.2) 0)
    ∗ levAts (SiteBlocks.L 200) SiteBlocks.lv)

theorem bigSepL_persistent {I : Type} (l : List I) (Φ : I → sProp 𝕄) (h : ∀ i, BI.Persistent (Φ i)) : BI.Persistent (bigSepL l Φ) := by
  induction l with
  | nil => show BI.Persistent (iprop(emp) : sProp 𝕄); infer_instance
  | cons i l ih => rw [bigSepL_cons']; haveI := h i; infer_instance

instance pers_persistent (S : Spec F) (K : Nms) : BI.Persistent (pers S K) := by
  haveI := bigSepL_persistent (F := F) allCells (fun y => cellInv ER (Rd S) (K y) (cell y.1 y.2)) fun y => by infer_instance
  haveI := bigSepL_persistent (F := F) allCells (fun y => reached ER (cell y.1 y.2) 0) fun y => by infer_instance
  unfold pers; infer_instance

/-- The blocks of the two arguments in the device's memory. -/
structure Args (F : FTy → Type) where
  X : Dev nD → Vec F S4096x512 .bf16
  Wt : Dev nD → Vec F S512x8192 .bf16

def argPts (A : Args F) (c : Dev nD) : sProp 𝕄 :=
  iprop((((c : Thread nD τ).loc cc0_stg0_0) ↦{fullShare} (A.X c : Buf (Elt F) ((c : Thread nD τ).loc cc0_stg0_0)))
    ∗ (((c : Thread nD τ).loc cc0_stg1_0) ↦{fullShare} (A.Wt c : Buf (Elt F) ((c : Thread nD τ).loc cc0_stg1_0))))

/-- All but the items: what is owed, the tokens left, the cells' positions, the arguments. -/
def side (A : Args F) (c : Dev nD) (n : ℕ) : sProp 𝕄 :=
  iprop((∃ W, owes (c : Thread nD τ) (tallyL (dues c n)) W) ∗ bigSepL (prog.drop n) (tok c) ∗ bigSepL cells (curAt c n) ∗ argPts A c)

/-- The device's state after `n` events. -/
def St (S : Spec F) (A : Args F) (K : Nms) (c : Dev nD) (n : ℕ) : sProp 𝕄 :=
  iprop(pers S K ∗ bigSepL (its n) (Psi S c) ∗ side A c n)

end Cert.Hyper

end
-- ==== Proof.Joins.lean ====
/-
The boxes transfers read and write are their pieces joined, and what a transfer carries means at its target what it
means at its source.
-/
module

public import proofs.«01_k».proof.Proof.Sched

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The box transfer `k` reads, its share; the box it writes at the partner. -/
def srcBx (g : Fin 3) (p : Fin 2) (c : Dev nD) (k : Fin 7) : Bx :=
  (![(Pc.SA g).box c, (Pc.A g).box c, (Pc.B1 g).box c, (Pc.B2 g true).box c, ⟨b0 g c * 2048 + b1 g c * 1024, 1024, col0 p g, wid g⟩,
    ⟨b0 g c * 2048, 2048, col0 p g, wid g⟩, (Pc.SB g).box c] : Fin 7 → Bx) k
@[inherit_doc srcBx] def srcSh (k : Fin 7) : PosShare TreeShare :=
  (![fullShare, fullShare, fullShare, fullShare.right, fullShare, fullShare, fullShare] : Fin 7 → PosShare TreeShare) k
@[inherit_doc srcBx] def dstBx (g : Fin 3) (p : Fin 2) (c : Dev nD) (k : Fin 7) : Bx :=
  (![(Pc.A g).box c, (Pc.R1 g).box c, (Pc.R2 g).box c, (Pc.OR g p).box c, (Pc.OH g p).box c, (Pc.OF g p).box c,
    ⟨b1 g c * 1024, 1024, 0, wid g⟩] : Fin 7 → Bx) k

theorem b0_le (g : Fin 3) (c : Dev nD) : b0 g c ≤ 1 := bt_le _ _
theorem b1_le (g : Fin 3) (c : Dev nD) : b1 g c ≤ 1 := bt_le _ _
theorem b2_le (g : Fin 3) (c : Dev nD) : b2 g c ≤ 1 := bt_le _ _

theorem union_of {b : Bf} {B B₁ B₂ : Bx} (hc : B₁.c = B.c) (hm : B₁.m = B.m) (hc' : B₂.c = B.c) (hm' : B₂.m = B.m)
    (h : (B₁.r = B.r ∧ B₂.r = B.r + B₁.n ∨ B₂.r = B.r ∧ B₁.r = B.r + B₂.n) ∧ B.n = B₁.n + B₂.n) :
    boxS b B = boxS b B₁ ∪ boxS b B₂ ∧ Disjoint (boxS b B₁) (boxS b B₂) := by
  constructor
  · ext i
    rw [Finset.mem_union, mem_boxS, mem_boxS, mem_boxS, hc, hm, hc', hm']
    omega
  · rw [Finset.disjoint_left]
    intro i
    rw [mem_boxS, mem_boxS, hc, hm, hc', hm']
    omega

theorem join_two {c : Dev nD} {b : Bf} (B B₁ B₂ : Bx) (hc : B₁.c = B.c) (hm : B₁.m = B.m) (hc' : B₂.c = B.c) (hm' : B₂.m = B.m)
    (h : (B₁.r = B.r ∧ B₂.r = B.r + B₁.n ∨ B₂.r = B.r ∧ B₁.r = B.r + B₂.n) ∧ B.n = B₁.n + B₂.n) (q : PosShare TreeShare)
    (P : ℕ → ℕ → Elt F .bf16 → Prop) : iprop(ownB c b B₁ q P ∗ ownB c b B₂ q P) = (ownB c b B q P : sProp 𝕄) := by
  symm
  have hu := union_of (b := b) hc hm hc' hm' h
  exact equiv_iff.mp ⟨(ownB_union hu.1 hu.2).1, (ownB_union hu.1 hu.2).2⟩

theorem bigSepL_one {I : Type} (i : I) (Φ : I → sProp 𝕄) : bigSepL [i] Φ = Φ i := by
  rw [bigSepL_cons']; exact equiv_iff.mp BI.sep_emp
theorem bigSepL_two {I : Type} (i j : I) (Φ : I → sProp 𝕄) : bigSepL [i, j] Φ = iprop(Φ i ∗ Φ j) := by
  rw [bigSepL_cons', bigSepL_one]

theorem join_half (S : Spec F) (c : Dev nD) (g : Fin 3) (t : Tg) :
    iprop(ownP S c (.B2 g false) t ∗ ownP S c (.B2 g true) t) = ownB c (.acc g) ((Pc.B2 g true).box c) fullShare (relT S c (.acc g) t) := by
  symm
  exact equiv_iff.mp ⟨ownB_share.1, ownB_share.2⟩

/-- Two adjoining pieces are one box. -/
theorem join_pcs (S : Spec F) (c : Dev nD) (b : Bf) (t : Tg) (B : Bx) (x y : Pc) (hx : x.buf = b) (hy : y.buf = b) (qx : x.shr = fullShare)
    (qy : y.shr = fullShare) (hc : (x.box c).c = B.c) (hm : (x.box c).m = B.m) (hc' : (y.box c).c = B.c) (hm' : (y.box c).m = B.m)
    (h : ((x.box c).r = B.r ∧ (y.box c).r = B.r + (x.box c).n ∨ (y.box c).r = B.r ∧ (x.box c).r = B.r + (y.box c).n) ∧ B.n = (x.box c).n + (y.box c).n) :
    bigSepL [x, y] (fun x => ownP S c x t) = ownB c b B fullShare (relT S c b t) := by
  subst hx
  rw [bigSepL_two]
  unfold ownP
  rw [qx, qy, hy]
  exact join_two B _ _ hc hm hc' hm' h _ _

theorem b0_def (g : Fin 3) (c : Dev nD) : b0 g c = bt (0 + g) c := rfl
theorem b1_def (g : Fin 3) (c : Dev nD) : b1 g c = bt (1 + g) c := rfl
theorem b2_def (g : Fin 3) (c : Dev nD) : b2 g c = bt (2 + g) c := rfl

theorem join_B (S : Spec F) (c : Dev nD) (g : Fin 3) (t : Tg) :
    bigSepL [.B1 g, .B2 g false, .B2 g true] (fun x => ownP S c x t) = ownB c (.acc g) ⟨b1 g c * 1024, 1024, 0, wid g⟩ fullShare (relT S c (.acc g) t) := by
  have h := b2_le g c
  rw [bigSepL_cons', bigSepL_two, join_half]
  unfold ownP
  refine join_two (b := .acc g) ⟨b1 g c * 1024, 1024, 0, wid g⟩ ((Pc.B1 g).box c) ((Pc.B2 g true).box c) rfl rfl rfl rfl ?_ _ _
  unfold Pc.box
  dsimp only
  omega

theorem join_S (S : Spec F) (c : Dev nD) (g : Fin 3) (t : Tg) :
    bigSepL [.SA g, .SB g] (fun x => ownP S c x t) = ownB c (.snd g) ⟨0, 2048, 0, wid g⟩ fullShare (relT S c (.snd g) t) := by
  have h := b1_le g c
  refine join_pcs S c (.snd g) t _ _ _ rfl rfl rfl rfl rfl rfl rfl rfl ?_
  unfold Pc.box
  dsimp only
  omega

theorem join_O2 (S : Spec F) (c : Dev nD) (g : Fin 3) (p : Fin 2) (t : Tg) :
    bigSepL [.OQ g p, .OR g p] (fun x => ownP S c x t)
      = ownB c .out ⟨b0 g c * 2048 + b1 g c * 1024, 1024, col0 p g, wid g⟩ fullShare (relT S c .out t) := by
  have h := b2_le g c
  refine join_pcs S c .out t _ _ _ rfl rfl rfl rfl rfl rfl rfl rfl ?_
  unfold Pc.box
  dsimp only
  omega

/-- A box of the result with one more piece. -/
theorem join_O (S : Spec F) (c : Dev nD) (g : Fin 3) (p : Fin 2) (t : Tg) (l : List Pc) (x : Pc) (B B' : Bx) (hx : x.buf = .out) (qx : x.shr = fullShare)
    (hl : bigSepL l (fun x => ownP S c x t) = ownB c .out B fullShare (relT S c .out t))
    (hc : B.c = B'.c) (hm : B.m = B'.m) (hc' : (x.box c).c = B'.c) (hm' : (x.box c).m = B'.m)
    (h : (B.r = B'.r ∧ (x.box c).r = B'.r + B.n ∨ (x.box c).r = B'.r ∧ B.r = B'.r + (x.box c).n) ∧ B'.n = B.n + (x.box c).n) :
    bigSepL (l ++ [x]) (fun x => ownP S c x t) = ownB c .out B' fullShare (relT S c .out t) := by
  rw [bigSepL_append, hl, bigSepL_one]
  unfold ownP
  rw [qx, hx]
  exact join_two B' B _ hc hm hc' hm' h _ _

theorem join_O3 (S : Spec F) (c : Dev nD) (g : Fin 3) (p : Fin 2) (t : Tg) :
    bigSepL [.OQ g p, .OR g p, .OH g p] (fun x => ownP S c x t) = ownB c .out ⟨b0 g c * 2048, 2048, col0 p g, wid g⟩ fullShare (relT S c .out t) := by
  have h := b1_le g c
  refine join_O S c g p t [.OQ g p, .OR g p] (.OH g p) _ ⟨b0 g c * 2048, 2048, col0 p g, wid g⟩ rfl rfl (join_O2 S c g p t) rfl rfl rfl rfl ?_
  unfold Pc.box
  dsimp only
  omega

theorem join_O4 (S : Spec F) (c : Dev nD) (g : Fin 3) (p : Fin 2) (t : Tg) :
    bigSepL [.OQ g p, .OR g p, .OH g p, .OF g p] (fun x => ownP S c x t) = ownB c .out ⟨0, 4096, col0 p g, wid g⟩ fullShare (relT S c .out t) := by
  have h := b0_le g c
  refine join_O S c g p t [.OQ g p, .OR g p, .OH g p] (.OF g p) _ ⟨0, 4096, col0 p g, wid g⟩ rfl rfl (join_O3 S c g p t) rfl rfl rfl rfl ?_
  unfold Pc.box
  dsimp only
  omega

/-- A transfer's source pieces are its source box, -/
theorem join_src (S : Spec F) (c : Dev nD) (g : Fin 3) (p : Fin 2) (t : Tg) : (k : Fin 7) →
    bigSepL (srcP g p k) (fun x => ownP S c x t) = ownB c (sB g k) (srcBx g p c k) (srcSh k) (relT S c (sB g k) t)
  | 0 => bigSepL_one _ _
  | 1 => bigSepL_one _ _
  | 2 => bigSepL_one _ _
  | 3 => bigSepL_one _ _
  | 4 => join_O2 S c g p t
  | 5 => join_O3 S c g p t
  | 6 => bigSepL_one _ _

/-- and its target pieces its target box. -/
theorem join_dst (S : Spec F) (c : Dev nD) (g : Fin 3) (p : Fin 2) (t : Tg) : (k : Fin 7) →
    bigSepL (dstP g p k) (fun x => ownP S c x t) = ownB c (dB g k) (dstBx g p c k) fullShare (relT S c (dB g k) t)
  | 0 => bigSepL_one _ _
  | 1 => bigSepL_one _ _
  | 2 => bigSepL_one _ _
  | 3 => bigSepL_one _ _
  | 4 => bigSepL_one _ _
  | 5 => bigSepL_one _ _
  | 6 => join_B S c g t

/-- A bit of a device's partner. -/
theorem bit_flip (i : Fin 3) (c : Dev nD) : bt i (nbr i c) = 1 - bt i c := by rw [bt_nbr, if_pos rfl]
theorem bit_same {i j : Fin 3} (h : i ≠ j) (c : Dev nD) : bt i (nbr j c) = bt i c := by rw [bt_nbr, if_neg h]

theorem ne1 (g : Fin 3) : (0 + g : Fin 3) ≠ 1 + g := by revert g; decide
theorem ne2 (g : Fin 3) : (0 + g : Fin 3) ≠ 2 + g := by revert g; decide
theorem ne3 (g : Fin 3) : (1 + g : Fin 3) ≠ 2 + g := by revert g; decide

section Rows
variable (c : Dev nD) (g : Fin 3) (i : ℕ)
theorem row_acc : rowOf c (.acc g) i = b0 g c * 2048 + i := rfl
theorem row_out : rowOf c .out i = i := rfl
theorem row_s1 (h : i < 2048) : rowOf c (.snd g) i = (1 - b0 g c) * 2048 + i := by unfold rowOf; exact if_pos h
theorem row_s2 (h : 2048 ≤ i) (h' : i < 3072) : rowOf c (.snd g) i = b0 g c * 2048 + b1 g c * 1024 + (i - 2048) := by
  unfold rowOf; rw [← if_pos (c := i < 3072) (t := b0 g c * 2048 + b1 g c * 1024 + (i - 2048)) h']; exact if_neg (Nat.not_lt.mpr h)
theorem row_s3 (h : 3072 ≤ i) : rowOf c (.snd g) i = b0 g c * 2048 + b1 g c * 1024 + b2 g c * 512 + (i - 3072) := by
  unfold rowOf
  refine (if_neg ?_).trans (if_neg (Nat.not_lt.mpr h))
  omega
theorem col_acc (p : Fin 2) : colOf (.acc g) p i = col0 p g + i := rfl
theorem col_snd (p : Fin 2) : colOf (.snd g) p i = col0 p g + i := rfl
theorem col_out (p : Fin 2) : colOf .out p i = i := rfl
end Rows

theorem who_own (c : Dev nD) (g : Fin 3) (st : Fin 4) : who c g st true = c := rfl
theorem who_at (c : Dev nD) (g : Fin 3) (k : Fin 7) (st : Fin 4) (h : (![0, 1, 2, 2] : Fin 4 → Fin 3) st = kk k) : who (peer g k c) g st false = c := by
  unfold who peer via
  rw [h]
  exact nbr_nbr _ _

/-- The stage of what a transfer carries. -/
def stOf (k : Fin 7) : Fin 4 := (![0, 1, 2, 3, 3, 3, 0] : Fin 7 → Fin 4) k

/-- The rows of a transfer's source and target in the result. -/
theorem row_move (c : Dev nD) (g : Fin 3) (p : Fin 2) (x : ℕ) (k : Fin 7) (hx : x < nr k) :
    rowOf c (sB g k) ((srcBx g p c k).r + x) = rowOf (peer g k c) (dB g k) ((dstBx g p (peer g k c) k).r + x) := by
  have f0 := bit_flip (0 + g) c
  have f1 := bit_flip (1 + g) c
  have f2 := bit_flip (2 + g) c
  have s01 := bit_same (ne1 g) c
  have s10 := bit_same (ne1 g).symm c
  have s02 := bit_same (ne2 g) c
  have s20 := bit_same (ne2 g).symm c
  have s12 := bit_same (ne3 g) c
  have s21 := bit_same (ne3 g).symm c
  have l0 := bt_le (0 + g) c
  have l1 := bt_le (1 + g) c
  have l2 := bt_le (2 + g) c
  revert hx
  revert k
  refine Fin.forall_fin_succ.mpr ⟨?_, Fin.forall_fin_succ.mpr ⟨?_, Fin.forall_fin_succ.mpr ⟨?_, Fin.forall_fin_succ.mpr ⟨?_, Fin.forall_fin_succ.mpr ⟨?_,
    Fin.forall_fin_succ.mpr ⟨?_, Fin.forall_fin_succ.mpr ⟨?_, fun k => k.elim0⟩⟩⟩⟩⟩⟩⟩
  · intro hx
    have hx : x < 1024 := hx
    show rowOf c (.snd g) ((1 - b1 g c) * 1024 + x) = rowOf (nbr (0 + g) c) (.acc g) ((1 - b1 g (nbr (0 + g) c)) * 1024 + x)
    rw [row_s1 _ _ _ (by rw [b1_def]; omega), row_acc, b0_def, b0_def, b1_def, b1_def]
    omega
  · intro hx
    have hx : x < 1024 := hx
    show rowOf c (.acc g) ((1 - b1 g c) * 1024 + x) = rowOf (nbr (1 + g) c) (.snd g) (2048 + x)
    rw [row_s2 _ _ _ (by omega) (by omega), row_acc, b0_def, b0_def, b1_def, b1_def]
    omega
  · intro hx
    have hx : x < 512 := hx
    show rowOf c (.acc g) (b1 g c * 1024 + (1 - b2 g c) * 512 + x) = rowOf (nbr (2 + g) c) (.snd g) (3072 + x)
    rw [row_s3 _ _ _ (by omega), row_acc, b0_def, b0_def, b1_def, b1_def, b2_def, b2_def]
    omega
  · intro hx
    show rowOf c (.acc g) (b1 g c * 1024 + b2 g c * 512 + x) = rowOf (nbr (2 + g) c) .out (b0 g (nbr (2 + g) c) * 2048 + b1 g (nbr (2 + g) c) * 1024 + (1 - b2 g (nbr (2 + g) c)) * 512 + x)
    rw [row_acc, row_out, b0_def, b0_def, b1_def, b1_def, b2_def, b2_def]
    omega
  · intro hx
    show rowOf c .out (b0 g c * 2048 + b1 g c * 1024 + x) = rowOf (nbr (1 + g) c) .out (b0 g (nbr (1 + g) c) * 2048 + (1 - b1 g (nbr (1 + g) c)) * 1024 + x)
    rw [row_out, row_out, b0_def, b0_def, b1_def, b1_def]
    omega
  · intro hx
    show rowOf c .out (b0 g c * 2048 + x) = rowOf (nbr (0 + g) c) .out ((1 - b0 g (nbr (0 + g) c)) * 2048 + x)
    rw [row_out, row_out, b0_def, b0_def]
    omega
  · intro hx
    have hx : x < 1024 := hx
    show rowOf c (.snd g) (b1 g c * 1024 + x) = rowOf (nbr (0 + g) c) (.acc g) (b1 g (nbr (0 + g) c) * 1024 + x)
    rw [row_s1 _ _ _ (by rw [b1_def]; omega), row_acc, b0_def, b0_def, b1_def, b1_def]
    omega

/-- The columns. -/
theorem col_move (c c' : Dev nD) (g : Fin 3) (p : Fin 2) (y : ℕ) (k : Fin 7) :
    colOf (sB g k) p ((srcBx g p c k).c + y) = col0 p g + y ∧ colOf (dB g k) p ((dstBx g p c' k).c + y) = col0 p g + y := by
  revert k
  refine Fin.forall_fin_succ.mpr ⟨?_, Fin.forall_fin_succ.mpr ⟨?_, Fin.forall_fin_succ.mpr ⟨?_, Fin.forall_fin_succ.mpr ⟨?_, Fin.forall_fin_succ.mpr ⟨?_,
    Fin.forall_fin_succ.mpr ⟨?_, Fin.forall_fin_succ.mpr ⟨?_, fun k => k.elim0⟩⟩⟩⟩⟩⟩⟩
  · exact ⟨congrArg (col0 p g + ·) (Nat.zero_add y), congrArg (col0 p g + ·) (Nat.zero_add y)⟩
  · exact ⟨congrArg (col0 p g + ·) (Nat.zero_add y), congrArg (col0 p g + ·) (Nat.zero_add y)⟩
  · exact ⟨congrArg (col0 p g + ·) (Nat.zero_add y), congrArg (col0 p g + ·) (Nat.zero_add y)⟩
  · exact ⟨congrArg (col0 p g + ·) (Nat.zero_add y), rfl⟩
  · exact ⟨rfl, rfl⟩
  · exact ⟨rfl, rfl⟩
  · exact ⟨congrArg (col0 p g + ·) (Nat.zero_add y), congrArg (col0 p g + ·) (Nat.zero_add y)⟩

theorem tag_src (p : Fin 2) (k : Fin 7) : srcT p k = .t (stOf k) true p := by revert p k; decide
theorem tag_dst (p : Fin 2) (k : Fin 7) : dstT p k = .t (stOf k) (stOf k = 3) p := by revert p k; decide
theorem grp_src (g : Fin 3) (k : Fin 7) : stOf k = 3 ∨ (grp (sB g k) = g ∧ grp (dB g k) = g ∧ (![0, 1, 2, 2] : Fin 4 → Fin 3) (stOf k) = kk k) := by
  revert g k; decide

/-- What a transfer's target holds when it has landed is what its source held. -/
theorem rel_move (S : Spec F) (c : Dev nD) (g : Fin 3) (p : Fin 2) (x y : ℕ) (v : Elt F .bf16) (k : Fin 7) (hx : x < nr k)
    (h : relT S c (sB g k) (srcT p k) ((srcBx g p c k).r + x) ((srcBx g p c k).c + y) v) :
    relT S (peer g k c) (dB g k) (dstT p k) ((dstBx g p (peer g k c) k).r + x) ((dstBx g p (peer g k c) k).c + y) v := by
  have hr := row_move c g p x k hx
  have hc := col_move c (peer g k c) g p y k
  have hg := grp_src g k
  have hw := who_at c g k (stOf k)
  rw [tag_src] at h
  rw [tag_dst]
  revert h hg hw
  generalize stOf k = st
  intro h hg hw
  match st, h, hg, hw with
  | 0, h, hg, hw =>
    obtain ⟨h1, h2, h3⟩ := hg.resolve_left (by decide)
    change S.R0 _ _ _ _ at h
    rw [h1, who_own] at h
    show S.R0 _ _ _ _
    rw [← hr, hc.2, h2]
    rw [hc.1] at h
    have := hw h3
    rw [show decide ((0 : Fin 4) = 3) = false from rfl, this]
    exact h
  | 1, h, hg, hw =>
    obtain ⟨h1, h2, h3⟩ := hg.resolve_left (by decide)
    change S.R1 _ _ _ _ _ at h
    rw [h1, who_own] at h
    show S.R1 _ _ _ _ _
    rw [← hr, hc.2, h2]
    rw [hc.1] at h
    have := hw h3
    rw [show decide ((1 : Fin 4) = 3) = false from rfl, this]
    exact h
  | 2, h, hg, hw =>
    obtain ⟨h1, h2, h3⟩ := hg.resolve_left (by decide)
    change S.R2 _ _ _ _ _ at h
    rw [h1, who_own] at h
    show S.R2 _ _ _ _ _
    rw [← hr, hc.2, h2]
    rw [hc.1] at h
    have := hw h3
    rw [show decide ((2 : Fin 4) = 3) = false from rfl, this]
    exact h
  | 3, h, hg, hw =>
    change S.R3 _ _ _ at h
    show S.R3 _ _ _
    rw [← hr, hc.2]
    rw [hc.1] at h
    exact h

end Cert.Hyper

end
-- ==== Proof.Kit.lean ====
/-
The state at an event: opening it, closing it; the protocol's steps (signals and waits).
-/
module

public import proofs.«01_k».proof.Proof.Joins

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a piece of the kernel on device `c`. -/
abbrev wps {α : Type} (c : Dev nD) (pg : Prog (TpuEff nD τ sig (Elt F) Λ₀ .tc) α) (Q : α → sProp 𝕄) : sProp 𝕄 :=
  wp frame (wpE (defs₀ (F := F)) 𝒱₀ (c : Thread nD τ) none) Set.univ pg Q

/-! ## Lists of resources -/

theorem sep_swap3 (P Q R : sProp 𝕄) : iprop(P ∗ Q ∗ R) ⊢ iprop(Q ∗ P ∗ R) := by
  iintro ⟨H1, H2, H3⟩
  isplitl [H2]; · iexact H2
  isplitl [H1]; · iexact H1
  iexact H3

theorem bigSepL_perm {I : Type} (Φ : I → sProp 𝕄) {l l' : List I} (h : l.Perm l') : bigSepL l Φ = bigSepL l' Φ := by
  induction h with
  | nil => rfl
  | cons x _ ih => rw [bigSepL_cons', bigSepL_cons', ih]
  | swap x y l =>
    rw [bigSepL_cons', bigSepL_cons', bigSepL_cons', bigSepL_cons']
    exact BI.Entails.antisymm (sep_swap3 _ _ _) (sep_swap3 _ _ _)
  | trans _ _ h1 h2 => exact h1.trans h2

theorem bigSepL_nil' {I : Type} (Φ : I → sProp 𝕄) : bigSepL [] Φ = iprop(emp) := rfl

theorem bigSepL_out {I : Type} [DecidableEq I] (Φ : I → sProp 𝕄) {l : List I} {a : I} (h : a ∈ l) :
    bigSepL l Φ = iprop(Φ a ∗ bigSepL (l.erase a) Φ) := by
  rw [bigSepL_perm Φ (List.perm_cons_erase h), bigSepL_cons']

theorem bigSepL_look {I : Type} [DecidableEq I] (Φ : I → sProp 𝕄) {l : List I} {a : I} (h : a ∈ l) : bigSepL l Φ ⊢ Φ a := by
  rw [bigSepL_out Φ h]
  iintro ⟨H, -⟩
  iexact H

theorem bigSepL_ext {I : Type} {Φ Ψ : I → sProp 𝕄} {l : List I} (h : ∀ i ∈ l, Φ i = Ψ i) : bigSepL l Φ = bigSepL l Ψ := by
  induction l with
  | nil => rfl
  | cons a l ih =>
    rw [bigSepL_cons', bigSepL_cons', h a List.mem_cons_self, ih fun i hi => h i (List.mem_cons_of_mem _ hi)]

/-! ## Facts of the program's order -/

set_option maxRecDepth 100000 in
theorem cnt_waits : ∀ n : Fin 199, (ev n).waits.all (fun y => cnt n y.1 = y.2) = true := by decide +kernel
set_option maxRecDepth 100000 in
theorem cnt_owns : ∀ n : Fin 199, (ev n).owns.all (fun y => cnt n y.1 = y.2) = true := by decide +kernel

/-- What a payment hands over beside items: marks of the payer's own cells. -/
def Ev.marks : Ev → List (CK × ℕ)
  | .bsig i => (lents i).map fun y => (.rcv y.1 y.2.1, 0)
  | .send g k p => bif hasRch k p then rchL.map fun y => (.rcv y.1 y.2, 1) else []
  | .hsig h g => [(.rcv g (slotH h), 1)]
  | _ => []

set_option maxRecDepth 100000 in
theorem cnt_marks : ∀ n : Fin 199, (ev n).marks.all (fun y => y.2 ≤ cnt n y.1) = true := by decide +kernel

theorem lvl_ev {n : ℕ} (hn : n < 199) : lvl (ev n) = n + 1 := by
  have h : n < prog.length := by rw [prog_length]; exact hn
  unfold lvl
  rw [ev, List.getD_eq_getElem?_getD, List.getElem?_eq_getElem h, Option.getD_some, prog_nodup.idxOf_getElem]

theorem cnt_succ {n : ℕ} (hn : n < 199) (x : CK) : cnt (n + 1) x = cnt n x + if (ev n).waits.map Prod.fst = some x then 1 else 0 := by
  unfold cnt
  rw [take_succ hn, List.countP_append, List.countP_cons, List.countP_nil, Nat.zero_add]
  simp only [decide_eq_true_eq]

theorem curAt_same {n : ℕ} (hn : n < 199) (c : Dev nD) (h : (ev n).waits = none) : curAt (F := F) c (n + 1) = curAt c n := by
  funext x
  unfold curAt
  rw [cnt_succ hn, h, Option.map_none, if_neg (by nofun), Nat.add_zero]

theorem dues_cons {n : ℕ} (hn : n < 199) (c : Dev nD) :
    dues c n = (match (ev n).pays with | some q => [dueOf c q] | none => []) ++ dues c (n + 1) := by
  unfold dues
  rw [drop_cons hn, List.filterMap_cons]
  cases (ev n).pays with
  | none => rfl
  | some q => rfl

theorem tally_pay {n : ℕ} (hn : n < 199) (c : Dev nD) {q : Due} (h : (ev n).pays = some q) :
    TalkSites.tallyL (dues c n) = TalkSites.tallyL (dues c (n + 1)) + tallyAt (cell (nbr q.i c) q.x) (lvl q.w) (amt q.x) := by
  rw [dues_cons hn, h]
  exact add_comm _ _

theorem dues_keep {n : ℕ} (hn : n < 199) (c : Dev nD) (h : (ev n).pays = none) : dues c (n + 1) = dues c n := by
  rw [dues_cons hn, h]; rfl

/-- All that is owed after `n` events is at an index above `n + 1`. -/
theorem dues_above {n : ℕ} (hn : n < 199) (c : Dev nD) (g : GSem nD τ sig) (i : ℕ) (h : 0 < TalkSites.tallyL (dues c n) g i) :
    i ∈ SiteBlocks.L 200 g ∧ n + 1 < i := by
  obtain ⟨x, hx, hg, hi⟩ := TalkSites.tallyL_pos h
  unfold dues at hx
  obtain ⟨e, he, hq⟩ := List.mem_filterMap.mp hx
  obtain ⟨m, hm, hme⟩ := List.getElem_of_mem he
  rw [List.length_drop, prog_length] at hm
  have hnm : n + m < 199 := by omega
  have hev : ev (n + m) = e := by
    rw [← hme, List.getElem_drop, ev, List.getD_eq_getElem?_getD, List.getElem?_eq_getElem (by rw [prog_length]; exact hnm)]
    rfl
  cases hp : e.pays with
  | none => rw [hp] at hq; cases hq
  | some q =>
    rw [hp] at hq
    cases hq
    have hl := pays_later (n + m) hnm q (by rw [hev, hp]; rfl)
    subst hg hi
    exact ⟨SiteBlocks.mem_L' rfl hl.2, by have := hl.1; show n + 1 < lvl q.w; omega⟩

/-! ## Opening and closing -/

/-- What event `n` does not touch: the other items, the later tokens. -/
def rests (S : Spec F) (c : Dev nD) (n : ℕ) (r : List It) : sProp 𝕄 := iprop(bigSepL r (Psi S c) ∗ bigSepL (prog.drop (n + 1)) (tok c))

variable (S : Spec F) (A : Args F) (K : Nms) (c : Dev nD)

theorem St_open {n : ℕ} (hn : n < 199) : ∃ R : sProp 𝕄,
    (St S A K c n ⊢ iprop(pers S K ∗ bigSepL (pre (ev n)) (Psi S c) ∗ R ∗ (∃ W, owes (c : Thread nD τ) (TalkSites.tallyL (dues c n)) W)
      ∗ tok c (ev n) ∗ bigSepL cells (curAt c n) ∗ argPts A c)) ∧
    (iprop(pers S K ∗ bigSepL (post (ev n)) (Psi S c) ∗ R ∗ (∃ W, owes (c : Thread nD τ) (TalkSites.tallyL (dues c (n + 1))) W)
      ∗ bigSepL cells (curAt c (n + 1)) ∗ argPts A c) ⊢ St S A K c (n + 1)) := by
  obtain ⟨r, hr, hr'⟩ := its_step hn
  refine ⟨rests S c n r, ?_, ?_⟩
  · unfold St side rests
    rw [bigSepL_perm _ hr, bigSepL_append, drop_cons hn, bigSepL_cons']
    iintro ⟨HP, ⟨H1, H2⟩, HO, ⟨HT, HTs⟩, HC, HA⟩
    isplitl [HP]; · iexact HP
    isplitl [H1]; · iexact H1
    isplitl [H2 HTs]
    · isplitl [H2]; · iexact H2
      iexact HTs
    isplitl [HO]; · iexact HO
    isplitl [HT]; · iexact HT
    isplitl [HC]; · iexact HC
    iexact HA
  · unfold St side rests
    rw [hr', bigSepL_append]
    iintro ⟨HP, H1, ⟨H2, HTs⟩, HO, HC, HA⟩
    isplitl [HP]; · iexact HP
    isplitl [H1 H2]
    · isplitl [H2]; · iexact H2
      iexact H1
    isplitl [HO]; · iexact HO
    isplitl [HTs]; · iexact HTs
    isplitl [HC]; · iexact HC
    iexact HA

theorem pers_inv (d : Dev nD) (x : CK) : (pers S K : sProp 𝕄) ⊢ cellInv ER (Rd S) (K (d, x)) (cell d x) := by
  unfold pers
  iintro ⟨H, -, -⟩
  iapply (bigSepL_look (fun y : Dev nD × CK => cellInv ER (Rd S) (K y) (cell y.1 y.2)) (mem_allCells (d, x))) $$ H
theorem pers_zero (d : Dev nD) (x : CK) : (pers S K : sProp 𝕄) ⊢ reached ER (cell d x) 0 := by
  unfold pers
  iintro ⟨-, H, -⟩
  iapply (bigSepL_look (fun y : Dev nD × CK => reached ER (cell y.1 y.2) 0) (mem_allCells (d, x))) $$ H
theorem pers_lev : (pers S K : sProp 𝕄) ⊢ levAts (SiteBlocks.L 200) SiteBlocks.lv := by
  unfold pers
  iintro ⟨-, -, H⟩
  iexact H

/-- A mark of one of the device's own cells. -/
theorem mark_of (n : ℕ) (x : CK) (r : ℕ) (h : r ≤ cnt n x) : (bigSepL cells (curAt c n) : sProp 𝕄) ⊢ reached ER (cell c x) r := by
  refine (bigSepL_look (curAt (F := F) c n) (mem_cells x)).trans ?_
  unfold curAt
  iintro ⟨-, H⟩
  iapply (Rounds.reached_mono ER h) $$ H

theorem curAt_def (n : ℕ) (x : CK) : (curAt c n x : sProp 𝕄) = iprop(atPos ER (cell c x) (cnt n x) ∅ 0 ∗ reached ER (cell c x) (cnt n x)) := rfl

instance reached_L_persistent (l : List (CK × ℕ)) : BI.Persistent (bigSepL l fun y => reached ER (cell c y.1) y.2 : sProp 𝕄) :=
  bigSepL_persistent l _ fun y => by infer_instance

theorem marks_of (n : ℕ) : (l : List (CK × ℕ)) → (∀ y ∈ l, y.2 ≤ cnt n y.1) →
    ((bigSepL cells (curAt c n) : sProp 𝕄) ⊢ iprop((bigSepL l fun y => reached ER (cell c y.1) y.2) ∗ bigSepL cells (curAt c n)))
  | [], _ => by
    iintro H
    isplitr
    · iapply (Entails.of_eq (bigSepL_nil' (fun y : CK × ℕ => reached ER (cell c y.1) y.2)).symm)
      iempintro
    · iexact H
  | y :: l, h => by
    have h2 := marks_of n l fun z hz => h z (List.mem_cons_of_mem _ hz)
    rw [bigSepL_cons']
    iintro H
    ihave ⟨#Hl, H⟩ := h2 $$ H
    ihave H := (Entails.of_eq (bigSepL_out (curAt (F := F) c n) (mem_cells y.1))) $$ H
    icases H with ⟨H1, H2⟩
    ihave H1 := (Entails.of_eq (curAt_def c n y.1)) $$ H1
    icases H1 with ⟨Ha, #Hr⟩
    isplitr
    · isplitr
      · iapply (Rounds.reached_mono ER (h y List.mem_cons_self)) $$ Hr
      · iexact Hl
    · iapply (Entails.of_eq (bigSepL_out (curAt (F := F) c n) (mem_cells y.1)).symm)
      isplitl [Ha]
      · iapply (Entails.of_eq (curAt_def c n y.1).symm)
        isplitl [Ha]; · iexact Ha
        iexact Hr
      · iexact H2

/-! ## Waits -/

/-- The index of a wait. -/
def widx : Ev → ℕ
  | .wsend _ _ _ => 0
  | .wcopy _ _ => 0
  | e => lvl e

theorem wait_cred (e : Ev) {y : CK × ℕ} (h : e.waits = some y) :
    iprop(tok c e ∗ bigSepL (pre e) (Psi S c)) ⊢ (cred (tallyAt (cell c y.1) (widx e) (full y.1)) : sProp 𝕄) := by
  cases e with
  | bwait =>
    cases h
    unfold tok
    simp only [Ev.creds]
    rw [bigSepL_cons', bigSepL_two]
    show _ ⊢ (cred (tallyAt (cell c .bar) (lvl .bwait) 3) : sProp 𝕄)
    rw [← tallyAt_add (cell c .bar) (lvl .bwait) 1 2, ← tallyAt_add (cell c .bar) (lvl .bwait) 1 1]
    iintro ⟨⟨-, -, H1, H2, H3⟩, -⟩
    iapply (cred_add _ _).2
    isplitl [H1]; · iexact H1
    iapply (cred_add _ _).2
    isplitl [H2]; · iexact H2
    iexact H3
  | wsend g k p =>
    cases h
    refine (show iprop(tok c (.wsend g k p) ∗ bigSepL [.fly g k p] (Psi S c)) ⊢ Psi S c (.fly g k p) from ?_)
    rw [bigSepL_one]
    iintro ⟨-, H⟩
    iexact H
  | wcopy g p =>
    cases h
    refine (show iprop(tok c (.wcopy g p) ∗ bigSepL [.flyc g p] (Psi S c)) ⊢ Psi S c (.flyc g p) from ?_)
    rw [bigSepL_one]
    iintro ⟨-, H⟩
    iexact H
  | wrecv g k p =>
    cases h
    unfold tok
    simp only [Ev.creds]
    rw [bigSepL_one]
    iintro ⟨⟨-, -, H⟩, -⟩
    iexact H
  | hwait h' g =>
    cases h
    unfold tok
    simp only [Ev.creds]
    rw [bigSepL_one]
    iintro ⟨⟨-, -, H⟩, -⟩
    iexact H
  | _ => cases h

theorem waits_pays (e : Ev) {y : CK × ℕ} (h : e.waits = some y) : e.pays = none := by
  cases e <;> first
    | (cases h; done)
    | rfl

theorem step_wait {α : Type} {Q : α → sProp 𝕄} {n : ℕ} (hn : n < 199) (y : CK × ℕ) (hy : (ev n).waits = some y)
    {w : TpuEff nD τ sig (Elt F) Λ₀ .tc PUnit} {k : PUnit → Prog (TpuEff nD τ sig (Elt F) Λ₀ .tc) α} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = y.1.sem) (hk : k' = full y.1) (Hk : St S A K c (n + 1) ⊢ wps c (k ⟨⟩) Q) : St S A K c n ⊢ wps c (.op w k) Q := by
  subst hsm hk
  obtain ⟨R, h1, h2⟩ := St_open S A K c hn
  refine h1.trans ?_
  have hcnt : cnt n y.1 = y.2 := by
    have := cnt_waits ⟨n, hn⟩
    rw [show ev (⟨n, hn⟩ : Fin 199).val = ev n from rfl, hy, Option.all_some] at this
    exact of_decide_eq_true this
  have hcnt' : cnt (n + 1) y.1 = cnt n y.1 + 1 := by rw [cnt_succ hn, hy, Option.map_some, if_pos rfl]
  have hcells : (bigSepL (cells.erase y.1) (curAt c n) : sProp 𝕄) = bigSepL (cells.erase y.1) (curAt c (n + 1)) := by
    refine bigSepL_ext fun x hx => ?_
    have hne : x ≠ y.1 := (List.Nodup.mem_erase_iff cells_nodup).mp hx |>.1
    unfold curAt
    rw [cnt_succ hn, hy, Option.map_some, if_neg (fun h => hne (Option.some.inj h).symm), Nat.add_zero]
  have hidx : widx (ev n) ≤ n + 1 := by
    have hl := lvl_ev hn
    unfold widx
    split
    · exact Nat.zero_le _
    · exact Nat.zero_le _
    · exact le_of_eq hl
  iintro ⟨#HP, Hpre, HR, ⟨%W, HO⟩, HT, HC, HA⟩
  ihave Hcred := (wait_cred S c (ev n) hy) $$ [HT Hpre]
  · isplitl [HT]; · iexact HT
    iexact Hpre
  ihave HC := (Entails.of_eq (bigSepL_out (curAt (F := F) c n) (mem_cells y.1))) $$ HC
  icases HC with ⟨Hy, HC⟩
  ihave Hy := (Entails.of_eq (curAt_def c n y.1)) $$ Hy
  icases Hy with ⟨Hat, -⟩
  ihave #Hlev := (pers_lev S K) $$ HP
  iapply (Rounds.wp_wait_rest_token 𝒱₀ ER (Rd S) (c : Thread nD τ) none (κ := K (c, y.1)) hw (Set.mem_univ _) (widx (ev n))
      (O := TalkSites.tallyL (dues c n)) (W := W) (R := cnt n y.1) (m := 0) (T := ∅)
      (by rw [Nat.zero_add, hcnt]; exact (expect_wait S c hy).symm)) $$ [Hcred HO Hat]
  · isplitr; · iapply (pers_inv S K c y.1) $$ HP
    isplitl [Hcred]; · iexact Hcred
    isplitl [HO]; · iexact HO
    isplitr
    · iapply (SiteBlocks.mayWait_of (N := 200) (i := widx (ev n)) (by omega) c y.1.sem (TalkSites.tallyL (dues c n))
        fun g i hi => ⟨(dues_above hn c g i hi).1, lt_of_le_of_lt hidx (dues_above hn c g i hi).2⟩) $$ Hlev
    iexact Hat
  iintro ⟨HO, Hat, Hr, Hpay⟩
  iapply Hk
  iapply h2
  isplitr; · iexact HP
  isplitl [Hpay]
  · iapply (Entails.of_eq (show _ = _ by rw [hcnt]; exact rest_wait S c hy)) $$ Hpay
  isplitl [HR]; · iexact HR
  isplitl [HO]
  · iexists _
    rw [dues_keep hn c (waits_pays _ hy)]
    iexact HO
  isplitl [Hat Hr HC]
  · iapply (Entails.of_eq (bigSepL_out (curAt (F := F) c (n + 1)) (mem_cells y.1)).symm)
    isplitl [Hat Hr]
    · iapply (Entails.of_eq (curAt_def c (n + 1) y.1).symm)
      rw [hcnt']
      isplitl [Hat]; · iexact Hat
      iexact Hr
    · iapply (Entails.of_eq hcells) $$ HC
  iexact HA

end Cert.Hyper

end
-- ==== Proof.Ends.lean ====
/-
The two ends of a device's run: its buffers whole are the pieces it starts with, and the pieces it ends with are its
buffers whole, the result's elements as they should be.
-/
module

public import proofs.«01_k».proof.Proof.Kit
public import proofs.«01_k».proof.Proof.Gen.KernelIdeal.Launch

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A buffer's whole box. -/
def allB (b : Bf) : Bx := ⟨0, rows b, 0, cols b⟩

theorem box_all (b : Bf) : boxS b (allB b) = Finset.univ := by
  ext i
  rw [mem_boxS]
  have h0 : (i 0).val < rows b := (i 0).isLt
  have h1 : (i 1).val < cols b := (i 1).isLt
  refine ⟨fun _ => Finset.mem_univ i, fun _ => ⟨Nat.zero_le _, ?_, Nat.zero_le _, ?_⟩⟩
  · show _ < 0 + rows b; omega
  · show _ < 0 + cols b; omega

theorem set_all : (b : Bf) → (bm b).view.setOn (boxS b (allB b)) = Finset.univ
  | .acc 0 => by rw [box_all]; exact View.set_whole _
  | .acc 1 => by rw [box_all]; exact View.set_whole _
  | .acc 2 => by rw [box_all]; exact View.set_whole _
  | .snd 0 => by rw [box_all]; exact View.set_whole _
  | .snd 1 => by rw [box_all]; exact View.set_whole _
  | .snd 2 => by rw [box_all]; exact View.set_whole _
  | .out => by rw [box_all]; exact View.set_whole _

/-- A buffer at some contents. -/
def someB (c : Dev nD) (b : Bf) : sProp 𝕄 :=
  iprop(∃ f : Buf (Elt F) ((bm b).view.loc (c : Thread nD τ)), (bm b).view.loc (c : Thread nD τ) ↦{fullShare} f)

theorem own_all (c : Dev nD) (b : Bf) (P : ℕ → ℕ → Elt F .bf16 → Prop) :
    (ownB c b (allB b) fullShare P : sProp 𝕄)
      ⊢ iprop(∃ f : Buf (Elt F) ((bm b).view.loc (c : Thread nD τ)), ⌜∀ i, P (i 0).val (i 1).val ((bm b).view.read (Elt F) f i)⌝
        ∗ ((bm b).view.loc (c : Thread nD τ) ↦{fullShare} f)) := by
  unfold ownB
  rw [set_all, box_all]
  iintro ⟨%f, %hf, Hf⟩
  iexists f
  isplitr [Hf]
  · ipureintro; exact fun i => hf i (Finset.mem_univ i)
  · iexact Hf

theorem own_some (c : Dev nD) (b : Bf) : (someB c b : sProp 𝕄) ⊢ ownB c b (allB b) fullShare (relT (F := F) ⟨fun _ _ _ _ => True, fun _ _ _ _ _ => True, fun _ _ _ _ _ => True, fun _ _ _ => True⟩ c b .any) := by
  unfold ownB someB
  rw [set_all]
  iintro ⟨%f, Hf⟩
  iexists f
  isplitr [Hf]
  · ipureintro; exact fun i _ => trivial
  · iexact Hf

theorem some_own (c : Dev nD) (b : Bf) (P : ℕ → ℕ → Elt F .bf16 → Prop) : (ownB c b (allB b) fullShare P : sProp 𝕄) ⊢ someB c b := by
  refine (own_all c b P).trans ?_
  unfold someB
  iintro ⟨%f, -, Hf⟩
  iexists f
  iexact Hf

/-- An accumulator's pieces, a send buffer's, the result's. -/
def accPc (g : Fin 3) : List Pc := [.A g, .B1 g, .B2 g false, .B2 g true]
@[inherit_doc accPc] def sndPc (g : Fin 3) : List Pc := [.SA g, .SB g, .R1 g, .R2 g]
@[inherit_doc accPc] def outPc (g : Fin 3) (p : Fin 2) : List Pc := [.OQ g p, .OR g p, .OH g p, .OF g p]

section Whole
variable (S : Spec F) (c : Dev nD) (t : Tg)

theorem acc_all (g : Fin 3) : bigSepL (accPc g) (fun x => ownP S c x t) = ownB c (.acc g) (allB (.acc g)) fullShare (relT S c (.acc g) t) := by
  have h := b1_le g c
  unfold accPc
  rw [bigSepL_cons', join_B]
  unfold ownP
  refine join_two (b := .acc g) (allB (.acc g)) ((Pc.A g).box c) ⟨b1 g c * 1024, 1024, 0, wid g⟩ rfl rfl rfl rfl ?_ _ _
  unfold Pc.box allB rows
  dsimp only
  omega

theorem snd_all (g : Fin 3) : bigSepL (sndPc g) (fun x => ownP S c x t) = ownB c (.snd g) (allB (.snd g)) fullShare (relT S c (.snd g) t) := by
  have h : bigSepL [.R1 g, .R2 g] (fun x => ownP S c x t) = ownB c (.snd g) ⟨2048, 1536, 0, wid g⟩ fullShare (relT S c (.snd g) t) := by
    refine join_pcs S c (.snd g) t _ _ _ rfl rfl rfl rfl rfl rfl rfl rfl ?_
    unfold Pc.box
    dsimp only
    omega
  rw [show sndPc g = ([.SA g, .SB g] : List Pc) ++ [.R1 g, .R2 g] from rfl, bigSepL_append, join_S, h]
  refine join_two (b := .snd g) (allB (.snd g)) ⟨0, 2048, 0, wid g⟩ ⟨2048, 1536, 0, wid g⟩ rfl rfl rfl rfl ?_ _ _
  unfold allB rows
  dsimp only
  omega

/-- A column band more of the result. -/
theorem band (a w : ℕ) (P : ℕ → ℕ → Elt F .bf16 → Prop) :
    iprop(ownB c .out ⟨0, 4096, 0, a⟩ fullShare P ∗ ownB c .out ⟨0, 4096, a, w⟩ fullShare P) = (ownB c .out ⟨0, 4096, 0, a + w⟩ fullShare P : sProp 𝕄) := by
  have hu : boxS .out ⟨0, 4096, 0, a + w⟩ = boxS .out ⟨0, 4096, 0, a⟩ ∪ boxS .out ⟨0, 4096, a, w⟩ := by
    ext i
    rw [Finset.mem_union, mem_boxS, mem_boxS, mem_boxS]
    dsimp only
    omega
  have hd : Disjoint (boxS .out ⟨0, 4096, 0, a⟩) (boxS .out ⟨0, 4096, a, w⟩) := by
    rw [Finset.disjoint_left]
    intro i
    rw [mem_boxS, mem_boxS]
    dsimp only
    omega
  exact (equiv_iff.mp ⟨(ownB_union hu hd).1, (ownB_union hu hd).2⟩).symm

/-- The bands of the groups and passes, in the order of their columns. -/
def bands : List (Fin 3 × Fin 2) := gs.flatMap fun g => ps.map fun p => (g, p)

/-- The bands' pieces at a property that no pass changes are the result whole. -/
theorem out_all (T : Fin 2 → Tg) (P : ℕ → ℕ → Elt F .bf16 → Prop) (hT : ∀ p, relT S c .out (T p) = P) :
    bigSepL bands (fun y => bigSepL (outPc y.1 y.2) fun x => ownP S c x (T y.2)) = ownB c .out (allB .out) fullShare P := by
  have hb : ∀ y : Fin 3 × Fin 2, bigSepL (outPc y.1 y.2) (fun x => ownP S c x (T y.2)) = ownB c .out ⟨0, 4096, col0 y.2 y.1, wid y.1⟩ fullShare P := fun y => by
    unfold outPc
    rw [join_O4, hT]
  rw [bigSepL_ext fun y _ => hb y]
  have e : bands = [(0, 0), (0, 1), (1, 0), (1, 1), (2, 0), (2, 1)] := by decide
  rw [e]
  simp only [bigSepL_cons', bigSepL_nil']
  have j (a w a' w' : ℕ) (ha : a' = a) (hw : a + w = w') (X : sProp 𝕄) :
      iprop(ownB c .out ⟨0, 4096, 0, a⟩ fullShare P ∗ ownB c .out ⟨0, 4096, a', w⟩ fullShare P ∗ X)
        = iprop(ownB c .out ⟨0, 4096, 0, w'⟩ fullShare P ∗ X) := by
    rw [ha, ← hw, ← band c a w P]
    exact (equiv_iff.mp ⟨BI.sep_assoc, BI.sep_assoc'⟩).symm
  rw [show col0 0 0 = 0 from rfl, j (wid 0) (wid 0) (col0 1 0) 2560 (by decide) (by decide),
    j 2560 (wid 1) (col0 0 1) 3968 (by decide) (by decide), j 3968 (wid 1) (col0 1 1) 5376 (by decide) (by decide),
    j 5376 (wid 2) (col0 0 2) 6784 (by decide) (by decide), j 6784 (wid 2) (col0 1 2) 8192 (by decide) (by decide)]
  exact equiv_iff.mp BI.sep_emp

end Whole

theorem bigSepL_flat {I J : Type} (l : List I) (h : I → List J) (Φ : J → sProp 𝕄) :
    bigSepL (l.flatMap h) Φ = bigSepL l fun i => bigSepL (h i) Φ := by
  induction l with
  | nil => rfl
  | cons i l ih => rw [List.flatMap_cons, bigSepL_append, ih, bigSepL_cons']

theorem bigSepL_map' {I J : Type} (l : List I) (h : I → J) (Φ : J → sProp 𝕄) : bigSepL (l.map h) Φ = bigSepL l fun i => Φ (h i) := by
  induction l with
  | nil => rfl
  | cons i l ih => rw [List.map_cons, bigSepL_cons', ih, bigSepL_cons']

theorem bigSepL_mono' {I : Type} {l : List I} {Φ Ψ : I → sProp 𝕄} (h : ∀ i ∈ l, Φ i ⊢ Ψ i) : bigSepL l Φ ⊢ bigSepL l Ψ := by
  induction l with
  | nil => exact BIBase.Entails.rfl
  | cons i l ih =>
    rw [bigSepL_cons', bigSepL_cons']
    exact BI.sep_mono (h i List.mem_cons_self) (ih fun j hj => h j (List.mem_cons_of_mem _ hj))

/-- The buffers besides the result. -/
def bufs : List Bf := [.snd 0, .snd 1, .snd 2, .acc 0, .acc 1, .acc 2]

section Ends
variable (S : Spec F) (c : Dev nD)

/-- The pieces, buffer by buffer. -/
theorem pieces_eq (T : Fin 2 → Tg) (P : ℕ → ℕ → Elt F .bf16 → Prop) (hT : ∀ p, relT S c .out (T p) = P) :
    iprop((bigSepL gs fun g => bigSepL (accPc g) fun x => ownP S c x .any) ∗ (bigSepL gs fun g => bigSepL (sndPc g) fun x => ownP S c x .any)
        ∗ bigSepL bands (fun y => bigSepL (outPc y.1 y.2) fun x => ownP S c x (T y.2)))
      = iprop((bigSepL gs fun g => ownB c (.acc g) (allB (.acc g)) fullShare (relT S c (.acc g) .any))
        ∗ (bigSepL gs fun g => ownB c (.snd g) (allB (.snd g)) fullShare (relT S c (.snd g) .any)) ∗ ownB c .out (allB .out) fullShare P) := by
  rw [bigSepL_ext fun g _ => acc_all S c .any g, bigSepL_ext fun g _ => snd_all S c .any g, out_all S c T P hT]

/-- The pieces a device starts with. -/
theorem start_pieces : (iprop(someB c .out ∗ bigSepL bufs (someB c)) : sProp 𝕄) ⊢ bigSepL (its 0) (Psi S c) := by
  have e : bigSepL (its 0) (Psi S c)
      = iprop((bigSepL gs fun g => bigSepL (accPc g) fun x => ownP S c x .any) ∗ (bigSepL gs fun g => bigSepL (sndPc g) fun x => ownP S c x .any)
        ∗ bigSepL bands (fun y => bigSepL (outPc y.1 y.2) fun x => ownP S c x ((fun _ => .any) y.2))) := by
    rw [its_zero, pcs, bigSepL_map']
    rw [show allPc = gs.flatMap accPc ++ (gs.flatMap sndPc ++ bands.flatMap fun y => outPc y.1 y.2) from rfl]
    rw [bigSepL_append, bigSepL_append, bigSepL_flat, bigSepL_flat, bigSepL_flat]
    rfl
  rw [e, pieces_eq S c (fun _ => .any) (relT S c .out .any) fun _ => rfl]
  unfold gs bufs
  simp only [bigSepL_cons', bigSepL_nil']
  have h (b : Bf) : (someB c b : sProp 𝕄) ⊢ ownB c b (allB b) fullShare (relT S c b .any) :=
    (own_some c b).trans (ownB_mono fun _ _ _ _ => trivial)
  iintro ⟨HO, H0, H1, H2, H3, H4, H5, -⟩
  isplitl [H3 H4 H5]
  · isplitl [H3]; · iapply (h (.acc 0)); iexact H3
    isplitl [H4]; · iapply (h (.acc 1)); iexact H4
    isplitl [H5]; · iapply (h (.acc 2)); iexact H5
    iempintro
  isplitl [H0 H1 H2]
  · isplitl [H0]; · iapply (h (.snd 0)); iexact H0
    isplitl [H1]; · iapply (h (.snd 1)); iexact H1
    isplitl [H2]; · iapply (h (.snd 2)); iexact H2
    iempintro
  iapply (h .out); iexact HO

/-- A piece without what is known of it. -/
def noT : It → It
  | .pc x _ => .pc x .any
  | i => i

theorem noT_of (i : It) : (Psi S c i : sProp 𝕄) ⊢ Psi S c (noT i) := by
  cases i with
  | pc x t => exact ownB_mono fun _ _ _ _ => trivial
  | _ => exact BIBase.Entails.rfl

/-- The result, summed and at least zero. -/
def outIs : sProp 𝕄 :=
  iprop(∃ f : Buf (Elt F) ((bm .out).view.loc (c : Thread nD τ)), ⌜∀ i, S.R3 (i 0).val (i 1).val ((bm .out).view.read (Elt F) f i)⌝
    ∗ ((bm .out).view.loc (c : Thread nD τ) ↦{fullShare} f))

/-- The items of the buffers besides the result that a device ends with. -/
def lastB : List It :=
  (gs.flatMap fun g => [.pc (.A g) (.t 1 true 1), .pc (.B1 g) (.t 2 true 1), .pc (.B2 g false) (.t 3 true 1), .pc (.B2 g true) (.t 3 true 1)])
    ++ (gs.flatMap fun g => [.pc (.SA g) (.t 0 true 1), .pc (.SB g) (.t 0 true 1), .pc (.R1 g) (.t 1 false 1), .pc (.R2 g) (.t 2 false 1)])

theorem lastB_noT : lastB.map noT = pcs (gs.flatMap accPc ++ gs.flatMap sndPc) .any := by decide

theorem last_pieces : (bigSepL (its 199) (Psi S c) : sProp 𝕄) ⊢ iprop(outIs S c ∗ bigSepL bufs (someB c)) := by
  have hP : ∀ p : Fin 2, relT S c .out (.t 3 true p) = S.R3 := fun p => rfl
  have e : bigSepL (lastB.map noT ++ bands.flatMap (fun y => (outPc y.1 y.2).map fun x => .pc x (.t 3 true y.2))) (Psi S c)
      = iprop((bigSepL gs fun g => bigSepL (accPc g) fun x => ownP S c x .any) ∗ (bigSepL gs fun g => bigSepL (sndPc g) fun x => ownP S c x .any)
        ∗ bigSepL bands (fun y => bigSepL (outPc y.1 y.2) fun x => ownP S c x ((fun p => .t 3 true p) y.2))) := by
    have h (y : Fin 3 × Fin 2) : bigSepL ((outPc y.1 y.2).map fun x => .pc x (.t 3 true y.2)) (Psi S c)
        = bigSepL (outPc y.1 y.2) fun x => ownP S c x (.t 3 true y.2) := bigSepL_map' _ _ _
    rw [lastB_noT, bigSepL_append, pcs, bigSepL_map', bigSepL_append, bigSepL_flat, bigSepL_flat, bigSepL_flat, bigSepL_ext fun y _ => h y]
    exact equiv_iff.mp ⟨BI.sep_assoc, BI.sep_assoc'⟩
  have hf : finals = (lastB ++ bands.flatMap (fun y => (outPc y.1 y.2).map fun x => .pc x (.t 3 true y.2))) ++ [.rch 0, .rch 1, .rch 2] := rfl
  have hw : bigSepL lastB (Psi S c) ⊢ bigSepL (lastB.map noT) (Psi S c) := by
    rw [bigSepL_map']
    exact bigSepL_mono' fun i _ => noT_of S c i
  rw [bigSepL_perm (Psi S c) its_fin, hf, bigSepL_append, bigSepL_append]
  refine (show _ ⊢ bigSepL (lastB.map noT ++ bands.flatMap (fun y => (outPc y.1 y.2).map fun x => .pc x (.t 3 true y.2))) (Psi S c) from by
    rw [bigSepL_append]
    iintro ⟨⟨H1, H2⟩, -⟩
    isplitl [H1]
    · iapply hw; iexact H1
    · iexact H2).trans ?_
  rw [e, pieces_eq S c (fun p => .t 3 true p) S.R3 hP]
  unfold gs bufs outIs
  simp only [bigSepL_cons', bigSepL_nil']
  have h (b : Bf) : (ownB c b (allB b) fullShare (relT S c b .any) : sProp 𝕄) ⊢ someB c b := some_own c b _
  iintro ⟨⟨H3, H4, H5, -⟩, ⟨H0, H1, H2, -⟩, HO⟩
  isplitl [HO]
  · iapply (own_all c .out S.R3); iexact HO
  isplitl [H0]; · iapply (h (.snd 0)); iexact H0
  isplitl [H1]; · iapply (h (.snd 1)); iexact H1
  isplitl [H2]; · iapply (h (.snd 2)); iexact H2
  isplitl [H3]; · iapply (h (.acc 0)); iexact H3
  isplitl [H4]; · iapply (h (.acc 1)); iexact H4
  isplitl [H5]; · iapply (h (.acc 2)); iexact H5
  iempintro

end Ends

end Cert.Hyper

end
-- ==== Proof.Fund.lean ====
/-
What the launch deals a device: the cells' invariants, the tokens of the payments it makes, the credit of the payments
made to it.
-/
module

public import proofs.«01_k».proof.Proof.Ends
public import Idealize.ShloMosaic.Lib.Pipeline.Launch
public import Idealize.ShloMosaic.Lib.Pipeline.Kit
public import Idealize.ShloMosaic.Lib.Tactic

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Cells and tokens -/

/-- The key of a token: cell, round, duty. -/
abbrev Key : Type := CK × ℕ × Fin 3

/-- The tokens an event uses: to which neighbour, or on the device itself. -/
def Ev.toks (e : Ev) : List (Option (Fin 3) × Key) :=
  (e.pays.map fun q => (some q.i, q.x, q.r, q.d)).toList ++ (e.owns.map fun y => (none, y.1, y.2, 0)).toList
def tokL : List (Option (Fin 3) × Key) := prog.flatMap Ev.toks

theorem keys_nodup : (tokL.map Prod.snd).Nodup := by decide +kernel

def tgt (i : Option (Fin 3)) (c : Dev nD) : Dev nD := i.elim c fun i => nbr i c
theorem tgt_inj (i : Option (Fin 3)) {c c' : Dev nD} (h : tgt i c = tgt i c') : c = c' := by
  cases i with
  | none => exact h
  | some i =>
    have := congrArg (nbr i) (show nbr i c = nbr i c' from h)
    rwa [nbr_nbr, nbr_nbr] at this

abbrev tokAt (c : Dev nD) (t : Option (Fin 3) × Key) : GSem nD τ sig × ℕ × Fin 3 := (cell (tgt t.1 c) t.2.1, t.2.2)

theorem tokAt_inj {c c' : Dev nD} {t t' : Option (Fin 3) × Key} (ht : t ∈ tokL) (ht' : t' ∈ tokL) (h : tokAt c t = tokAt c' t') : c = c' ∧ t = t' := by
  have h1 := cell_inj (Prod.ext_iff.mp h).1
  have h2 : t.2 = t'.2 := Prod.ext h1.2 (Prod.ext_iff.mp h).2
  have h3 : t = t' := List.inj_on_of_nodup_map keys_nodup ht ht' h2
  subst h3
  exact ⟨tgt_inj _ h1.1, rfl⟩

theorem devs_nodup : devs.Nodup := List.nodup_finRange 8
theorem devs_univ : (Finset.univ : Finset (Dev nD)) = devs.toFinset := by decide

/-- All tokens, by who uses them. -/
def allToks : List (GSem nD τ sig × ℕ × Fin 3) := devs.flatMap fun c => tokL.map (tokAt c)

theorem allToks_nodup : allToks.Nodup := by
  unfold allToks
  rw [List.nodup_flatMap]
  refine ⟨fun c _ => (List.nodup_map_iff_inj_on (List.Nodup.of_map _ keys_nodup)).mpr fun t ht t' ht' h => (tokAt_inj ht ht' h).2, ?_⟩
  refine devs_nodup.imp fun {c c'} hne => ?_
  intro x hx hx'
  obtain ⟨t, ht, rfl⟩ := List.mem_map.mp hx
  obtain ⟨t', ht', he⟩ := List.mem_map.mp hx'
  exact hne (tokAt_inj ht ht' he.symm).1

theorem allCells_nodup : allCells.Nodup := by decide +kernel
def cellL : List (GSem nD τ sig) := allCells.map fun y => cell y.1 y.2
theorem cellL_nodup : cellL.Nodup :=
  (List.nodup_map_iff_inj_on allCells_nodup).mpr fun y _ y' _ h => Prod.ext (cell_inj h).1 (cell_inj h).2

def u₀ : UU :=
  (initOf (Pipeline.cells cfgs cellOf_inj) (Pipeline.launchToks cfgs cellOf_inj), initOf cellL.toFinset allToks.toFinset)

/-! ## Lists over all devices -/

theorem over_devs (Φ : Dev nD → sProp 𝕄) : bigSep Finset.univ Φ = bigSepL devs Φ := bigSep_univ_eq_bigSepL devs devs_univ devs_nodup Φ

theorem swap_mid (P Q R T : sProp 𝕄) : iprop((P ∗ Q) ∗ R ∗ T) ⊢ iprop((P ∗ R) ∗ Q ∗ T) := by
  iintro ⟨⟨H1, H2⟩, H3, H4⟩
  isplitl [H1 H3]
  · isplitl [H1] <;> iassumption
  · isplitl [H2] <;> iassumption

theorem bigSepL_sep {I : Type} (l : List I) (Φ Ψ : I → sProp 𝕄) : bigSepL l (fun i => iprop(Φ i ∗ Ψ i)) = iprop(bigSepL l Φ ∗ bigSepL l Ψ) := by
  induction l with
  | nil => exact (equiv_iff.mp BI.sep_emp).symm
  | cons i l ih =>
    rw [bigSepL_cons', bigSepL_cons', bigSepL_cons', ih]
    exact equiv_iff.mp ⟨swap_mid _ _ _ _, swap_mid _ _ _ _⟩

theorem cells_devs (Φ : Dev nD → CK → sProp 𝕄) : bigSepL allCells (fun y => Φ y.1 y.2) = bigSepL devs fun c => bigSepL cells (Φ c) := by
  unfold allCells
  rw [bigSepL_flat]
  exact bigSepL_ext fun c _ => bigSepL_map' _ _ _

theorem bigSepL_fupd {I : Type} (l : List I) (Φ : I → sProp 𝕄) : bigSepL l (fun i => iprop(|={Set.univ}=> Φ i)) ⊢ |={Set.univ}=> bigSepL l Φ := by
  induction l with
  | nil => exact fupd_intro
  | cons i l ih =>
    rw [bigSepL_cons', bigSepL_cons']
    iintro ⟨H1, H2⟩
    imod H1 with H1
    imod ih $$ H2 with H2
    imodintro
    isplitl [H1] <;> iassumption

/-! ## The semaphores -/

def osem (k : Fin 57) : SemLoc sig := (cells.getD k.val .bar).sem

theorem ownSemFacts : Pipeline.OwnSemFacts cfg0.spec osem := by decide +kernel

theorem cells_split : cells = (List.finRange 57).map (fun k => cells.getD k.val .bar) ++ [.bar] := by decide +kernel

theorem sems_eq (c : Dev nD) : (bigSepL cells (fun x => semVal (cell c x) 0) : sProp 𝕄)
    = iprop(Pipeline.ownSems0 (Ix := ℕ) (Name := ℕ) (U := UU) (Lvl := ℕ) (Val := Elt F) (τ := τ) osem c ∗ unscopedSems0 c) := by
  rw [Pipeline.ownSems0_eq_of_list c osem (List.finRange 57) (by decide +kernel) (List.nodup_finRange 57), cells_split, bigSepL_append, bigSepL_map', bigSepL_one]
  unfold unscopedSems0
  rw [bigSep_eq_bigSepL_of_eq [SemLoc.reg (12 : Fin 13)] (by decide +kernel) (by decide), bigSepL_one]
  rfl

/-! ## The ghost state -/

section Ghost
variable (S : Spec F)

def toks (c : Dev nD) : sProp 𝕄 := bigSepL tokL fun t => dutyTok ER (tokAt c t).1 (tokAt c t).2.1 (tokAt c t).2.2

def G (c : Dev nD) : sProp 𝕄 :=
  iprop(bigSepL cells (fun x => roundState ER (Rd S) (cell c x) 0) ∗ bigSepL cells (fun x => reached ER (cell c x) 0)
    ∗ bigSepL cells (fun x => atPos ER (cell c x) 0 ∅ 0) ∗ toks c)

theorem fund_all : BI.own (ER (initOf cellL.toFinset allToks.toFinset)) ⊢ (|==> bigSep Finset.univ (G S) : sProp 𝕄) := by
  have hX (Φ : GSem nD τ sig → sProp 𝕄) : bigSep cellL.toFinset Φ = bigSepL devs fun c => bigSepL cells fun x => Φ (cell c x) := by
    rw [bigSep_eq_bigSepL _ cellL_nodup, cellL, bigSepL_map']
    exact cells_devs fun c x => Φ (cell c x)
  have hT : bigSep allToks.toFinset (fun x => (dutyTok ER x.1 x.2.1 x.2.2 : sProp 𝕄)) = bigSepL devs toks := by
    rw [bigSep_eq_bigSepL _ allToks_nodup, allToks, bigSepL_flat]
    exact bigSepL_ext fun c _ => bigSepL_map' _ _ _
  iintro HX
  imod (Rounds.fund ER (Rd S) cellL.toFinset allToks.toFinset) $$ HX with ⟨Hst, Hr, Hat, Htok⟩
  imodintro
  ihave Hst' := (Entails.of_eq (hX fun g => roundState ER (Rd S) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  iapply (Entails.of_eq (over_devs (G S)).symm)
  unfold G
  iapply (Entails.of_eq (bigSepL_sep devs _ _).symm)
  isplitl [Hst']; · iexact Hst'
  iapply (Entails.of_eq (bigSepL_sep devs _ _).symm)
  isplitl [Hr']; · iexact Hr'
  iapply (Entails.of_eq (bigSepL_sep devs _ _).symm)
  isplitl [Hat']; · iexact Hat'
  iexact Htok'

/-- The invariants and marks of all cells. -/
def recs (K : Nms) : sProp 𝕄 :=
  iprop(bigSepL allCells (fun y => cellInv ER (Rd S) (K y) (cell y.1 y.2)) ∗ bigSepL allCells (fun y => reached ER (cell y.1 y.2) 0))

instance recs_persistent (K : Nms) : BI.Persistent (recs S K) := by
  haveI := bigSepL_persistent (F := F) allCells (fun y => cellInv ER (Rd S) (K y) (cell y.1 y.2)) fun y => by infer_instance
  haveI := bigSepL_persistent (F := F) allCells (fun y => reached ER (cell y.1 y.2) 0) fun y => by infer_instance
  unfold recs; infer_instance

/-- What a device has of its own before its first event. -/
def mine (c : Dev nD) : sProp 𝕄 := iprop(bigSepL cells (curAt c 0) ∗ toks c)

def G' (c : Dev nD) : sProp 𝕄 := iprop(∃ K, recs S K ∗ mine c)

/-- One device's invariants. -/
theorem alloc (c : Dev nD) :
    iprop(Pipeline.ownSems0 (Ix := ℕ) (Name := ℕ) (U := UU) (Lvl := ℕ) (Val := Elt F) (τ := τ) osem c ∗ unscopedSems0 c ∗ G S c)
      ⊢ |={Set.univ}=> iprop(bigSepL cells (fun x => iprop(∃ κ : ℕ, cellInv ER (Rd S) κ (cell c x))) ∗ bigSepL cells (fun x => reached ER (cell c x) 0) ∗ mine c) := by
  have hi : iprop(bigSepL cells (fun x => semVal (cell c x) 0) ∗ bigSepL cells (fun x => roundState ER (Rd S) (cell c x) 0))
      ⊢ (|={Set.univ}=> bigSepL cells (fun x => iprop(∃ κ : ℕ, cellInv ER (Rd S) κ (cell c x))) : sProp 𝕄) := by
    rw [← bigSepL_sep]
    exact (bigSepL_mono' fun x _ => (Rounds.body_intro ER (Rd S) (cell c x)).trans inv_alloc).trans (bigSepL_fupd _ _)
  haveI := bigSepL_persistent (F := F) cells (fun x => reached ER (cell c x) 0) fun y => by infer_instance
  unfold G
  iintro ⟨Hos, Hus, Hst, #Hr, Hat, Htok⟩
  ihave Hv := (Entails.of_eq (sems_eq (F := F) c).symm) $$ [Hos Hus]
  · isplitl [Hos] <;> iassumption
  imod hi $$ [Hv Hst] with Hinv
  · isplitl [Hv] <;> iassumption
  imodintro
  isplitl [Hinv]; · iexact Hinv
  isplitr; · iexact Hr
  unfold mine
  isplitr [Htok]
  · iapply (Entails.of_eq (bigSepL_sep cells (fun x => atPos ER (cell c x) 0 ∅ 0) fun x => reached ER (cell c x) 0).symm)
    isplitl [Hat]; · iexact Hat
    iexact Hr
  · iexact Htok

theorem deal : (bigSepL devs fun c => iprop(bigSepL cells (fun x => iprop(∃ κ : ℕ, cellInv ER (Rd S) κ (cell c x))) ∗ bigSepL cells (fun x => reached ER (cell c x) 0) ∗ mine c) : sProp 𝕄)
    ⊢ bigSepL devs (G' S) := by
  iintro H
  ihave H := (Entails.of_eq (bigSepL_sep devs _ _)) $$ H
  icases H with ⟨HI, H⟩
  ihave H := (Entails.of_eq (bigSepL_sep devs _ _)) $$ H
  icases H with ⟨Hr, Hm⟩
  ihave HI := (Entails.of_eq (cells_devs fun c x => iprop(∃ κ : ℕ, cellInv ER (Rd S) κ (cell c x))).symm) $$ HI
  ihave Hr := (Entails.of_eq (cells_devs fun c x => (reached ER (cell c x) 0 : sProp 𝕄)).symm) $$ Hr
  ihave HI := (Entails.of_eq (bigSep_eq_bigSepL allCells allCells_nodup fun y => iprop(∃ κ : ℕ, cellInv ER (Rd S) κ (cell y.1 y.2))).symm) $$ HI
  ihave HK := (BI.bigSep_exists_pi allCells.toFinset (fun (y : Dev nD × CK) (κ : ℕ) => (cellInv ER (Rd S) κ (cell y.1 y.2) : sProp 𝕄))) $$ HI
  icases HK with ⟨%K, HK⟩
  ihave HK := (Entails.of_eq (bigSep_eq_bigSepL allCells allCells_nodup fun y => cellInv ER (Rd S) (K y) (cell y.1 y.2))) $$ HK
  have hp : ∀ l : List (Dev nD), iprop(recs S K ∗ bigSepL l mine) ⊢ (bigSepL l (G' S) : sProp 𝕄) := by
    intro l
    induction l with
    | nil => iintro -; iempintro
    | cons c l ih =>
      rw [bigSepL_cons', bigSepL_cons']
      iintro ⟨#HR, H1, H2⟩
      isplitl [H1]
      · unfold G'
        iexists K
        isplitr; · iexact HR
        iexact H1
      · iapply ih
        isplitr; · iexact HR
        iexact H2
  iapply (hp devs)
  isplitr [Hm]
  · unfold recs
    isplitl [HK] <;> iassumption
  · iexact Hm

theorem glob : (bigSep Finset.univ fun c => iprop(Pipeline.ownSems0 (Ix := ℕ) (Name := ℕ) (U := UU) (Lvl := ℕ) (Val := Elt F) (τ := τ) osem c ∗ unscopedSems0 c ∗ G S c) : sProp 𝕄)
    ⊢ |={Set.univ}=> bigSep Finset.univ (G' S) := by
  rw [over_devs, over_devs]
  exact ((bigSepL_mono' fun c _ => alloc S c).trans (bigSepL_fupd _ _)).trans (BI.fupd_mono (deal S))

end Ghost

/-! ## The launch credit -/

def payL : List Due := prog.filterMap Ev.pays

theorem dues_zero (c : Dev nD) : dues c 0 = payL.map (dueOf c) := by
  unfold dues payL
  rw [List.drop_zero, List.map_filterMap]

theorem dues_end (c : Dev nD) : dues c 199 = [] := by
  unfold dues
  rw [List.drop_of_length_le (le_of_eq prog_length)]
  rfl

theorem launch_dues (c : Dev nD) (l : List Due) : (Pipeline.launchCred (fun d => TalkSites.tallyL (l.map (dueOf d))) c : sProp 𝕄)
    ⊢ bigSepL l fun q => cred (tallyAt (cell c q.x) (lvl q.w) (amt q.x)) := by
  induction l with
  | nil => exact Entails.of_eq (Pipeline.launchCred_zero c)
  | cons q l ih =>
    rw [bigSepL_cons']
    have e : (Pipeline.launchCred (fun d => TalkSites.tallyL ((q :: l).map (dueOf d))) c : sProp 𝕄)
        = iprop(Pipeline.launchCred (fun d => tallyAt (cell (nbr q.i d) q.x) (lvl q.w) (amt q.x)) c ∗ Pipeline.launchCred (fun d => TalkSites.tallyL (l.map (dueOf d))) c) :=
      Pipeline.launchCred_add _ _ c
    rw [e]
    exact BI.sep_mono (Pipeline.launchCred_tallyAt q.x.sem (nbr q.i) (nbr q.i) (nbr_nbr q.i) (nbr_nbr q.i) (lvl q.w) (amt q.x) c) ih

theorem pay_creds : (payL.map fun q => (q.x, lvl q.w)).Perm (prog.flatMap Ev.creds) := by
  rw [← List.isPerm_iff]
  decide +kernel

theorem creds_all (c : Dev nD) : (Pipeline.launchCred (fun d => TalkSites.tallyL (dues d 0)) c : sProp 𝕄)
    ⊢ bigSepL prog fun e => bigSepL e.creds fun y => cred (tallyAt (cell c y.1) y.2 (amt y.1)) := by
  rw [← bigSepL_flat, ← bigSepL_perm _ pay_creds, bigSepL_map', show (fun d => TalkSites.tallyL (dues d 0)) = fun d => TalkSites.tallyL (payL.map (dueOf d)) from
    funext fun d => by rw [dues_zero]]
  exact launch_dues c payL

/-- The tokens and credits, event by event. -/
theorem tok_all (c : Dev nD) : (iprop(toks c ∗ bigSepL prog fun e => bigSepL e.creds fun y => cred (tallyAt (cell c y.1) y.2 (amt y.1))) : sProp 𝕄)
    ⊢ bigSepL prog (tok c) := by
  unfold toks tokL
  rw [bigSepL_flat, ← bigSepL_sep]
  refine bigSepL_mono' fun e _ => ?_
  unfold tok Ev.toks
  rw [bigSepL_append]
  have h1 : (bigSepL (e.pays.map fun q => (some q.i, q.x, q.r, q.d)).toList (fun t => dutyTok ER (tokAt c t).1 (tokAt c t).2.1 (tokAt c t).2.2) : sProp 𝕄)
      ⊢ e.pays.elim iprop(emp) fun q => dutyTok ER (cell (nbr q.i c) q.x) q.r q.d := by
    cases e.pays with
    | none => exact BIBase.Entails.rfl
    | some q => exact Entails.of_eq (bigSepL_one _ _)
  have h2 : (bigSepL (e.owns.map fun y => (none, y.1, y.2, 0)).toList (fun t => dutyTok ER (tokAt c t).1 (tokAt c t).2.1 (tokAt c t).2.2) : sProp 𝕄)
      ⊢ e.owns.elim iprop(emp) fun y => dutyTok ER (cell c y.1) y.2 0 := by
    cases e.owns with
    | none => exact BIBase.Entails.rfl
    | some q => exact Entails.of_eq (bigSepL_one _ _)
  iintro ⟨⟨H1, H2⟩, H3⟩
  isplitl [H1]; · iapply h1; iexact H1
  isplitl [H2]; · iapply h2; iexact H2
  iexact H3

end Cert.Hyper

end
-- ==== Proof.Moves.lean ====
/-
Reading and writing boxes; the steps that pay another device: signals, transfers; and the local copies.
-/
module

public import proofs.«01_k».proof.Proof.Kit

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Boxes read and written -/

/-- A unit rectangle of a buffer as a view covers its box. -/
theorem slice_set {b : Bf} {off size : Fin 2 → ℕ} {inb} {B : Bx} (h0 : off 0 = B.r) (h1 : off 1 = B.c) (s0 : size 0 = B.n) (s1 : size 1 = B.m) :
    ((bm b).view.slice (Rect.unit (s := shp b) off size inb)).set = (bm b).view.setOn (boxS b B) := by
  rw [View.set_slice, rect_box h0 h1 s0 s1]; rfl

theorem emb_row {b : Bf} {off size : Fin 2 → ℕ} {inb} (x : (Rect.unit (s := shp b) off size inb).shape.Idx) :
    ((Rect.unit (s := shp b) off size inb).emb x 0).val = off 0 + (x 0).val := by
  rw [Rect.emb_apply]; exact congrArg (off 0 + ·) (Nat.one_mul _)
theorem emb_col {b : Bf} {off size : Fin 2 → ℕ} {inb} (x : (Rect.unit (s := shp b) off size inb).shape.Idx) :
    ((Rect.unit (s := shp b) off size inb).emb x 1).val = off 1 + (x 1).val := by
  rw [Rect.emb_apply]; exact congrArg (off 1 + ·) (Nat.one_mul _)

theorem emb_mem {b : Bf} {off size : Fin 2 → ℕ} {inb} {B : Bx} (h0 : off 0 = B.r) (h1 : off 1 = B.c) (s0 : size 0 = B.n) (s1 : size 1 = B.m)
    (x : (Rect.unit (s := shp b) off size inb).shape.Idx) : (Rect.unit (s := shp b) off size inb).emb x ∈ boxS b B := by
  rw [← rect_box (inb := inb) h0 h1 s0 s1, ← Rect.map_emb_univ]
  exact Finset.mem_map_of_mem _ (Finset.mem_univ x)

theorem mem_emb {b : Bf} {off size : Fin 2 → ℕ} {inb} {B : Bx} (h0 : off 0 = B.r) (h1 : off 1 = B.c) (s0 : size 0 = B.n) (s1 : size 1 = B.m)
    {i : (shp b).Idx} (hi : i ∈ boxS b B) : ∃ x, (Rect.unit (s := shp b) off size inb).emb x = i := by
  rw [← rect_box (inb := inb) h0 h1 s0 s1, ← Rect.map_emb_univ] at hi
  obtain ⟨x, -, hx⟩ := Finset.mem_map.mp hi
  exact ⟨x, hx⟩

/-- What is read through a rectangle has the box's property. -/
theorem read_rel {b : Bf} {off size : Fin 2 → ℕ} {inb} {B : Bx} (h0 : off 0 = B.r) (h1 : off 1 = B.c) (s0 : size 0 = B.n) (s1 : size 1 = B.m)
    {P : ℕ → ℕ → Elt F .bf16 → Prop} {f : (bm b).view.ty.Contents (Elt F)}
    (h : ∀ i ∈ boxS b B, P (i 0).val (i 1).val ((bm b).view.read (Elt F) f i)) (x : (Rect.unit (s := shp b) off size inb).shape.Idx) :
    P (B.r + (x 0).val) (B.c + (x 1).val) (((bm b).view.slice (Rect.unit (s := shp b) off size inb)).read (Elt F) f x) := by
  have := h _ (emb_mem (inb := inb) h0 h1 s0 s1 x)
  rw [emb_row, emb_col, h0, h1] at this
  exact this

/-- What is written through one has the property of what was written. -/
theorem write_rel {b : Bf} {off size : Fin 2 → ℕ} {inb} {B : Bx} (h0 : off 0 = B.r) (h1 : off 1 = B.c) (s0 : size 0 = B.n) (s1 : size 1 = B.m)
    {P : ℕ → ℕ → Elt F .bf16 → Prop} (f : (bm b).view.ty.Contents (Elt F)) (w : (Rect.unit (s := shp b) off size inb).shape.Idx → Elt F .bf16)
    (h : ∀ x, P (B.r + (x 0).val) (B.c + (x 1).val) (w x)) :
    ∀ i ∈ boxS b B, P (i 0).val (i 1).val ((bm b).view.read (Elt F) (((bm b).view.slice (Rect.unit (s := shp b) off size inb)).write (Elt F) f w Finset.univ) i) := by
  intro i hi
  obtain ⟨x, rfl⟩ := mem_emb (inb := inb) h0 h1 s0 s1 hi
  have e := View.read_slice_write_emb (Val := Elt F) (v := (bm b).view) (Rect.unit (s := shp b) off size inb) f w (Finset.mem_univ x)
  have hx := h x
  rw [← h0, ← h1, ← emb_row (inb := inb) x, ← emb_col (inb := inb) x, ← e] at hx
  exact hx

/-! ## Forgetting contents -/

theorem own_any (S : Spec F) (c : Dev nD) (x : Pc) (t : Tg) : (ownP S c x t : sProp 𝕄) ⊢ ownP S c x .any := ownB_mono fun _ _ _ _ => trivial

theorem pcs_Psi (S : Spec F) (c : Dev nD) (l : List Pc) (t : Tg) : (bigSepL (pcs l t) (Psi S c) : sProp 𝕄) = bigSepL l fun x => ownP S c x t := by
  unfold pcs; rw [bigSepL_map]; rfl

/-! ## Signals -/

variable (S : Spec F) (A : Args F) (K : Nms) (c : Dev nD)

/-- What the barrier's signal hands to the neighbour `i`. -/
theorem Psi_pc (x : Pc) (t : Tg) : (Psi S c (.pc x t) : sProp 𝕄) = ownP S c x t := rfl

theorem Psi_lent (g : Fin 3) (k : Fin 7) (p : Fin 2) :
    (Psi S c (.lent g k p) : sProp 𝕄) = iprop(bigSepL (dstP g p k) (fun x => ownP S (peer g k c) x .any) ∗ rchd c g k p) := rfl

theorem lend_all (i : Fin 3) : (l : List (Fin 3 × Fin 7 × Fin 2)) → (∀ y ∈ l, via y.1 y.2.1 = i ∧ (reused y.2.1 = false ∨ y.2.2 = 0)) →
    (iprop(bigSepL (l.flatMap fun y => pcs (dstP y.1 y.2.2 y.2.1) .any) (Psi S c) ∗ bigSepL (l.map fun y => (CK.rcv y.1 y.2.1, 0)) fun y => reached ER (cell c y.1) y.2)
      ⊢ (bigSepL (l.map fun y => It.lent y.1 y.2.1 y.2.2) (Psi S (nbr i c)) : sProp 𝕄))
  | [], _ => by
    iintro ⟨H, -⟩
    iexact H
  | (g, k, p) :: l, h => by
    have ih := lend_all i l fun z hz => h z (List.mem_cons_of_mem _ hz)
    obtain ⟨h1, h2⟩ := h _ List.mem_cons_self
    rw [List.flatMap_cons, List.map_cons, List.map_cons, bigSepL_append, bigSepL_cons', bigSepL_cons', pcs_Psi]
    iintro ⟨⟨H1, H2⟩, #Hr, #Hrs⟩
    isplitl [H1]
    · have hp : peer g k (nbr i c) = c := by unfold peer; rw [h1]; exact nbr_nbr i c
      iapply (Entails.of_eq (Psi_lent S (nbr i c) g k p).symm)
      unfold rchd
      rw [hp]
      isplitl [H1]; · iexact H1
      by_cases h0 : p = 0
      · subst h0
        rw [if_pos (Or.inr rfl)]
        iexact Hr
      · rw [if_neg (fun hh => hh.elim (fun hh => by rw [hh] at h2; exact h2.elim (fun h3 => by cases h3) h0) h0)]
        iempintro
    · iapply ih
      isplitl [H2]; · iexact H2
      iexact Hrs

theorem lents_ok (i : Fin 3) : ∀ y ∈ lents i, via y.1 y.2.1 = i ∧ (reused y.2.1 = false ∨ y.2.2 = 0) := by
  revert i; decide +kernel

theorem backs_any (g : Fin 3) (h : Fin 4) : (bigSepL (backs h g) (Psi S c) : sProp 𝕄) ⊢ bigSepL (dstP g 1 (slotH h)) fun x => ownP S c x .any := by
  have hl : ∀ (l : List Pc) (m : List It), l.length = m.length → (∀ y ∈ m.zip l, ∃ t, y.1 = .pc y.2 t) →
      ((bigSepL m (Psi S c) : sProp 𝕄) ⊢ bigSepL l fun x => ownP S c x .any) := by
    intro l
    induction l with
    | nil =>
      intro m hm _
      rw [List.eq_nil_of_length_eq_zero hm.symm]
      iintro H
      iexact H
    | cons x l ih =>
      intro m hm hz
      cases m with
      | nil => cases hm
      | cons y m =>
        obtain ⟨t, ht⟩ := hz (y, x) List.mem_cons_self
        have h1 := ih m (Nat.succ.inj hm) fun z hh => hz z (List.mem_cons_of_mem _ hh)
        rw [bigSepL_cons', bigSepL_cons', show y = .pc x t from ht]
        iintro ⟨H1, H2⟩
        isplitl [H1]
        · ihave H1 := (Entails.of_eq (Psi_pc S c x t)) $$ H1
          iapply (own_any S c x t)
          iexact H1
        · iapply h1; iexact H2
  refine hl _ _ ?_ ?_
  · revert h g; decide
  · match h with
    | 0 => intro y hy; fin_cases hy <;> exact ⟨_, rfl⟩
    | 1 => intro y hy; fin_cases hy <;> exact ⟨_, rfl⟩
    | 2 => intro y hy; fin_cases hy <;> exact ⟨_, rfl⟩
    | 3 => intro y hy; fin_cases hy <;> exact ⟨_, rfl⟩

theorem slotH_reused : ∀ h : Fin 4, reused (slotH h) = true := by decide

/-- What a signal hands over. -/
theorem sig_pay (e : Ev) (q : Due) (hq : e.pays = some q) (hs : ∀ g k p, e ≠ .send g k p) :
    iprop(bigSepL (pre e) (Psi S c) ∗ bigSepL e.marks fun y => reached ER (cell c y.1) y.2) ⊢ (bigSepL (payItems q.x q.r q.d) (Psi S (nbr q.i c)) : sProp 𝕄) := by
  cases e with
  | bsig i => cases hq; exact lend_all S c i (lents i) (lents_ok i)
  | hsig h g =>
    cases hq
    show iprop(bigSepL (backs h g) (Psi S c) ∗ bigSepL [(CK.rcv g (slotH h), 1)] fun y => reached ER (cell c y.1) y.2)
      ⊢ (bigSepL [.lent g (slotH h) 1] (Psi S (peer g (slotH h) c)) : sProp 𝕄)
    rw [bigSepL_one, bigSepL_one, Psi_lent]
    unfold rchd
    rw [peer_peer, if_pos (Or.inl (slotH_reused h))]
    iintro ⟨H, Hr⟩
    isplitl [H]; · iapply (backs_any S c g h) $$ H
    iexact Hr
  | send g k p => exact absurd rfl (hs g k p)
  | _ => cases hq

theorem pays_waits (e : Ev) {q : Due} (h : e.pays = some q) : e.waits = none := by
  cases e <;> first
    | (cases h; done)
    | rfl

theorem pay_duty (e : Ev) {q : Due} (h : e.pays = some q) : q.d ∈ dut q.x q.r := by
  cases e with
  | bsig i => cases h; exact Finset.mem_univ _
  | hsig h' g => cases h; exact Finset.mem_singleton_self _
  | send g k p => cases h; show (0 : Fin 3) ∈ (if p.val < 2 then {0} else ∅ : Finset (Fin 3)); rw [if_pos p.isLt]; exact Finset.mem_singleton_self _
  | _ => cases h

theorem sig_round (e : Ev) {q : Due} (h : e.pays = some q) (hs : ∀ g k p, e ≠ .send g k p) : q.r = 0 ∧ amt q.x = 1 ∧ post e = [] := by
  cases e with
  | bsig i => cases h; exact ⟨rfl, rfl, rfl⟩
  | hsig h' g => cases h; exact ⟨rfl, rfl, rfl⟩
  | send g k p => exact absurd rfl (hs g k p)
  | _ => cases h

theorem marks_le {n : ℕ} (hn : n < 199) : ∀ y ∈ (ev n).marks, y.2 ≤ cnt n y.1 := by
  have h := cnt_marks ⟨n, hn⟩
  exact fun y hy => of_decide_eq_true (List.all_eq_true.mp h y hy)

theorem tok_pays (e : Ev) {q : Due} (h : e.pays = some q) : (tok c e : sProp 𝕄) = iprop(dutyTok ER (cell (nbr q.i c) q.x) q.r q.d
    ∗ (e.owns.elim iprop(emp) fun y => dutyTok ER (cell c y.1) y.2 0) ∗ bigSepL e.creds fun y => cred (tallyAt (cell c y.1) y.2 (amt y.1))) := by
  unfold tok; rw [h]; rfl

theorem step_sig {α : Type} {Q : α → sProp 𝕄} {n : ℕ} (hn : n < 199) (q : Due) (hq : (ev n).pays = some q) (hs : ∀ g k p, ev n ≠ .send g k p)
    {c' : Dev nD} {sm : Sem sig} {k' : ℕ} {k : PUnit → Prog (TpuEff nD τ sig (Elt F) Λ₀ .tc) α}
    (hc : c' = nbr q.i c) (hsm : SemLoc.reg sm = q.x.sem) (hk : k' = 1) (Hk : St S A K c (n + 1) ⊢ wps c (k ⟨⟩) Q) :
    St S A K c n ⊢ wps c (.op (.semSignal (c' : Thread nD τ) sm k') k) Q := by
  subst hc hk
  obtain ⟨R, h1, h2⟩ := St_open S A K c hn
  refine h1.trans ?_
  obtain ⟨hr0, ha, hpo⟩ := sig_round (ev n) hq hs
  have hcell : ((nbr q.i c : Thread nD τ), SemLoc.reg sm) = cell (nbr q.i c) q.x := by rw [hsm]
  have hw := pays_waits _ hq
  iintro ⟨#HP, Hpre, HR, ⟨%W, HO⟩, HT, HC, HA⟩
  ihave HT := (Entails.of_eq (tok_pays c (ev n) hq)) $$ HT
  icases HT with ⟨Ht, -, -⟩
  ihave ⟨#Hm, HC⟩ := (marks_of c n (ev n).marks (marks_le hn)) $$ HC
  ihave Hpay := (sig_pay S c (ev n) q hq hs) $$ [Hpre]
  · isplitl [Hpre]; · iexact Hpre
    iexact Hm
  iapply (Rounds.wp_signal 𝒱₀ ER (Rd S) (c : Thread nD τ) none (dst := (nbr q.i c : Thread nD τ)) (κ := K (nbr q.i c, q.x)) (sem := sm) (r := q.r)
      (d := q.d) (by rw [hcell, duties_cell]; exact pay_duty _ hq) (by rw [hcell, amount_cell, ha]) (lvl q.w) (TalkSites.tallyL (dues c (n + 1)))
      (O₀ := TalkSites.tallyL (dues c n)) (by rw [hcell]; exact (tally_pay hn c hq).trans (by rw [ha]))) $$ [HO Ht Hpay]
  · rw [hcell]
    isplitr; · iapply (pers_inv S K (nbr q.i c) q.x) $$ HP
    isplitl [HO]; · iexact HO
    isplitl [Ht]; · iexact Ht
    isplitl [Hpay]
    · rw [payload_cell]; iexact Hpay
    · rw [hr0]; iapply (pers_zero S K (nbr q.i c) q.x) $$ HP
  iintro HO
  iapply Hk
  iapply h2
  isplitr; · iexact HP
  isplitr; · rw [hpo]; iapply (Entails.of_eq (bigSepL_nil' (Psi S c)).symm); iempintro
  isplitl [HR]; · iexact HR
  isplitl [HO]; · iexists _; iexact HO
  isplitl [HC]; · rw [curAt_same hn c hw]; iexact HC
  iexact HA

/-! ## Boxes as points-tos -/

theorem own_take {b : Bf} {off size : Fin 2 → ℕ} {inb hr} {B : Bx} (h0 : off 0 = B.r) (h1 : off 1 = B.c) (s0 : size 0 = B.n) (s1 : size 1 = B.m)
    {q : PosShare TreeShare} {P : ℕ → ℕ → Elt F .bf16 → Prop} : (ownB c b B q P : sProp 𝕄) ⊢
      iprop(∃ f : Buf (Elt F) (((bm b).slice (Rect.unit (s := shp b) off size inb) hr).view.loc (c : Thread nD τ)),
        ⌜∀ i ∈ boxS b B, P (i 0).val (i 1).val ((bm b).view.read (Elt F) f i)⌝
          ∗ (((bm b).slice (Rect.unit (s := shp b) off size inb) hr).view.loc (c : Thread nD τ)
              ↦[((bm b).slice (Rect.unit (s := shp b) off size inb) hr).view.set]{q} f)) := by
  rw [show ((bm b).slice (Rect.unit (s := shp b) off size inb) hr).view.set = _ from slice_set h0 h1 s0 s1]
  exact Entails.of_eq rfl

theorem own_give {b : Bf} {off size : Fin 2 → ℕ} {inb hr} {B : Bx} (h0 : off 0 = B.r) (h1 : off 1 = B.c) (s0 : size 0 = B.n) (s1 : size 1 = B.m)
    {q : PosShare TreeShare} {P : ℕ → ℕ → Elt F .bf16 → Prop} {f : Buf (Elt F) (((bm b).slice (Rect.unit (s := shp b) off size inb) hr).view.loc (c : Thread nD τ))}
    (h : ∀ i ∈ boxS b B, P (i 0).val (i 1).val ((bm b).view.read (Elt F) f i)) :
    (((bm b).slice (Rect.unit (s := shp b) off size inb) hr).view.loc (c : Thread nD τ)
        ↦[((bm b).slice (Rect.unit (s := shp b) off size inb) hr).view.set]{q} f) ⊢ (ownB c b B q P : sProp 𝕄) := by
  rw [show ((bm b).slice (Rect.unit (s := shp b) off size inb) hr).view.set = _ from slice_set h0 h1 s0 s1]
  unfold ownB
  iintro H
  iexists f
  isplitr
  · ipureintro; exact h
  · iexact H

/-! ## Transfers -/

theorem bigSepL_mono_eq {I : Type} {Φ Ψ : I → sProp 𝕄} {l : List I} (h : ∀ i, Φ i = Ψ i) : bigSepL l Φ ⊢ bigSepL l Ψ :=
  Entails.of_eq (bigSepL_ext fun i _ => h i)

theorem marks_send (g : Fin 3) (k : Fin 7) (p : Fin 2) :
    (Ev.send g k p).marks = bif hasRch k p then rchL.map fun y => (CK.rcv y.1 y.2, 1) else [] := rfl

theorem Psi_rch (i : Fin 3) : (Psi S c (.rch i) : sProp 𝕄) = bigSepL rchL fun y => reached ER (cell (nbr i c) (.rcv y.1 y.2)) 1 := rfl

/-- The mark that comes with a transfer. -/
theorem marks_rch (g : Fin 3) (k : Fin 7) (p : Fin 2) : (bigSepL (Ev.send g k p).marks (fun y => reached ER (cell c y.1) y.2) : sProp 𝕄)
    ⊢ bigSepL (bif hasRch k p then [It.rch (via g k)] else []) (Psi S (peer g k c)) := by
  rw [marks_send]
  cases hasRch k p with
  | false => iintro H; iexact H
  | true =>
    rw [cond_true, cond_true, bigSepL_one, bigSepL_map, Psi_rch]
    refine bigSepL_mono_eq fun y => ?_
    unfold peer
    rw [nbr_nbr]

theorem mem_rchL : ∀ (g : Fin 3) (k : Fin 7), reused k = false → (g, k) ∈ rchL := by decide

instance rch_persistent (i : Fin 3) : BI.Persistent (Psi S c (.rch i) : sProp 𝕄) :=
  bigSepL_persistent rchL (fun y => reached ER (cell (nbr i c) (.rcv y.1 y.2)) 1) fun y => by infer_instance

/-- A transfer's target cell is in the transfer's round. -/
theorem reach_of (g : Fin 3) (k : Fin 7) (p : Fin 2) :
    iprop(rchd c g k p ∗ bigSepL (bif needsRch k p then [It.rch (via g k)] else []) (Psi S c)) ⊢
      (iprop(reached ER (cell (peer g k c) (.rcv g k)) p.val ∗ bigSepL (bif needsRch k p then [It.rch (via g k)] else []) (Psi S c)) : sProp 𝕄) := by
  cases hn : needsRch k p with
  | true =>
    have hk : reused k = false ∧ p = 1 := by
      unfold needsRch at hn
      rw [Bool.and_eq_true, Bool.not_eq_true', beq_iff_eq] at hn
      exact hn
    obtain ⟨hk, rfl⟩ := hk
    show iprop(rchd c g k 1 ∗ bigSepL [It.rch (via g k)] (Psi S c)) ⊢ iprop(reached ER (cell (nbr (via g k) c) (.rcv g k)) 1 ∗ bigSepL [It.rch (via g k)] (Psi S c))
    rw [bigSepL_one]
    iintro ⟨-, #H⟩
    isplitr
    · iapply ((Entails.of_eq (show (Psi S c (.rch (via g k)) : sProp 𝕄) = bigSepL rchL fun y => reached ER (cell (nbr (via g k) c) (.rcv y.1 y.2)) 1 from rfl)).trans
        (bigSepL_look (fun y : Fin 3 × Fin 7 => reached ER (cell (nbr (via g k) c) (.rcv y.1 y.2)) 1) (mem_rchL g k hk))) $$ H
    · iexact H
  | false =>
    have hk : reused k = true ∨ p = 0 := by
      revert hn; revert k p; decide
    unfold rchd
    rw [if_pos hk]

theorem tok_send (g : Fin 3) (k : Fin 7) (p : Fin 2) : (tok c (.send g k p) : sProp 𝕄) =
    iprop(dutyTok ER (cell (peer g k c) (.rcv g k)) p.val 0 ∗ dutyTok ER (cell c (.snd g k)) p.val 0 ∗ emp) := rfl

theorem pre_send (g : Fin 3) (k : Fin 7) (p : Fin 2) : (bigSepL (pre (.send g k p)) (Psi S c) : sProp 𝕄) =
    iprop(ownB c (sB g k) (srcBx g p c k) (srcSh k) (relT S c (sB g k) (srcT p k))
      ∗ (ownB (peer g k c) (dB g k) (dstBx g p (peer g k c) k) fullShare (relT S (peer g k c) (dB g k) .any) ∗ rchd c g k p)
      ∗ bigSepL (bif needsRch k p then [It.rch (via g k)] else []) (Psi S c)) := by
  unfold pre
  rw [bigSepL_append, bigSepL_append, bigSepL_one, pcs_Psi, join_src, Psi_lent, join_dst]

theorem post_send (g : Fin 3) (k : Fin 7) (p : Fin 2) : (bigSepL (post (.send g k p)) (Psi S c) : sProp 𝕄) =
    iprop(cred (tallyAt (cell c (.snd g k)) 0 (amt (.rcv g k))) ∗ bigSepL (bif needsRch k p then [It.rch (via g k)] else []) (Psi S c)) := by
  rw [post, bigSepL_append, bigSepL_one]
  rfl

theorem cnt_own {n : ℕ} (hn : n < 199) {y : CK × ℕ} (h : (ev n).owns = some y) : cnt n y.1 = y.2 := by
  have := cnt_owns ⟨n, hn⟩
  rw [show ev (⟨n, hn⟩ : Fin 199).val = ev n from rfl, h, Option.all_some] at this
  exact of_decide_eq_true this

theorem vec_size {size : Fin 2 → ℕ} {a b : ℕ} (h0 : size 0 = a) (h1 : size 1 = b) : size = ![a, b] := by
  funext i
  match i with
  | 0 => exact h0
  | 1 => exact h1

theorem src_dims (g : Fin 3) (p : Fin 2) (c : Dev nD) (k : Fin 7) :
    (srcBx g p c k).n = nr k ∧ (srcBx g p c k).m = wid g ∧ (dstBx g p c k).n = nr k ∧ (dstBx g p c k).m = wid g := by
  revert k
  refine Fin.forall_fin_succ.mpr ⟨?_, Fin.forall_fin_succ.mpr ⟨?_, Fin.forall_fin_succ.mpr ⟨?_, Fin.forall_fin_succ.mpr ⟨?_, Fin.forall_fin_succ.mpr ⟨?_,
    Fin.forall_fin_succ.mpr ⟨?_, Fin.forall_fin_succ.mpr ⟨?_, fun k => k.elim0⟩⟩⟩⟩⟩⟩⟩ <;> exact ⟨rfl, rfl, rfl, rfl⟩

theorem step_send {α : Type} {Q : α → sProp 𝕄} {n : ℕ} (hn : n < 199) (g : Fin 3) (k : Fin 7) (p : Fin 2) (he : ev n = .send g k p)
    (b b' : Bf) (hb : b = sB g k) (hb' : b' = dB g k) {c' : Dev nD} (hc' : c' = peer g k c)
    {off off' size : Fin 2 → ℕ} {inb inb' hr hr'} {sS sR : SemLoc sig} {hsc hsrc hdst hsem} {kk : PUnit → Prog (TpuEff nD τ sig (Elt F) Λ₀ .tc) α}
    (ho0 : off 0 = (srcBx g p c k).r) (ho1 : off 1 = (srcBx g p c k).c)
    (ho0' : off' 0 = (dstBx g p (peer g k c) k).r) (ho1' : off' 1 = (dstBx g p (peer g k c) k).c)
    (hs0 : size 0 = nr k) (hs1 : size 1 = wid g) (hsS : sS = (CK.snd g k).sem) (hsR : sR = (CK.rcv g k).sem)
    (Hk : St S A K c (n + 1) ⊢ wps c (kk ⟨⟩) Q) :
    St S A K c n ⊢ wps c (.op (.enqueueDma ((bm b).slice (Rect.unit (s := shp b) off size inb) hr)
      (.remote (c' : Thread nD τ) ((bm b').slice (Rect.unit (s := shp b') off' size inb') hr') sS hsc) sR hsrc hdst hsem) kk) Q := by
  obtain rfl := vec_size hs0 hs1
  subst hb hb' hc' hsS hsR
  obtain ⟨R, h1, h2⟩ := St_open S A K c hn
  refine h1.trans ?_
  obtain ⟨dm1, dm2, dm3, dm4⟩ := src_dims g p c k
  obtain ⟨-, -, dm3, dm4⟩ := src_dims g p (peer g k c) k
  have hq : (ev n).pays = some ⟨via g k, .rcv g k, p.val, 0, .wrecv g k p⟩ := by rw [he]; rfl
  have hw := pays_waits _ hq
  have hown : cnt n (.snd g k) = p.val := cnt_own hn (y := (.snd g k, p.val)) (by rw [he]; rfl)
  have hO := tally_pay hn c hq
  have hmk : (∀ y ∈ (Ev.send g k p).marks, y.2 ≤ cnt n y.1) := by have := marks_le hn; rw [he] at this; exact this
  have hd : (0 : Fin 3) ∈ (if p.val < 2 then {0} else ∅ : Finset (Fin 3)) := by rw [if_pos p.isLt]; exact Finset.mem_singleton_self _
  rw [he]
  iintro ⟨#HP, Hpre, HR, ⟨%W, HO⟩, HT, HC, HA⟩
  ihave HT := (Entails.of_eq (tok_send c g k p)) $$ HT
  icases HT with ⟨Ht2, Ht1, -⟩
  ihave ⟨#Hm, HC⟩ := (marks_of c n (Ev.send g k p).marks hmk) $$ HC
  ihave ⟨#Hown, HC⟩ := (marks_of c n [(.snd g k, p.val)] (fun y hy => by rw [List.mem_singleton.mp hy]; exact le_of_eq hown.symm)) $$ HC
  ihave Hown := (Entails.of_eq (bigSepL_one (CK.snd g k, p.val) (fun y => reached ER (cell c y.1) y.2))) $$ Hown
  ihave Hpre := (Entails.of_eq (pre_send S c g k p)) $$ Hpre
  icases Hpre with ⟨Hsrc, ⟨Hdst, Hrd⟩, Hnr⟩
  ihave ⟨#Hr2, Hnr⟩ := (reach_of S c g k p) $$ [Hrd Hnr]
  · isplitl [Hrd]; · iexact Hrd
    iexact Hnr
  ihave Hsrc := (own_take c (inb := inb) (hr := hr) ho0 ho1 dm1.symm dm2.symm) $$ Hsrc
  icases Hsrc with ⟨%f, %hf, Hsrc⟩
  ihave Hdst := (own_take (peer g k c) (inb := inb') (hr := hr') ho0' ho1' dm3.symm dm4.symm) $$ Hdst
  icases Hdst with ⟨%fd, -, Hdst⟩
  have hpay₁ : ((((bm (sB g k)).slice (Rect.unit (s := shp (sB g k)) off ![nr k, wid g] inb) hr).view.loc (c : Thread nD τ)
        ↦[((bm (sB g k)).slice (Rect.unit (s := shp (sB g k)) off ![nr k, wid g] inb) hr).view.set]{srcSh k} f) : sProp 𝕄)
      ⊢ (Rd S).payload (cell c (.snd g k)) p.val 0 := by
    rw [payload_cell, payItems, ofNat_val, post, pcs_Psi, join_src]
    exact own_give c ho0 ho1 dm1.symm dm2.symm hf
  have hpay₂ : iprop(((((bm (dB g k)).slice (Rect.unit (s := shp (dB g k)) off' ![nr k, wid g] inb') hr').view.loc (peer g k c : Thread nD τ)
        ↦[((bm (dB g k)).slice (Rect.unit (s := shp (dB g k)) off' ![nr k, wid g] inb') hr').view.set]{fullShare}
          (((bm (dB g k)).slice (Rect.unit (s := shp (dB g k)) off' ![nr k, wid g] inb') hr').view.write (Elt F) fd
            (((bm (sB g k)).slice (Rect.unit (s := shp (sB g k)) off ![nr k, wid g] inb) hr).view.read (Elt F) f) Finset.univ)))
          ∗ bigSepL (Ev.send g k p).marks (fun y => reached ER (cell c y.1) y.2))
      ⊢ ((Rd S).payload (cell (peer g k c) (.rcv g k)) p.val 0 : sProp 𝕄) := by
    rw [payload_cell, payItems, ofNat_val, post, bigSepL_append, pcs_Psi, join_dst]
    iintro ⟨H1, H2⟩
    isplitl [H1]
    · iapply (own_give (peer g k c) ho0' ho1' dm3.symm dm4.symm (P := relT S (peer g k c) (dB g k) (dstT p k)) ?_) $$ H1
      refine write_rel ho0' ho1' dm3.symm dm4.symm fd _ fun x => ?_
      exact rel_move S c g p _ _ _ k (x 0).isLt (read_rel ho0 ho1 dm1.symm dm2.symm hf x)
    · iapply (marks_rch S c g k p) $$ H2
  iapply (Rounds.wp_send_pointsTo_with 𝒱₀ ER (Rd S) (c : Thread nD τ) none (κ₁ := K (c, .snd g k)) (κ₂ := K (peer g k c, .rcv g k))
      (r₁ := p.val) (r₂ := p.val) (d₁ := 0) (d₂ := 0) (F := bigSepL (Ev.send g k p).marks (fun y => reached ER (cell c y.1) y.2))
      (by rw [duties_cell]; exact hd) (by rw [duties_cell]; exact hd) (lvl (.wrecv g k p)) 0 (amt (.rcv g k)) rfl
      (amount_cell S c (.snd g k) _ _) (amount_cell S (peer g k c) (.rcv g k) _ _)
      (TalkSites.tallyL (dues c (n + 1))) (O₀ := TalkSites.tallyL (dues c n)) hO (W := W) hpay₁ hpay₂) $$ [Hsrc Hdst HO Ht1 Ht2]
  · isplitr; · iapply (pers_inv S K c (.snd g k)) $$ HP
    isplitr; · iapply (pers_inv S K (peer g k c) (.rcv g k)) $$ HP
    isplitl [Hsrc]; · iexact Hsrc
    isplitl [Hdst]
    · isplitl [Hdst]; · iexact Hdst
      iexact Hm
    isplitl [HO]; · iexact HO
    isplitl [Ht1]; · iexact Ht1
    isplitr; · iexact Hown
    isplitl [Ht2]; · iexact Ht2
    iexact Hr2
  iintro ⟨Hfly, HO⟩
  iapply Hk
  iapply h2
  isplitr; · iexact HP
  isplitl [Hfly Hnr]
  · rw [he]
    iapply (Entails.of_eq (post_send S c g k p).symm)
    isplitl [Hfly]
    · iexact Hfly
    · iexact Hnr
  isplitl [HR]; · iexact HR
  isplitl [HO]; · iexists _; iexact HO
  isplitl [HC]; · rw [curAt_same hn c hw]; iexact HC
  iexact HA

/-! ## Copies -/

theorem tok_copy (g : Fin 3) (p : Fin 2) : (tok c (.copy g p) : sProp 𝕄) = iprop(emp ∗ dutyTok ER (cell c (.outc g)) p.val 0 ∗ emp) := rfl

theorem pre_copy (g : Fin 3) (p : Fin 2) : (bigSepL (pre (.copy g p)) (Psi S c) : sProp 𝕄) =
    iprop(ownB c (.acc g) ((Pc.B2 g false).box c) fullShare.left (relT S c (.acc g) (.t 3 true p))
      ∗ ownB c .out ((Pc.OQ g p).box c) fullShare (relT S c .out .any)) := by
  unfold pre
  rw [bigSepL_two]
  rfl

theorem post_copy (g : Fin 3) (p : Fin 2) : (bigSepL (post (.copy g p)) (Psi S c) : sProp 𝕄) = cred (tallyAt (cell c (.outc g)) 0 (amt (.outc g))) := by
  rw [post, bigSepL_one]
  rfl

theorem step_copy {α : Type} {Q : α → sProp 𝕄} {n : ℕ} (hn : n < 199) (g : Fin 3) (p : Fin 2) (he : ev n = .copy g p)
    (b : Bf) (hb : b = .acc g) {off off' size : Fin 2 → ℕ} {inb inb' hr hr'} {sR : SemLoc sig} {hsrc hdst hsem} {kk : PUnit → Prog (TpuEff nD τ sig (Elt F) Λ₀ .tc) α}
    (ho0 : off 0 = b1 g c * 1024 + b2 g c * 512) (ho1 : off 1 = 0) (ho0' : off' 0 = b0 g c * 2048 + b1 g c * 1024 + b2 g c * 512) (ho1' : off' 1 = col0 p g)
    (hs0 : size 0 = 512) (hs1 : size 1 = wid g) (hsR : sR = (CK.outc g).sem) (Hk : St S A K c (n + 1) ⊢ wps c (kk ⟨⟩) Q) :
    St S A K c n ⊢ wps c (.op (.enqueueDma ((bm b).slice (Rect.unit (s := shp b) off size inb) hr)
      (.here ((bm .out).slice (Rect.unit (s := shp .out) off' size inb') hr')) sR hsrc hdst hsem) kk) Q := by
  obtain rfl := vec_size hs0 hs1
  subst hb hsR
  obtain ⟨R, h1, h2⟩ := St_open S A K c hn
  refine h1.trans ?_
  have hw : (ev n).waits = none := by rw [he]; rfl
  have hpy : (ev n).pays = none := by rw [he]; rfl
  have hown : cnt n (.outc g) = p.val := cnt_own hn (y := (.outc g, p.val)) (by rw [he]; rfl)
  have hd : (0 : Fin 3) ∈ (if p.val < 2 then {0} else ∅ : Finset (Fin 3)) := by rw [if_pos p.isLt]; exact Finset.mem_singleton_self _
  have e0 : off 0 = ((Pc.B2 g false).box c).r := ho0
  have e1 : off 1 = ((Pc.B2 g false).box c).c := ho1
  have e0' : off' 0 = ((Pc.OQ g p).box c).r := ho0'
  have e1' : off' 1 = ((Pc.OQ g p).box c).c := ho1'
  rw [he]
  iintro ⟨#HP, Hpre, HR, ⟨%W, HO⟩, HT, HC, HA⟩
  ihave HT := (Entails.of_eq (tok_copy c g p)) $$ HT
  icases HT with ⟨-, Ht, -⟩
  ihave ⟨#Hown, HC⟩ := (marks_of c n [(.outc g, p.val)] (fun y hy => by rw [List.mem_singleton.mp hy]; exact le_of_eq hown.symm)) $$ HC
  ihave Hown := (Entails.of_eq (bigSepL_one (CK.outc g, p.val) (fun y => reached ER (cell c y.1) y.2))) $$ Hown
  ihave Hpre := (Entails.of_eq (pre_copy S c g p)) $$ Hpre
  icases Hpre with ⟨Hsrc, Hdst⟩
  ihave Hsrc := (own_take c (b := .acc g) (B := (Pc.B2 g false).box c) (size := ![512, wid g]) (inb := inb) (hr := hr) e0 e1 rfl rfl) $$ Hsrc
  icases Hsrc with ⟨%f, %hf, Hsrc⟩
  ihave Hdst := (own_take c (b := .out) (B := (Pc.OQ g p).box c) (size := ![512, wid g]) (inb := inb') (hr := hr') e0' e1' rfl rfl) $$ Hdst
  icases Hdst with ⟨%fd, -, Hdst⟩
  have hpay : iprop((((bm .out).slice (Rect.unit (s := shp .out) off' ![512, wid g] inb') hr').view.loc (c : Thread nD τ)
        ↦[((bm .out).slice (Rect.unit (s := shp .out) off' ![512, wid g] inb') hr').view.set]{fullShare}
          (((bm .out).slice (Rect.unit (s := shp .out) off' ![512, wid g] inb') hr').view.write (Elt F) fd
            (((bm (.acc g)).slice (Rect.unit (s := shp (.acc g)) off ![512, wid g] inb) hr).view.read (Elt F) f) Finset.univ))
        ∗ (((bm (.acc g)).slice (Rect.unit (s := shp (.acc g)) off ![512, wid g] inb) hr).view.loc (c : Thread nD τ)
          ↦[((bm (.acc g)).slice (Rect.unit (s := shp (.acc g)) off ![512, wid g] inb) hr).view.set]{fullShare.left} f))
      ⊢ ((Rd S).payload (cell c (.outc g)) p.val 0 : sProp 𝕄) := by
    rw [payload_cell, payItems, ofNat_val, post, bigSepL_two, Psi_pc, Psi_pc]
    unfold ownP
    iintro ⟨H1, H2⟩
    isplitl [H2]
    · iapply (own_give c (b := .acc g) (B := (Pc.B2 g false).box c) (size := ![512, wid g]) e0 e1 rfl rfl hf) $$ H2
    · iapply (own_give c (b := .out) (B := (Pc.OQ g p).box c) (size := ![512, wid g]) e0' e1' rfl rfl (P := relT S c .out (.t 3 true p)) ?_) $$ H1
      refine write_rel (b := .out) (B := (Pc.OQ g p).box c) (size := ![512, wid g]) e0' e1' rfl rfl fd _ fun x => ?_
      have := read_rel (b := .acc g) (B := (Pc.B2 g false).box c) (size := ![512, wid g]) (inb := inb) e0 e1 rfl rfl hf x
      change S.R3 _ _ _ at this
      show S.R3 _ _ _
      rw [row_acc, col_acc] at this
      rw [row_out, col_out]
      have er : b0 g c * 2048 + (((Pc.B2 g false).box c).r + (x 0).val) = ((Pc.OQ g p).box c).r + (x 0).val := by
        unfold Pc.box; dsimp only; omega
      have ec : col0 p g + (((Pc.B2 g false).box c).c + (x 1).val) = ((Pc.OQ g p).box c).c + (x 1).val := by
        unfold Pc.box; dsimp only; omega
      rw [er, ec] at this
      exact this
  iapply (Rounds.wp_copy_pointsTo 𝒱₀ ER (Rd S) (c : Thread nD τ) none (κ := K (c, .outc g)) (r := p.val) (d := 0)
      (by rw [duties_cell]; exact hd) 0 (amt (.outc g)) rfl (amount_cell S c (.outc g) _ _) hpay) $$ [Hsrc Hdst Ht]
  · isplitr; · iapply (pers_inv S K c (.outc g)) $$ HP
    isplitl [Hsrc]; · iexact Hsrc
    isplitl [Hdst]; · iexact Hdst
    isplitl [Ht]; · iexact Ht
    iexact Hown
  iintro Hfly
  iapply Hk
  iapply h2
  isplitr; · iexact HP
  isplitl [Hfly]
  · rw [he]
    iapply (Entails.of_eq (post_copy S c g p).symm) $$ Hfly
  isplitl [HR]; · iexact HR
  isplitl [HO]; · iexists _; rw [dues_keep hn c hpy]; iexact HO
  isplitl [HC]; · rw [curAt_same hn c hw]; iexact HC
  iexact HA

end Cert.Hyper

end
-- ==== Proof.Compute.lean ====
/-
The loads and stores of one device: what a load of a piece or of an argument reads, and how a store moves the device's
state on.
-/
module

public import proofs.«01_k».proof.Proof.Moves

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem bi_ext {P Q : sProp 𝕄} (h : P ⊢ Q) (h' : Q ⊢ P) : P = Q := BI.Entails.antisymm h h'
theorem bi_assoc {P Q R : sProp 𝕄} : iprop((P ∗ Q) ∗ R) = iprop(P ∗ Q ∗ R) := by
  refine bi_ext ?_ ?_
  · iintro ⟨⟨H1, H2⟩, H3⟩
    isplitl [H1]; · iexact H1
    isplitl [H2]; · iexact H2
    iexact H3
  · iintro ⟨H1, H2, H3⟩
    isplitl [H1 H2]
    · isplitl [H1]; · iexact H1
      iexact H2
    iexact H3
theorem at_dev {p : Dev nD → Prop} (c : Dev nD) (h : ∀ d, p d) : p c := h c

variable (S : Spec F) (A : Args F) (K : Nms) (c : Dev nD)

/-- What an event takes is part of the state, and goes back to it. -/
theorem St_pre {n : ℕ} (hn : n < 199) : ∃ R : sProp 𝕄, St S A K c n = iprop(bigSepL (pre (ev n)) (Psi S c) ∗ R) := by
  obtain ⟨r, hr, -⟩ := its_step hn
  refine ⟨iprop(bigSepL r (Psi S c) ∗ pers S K ∗ side A c n), bi_ext ?_ ?_⟩
  · unfold St
    rw [bigSepL_perm _ hr, bigSepL_append]
    iintro ⟨H1, ⟨H2, H3⟩, H4⟩
    isplitl [H2]; · iexact H2
    isplitl [H3]; · iexact H3
    isplitl [H1]; · iexact H1
    iexact H4
  · unfold St
    rw [bigSepL_perm _ hr, bigSepL_append]
    iintro ⟨H1, H2, H3, H4⟩
    isplitl [H3]; · iexact H3
    isplitl [H1 H2]
    · isplitl [H1]; · iexact H1
      iexact H2
    iexact H4

/-- The arguments are part of the state, and go back to it. -/
theorem St_arg (n : ℕ) : ∃ R : sProp 𝕄, St S A K c n = iprop(argPts A c ∗ R) := by
  refine ⟨iprop(pers S K ∗ bigSepL (its n) (Psi S c) ∗ (∃ W, owes (c : Thread nD τ) (TalkSites.tallyL (dues c n)) W)
    ∗ bigSepL (prog.drop n) (tok c) ∗ bigSepL cells (curAt c n)), bi_ext ?_ ?_⟩
  · unfold St side
    iintro ⟨H1, H2, H3, H4, H5, H6⟩
    isplitl [H6]; · iexact H6
    isplitl [H1]; · iexact H1
    isplitl [H2]; · iexact H2
    isplitl [H3]; · iexact H3
    isplitl [H4]; · iexact H4
    iexact H5
  · unfold St side
    iintro ⟨H6, H1, H2, H3, H4, H5⟩
    isplitl [H1]; · iexact H1
    isplitl [H2]; · iexact H2
    isplitl [H3]; · iexact H3
    isplitl [H4]; · iexact H4
    isplitl [H5]; · iexact H5
    iexact H6

/-- A load through a rectangle of a buffer held in part. -/
theorem load_of {α : Type} {Q : α → sProp 𝕄} {cs : CoreSpace} {s : Shape} {m : Memref sig .tc cs s .bf16} {r : Rect s} {hl} {I : Finset (Idx (m.view.loc (c : Thread nD τ)))}
    {q : PosShare TreeShare} {P : Buf (Elt F) (m.view.loc (c : Thread nD τ)) → Prop} {T R : sProp 𝕄} (hI : m.view.setOn r.toLoadRect.set ⊆ I)
    (h : T = iprop((∃ f, ⌜P f⌝ ∗ (m.view.loc (c : Thread nD τ) ↦[I]{q} f)) ∗ R))
    {kk : (r.toLoadRect.shape.Idx → Elt F .bf16) → Prog (TpuEff nD τ sig (Elt F) Λ₀ .tc) α}
    (Hk : ∀ f, P f → T ⊢ wps c (kk (m.view.readAt (Elt F) r.toLoadRect f)) Q) :
    T ⊢ wps c (.op (.load m r.toLoadRect hl) kk) Q := by
  refine (Entails.of_eq h).trans ?_
  iintro ⟨⟨%f, %hf, Hf⟩, HR⟩
  iapply (wp_load 𝒱₀ (c : Thread nD τ) none Set.univ (hl := hl) (k := kk) (f := f) (q := q) hI) $$ Hf
  iintro Hf
  iapply (Hk f hf)
  iapply (Entails.of_eq h.symm)
  isplitl [Hf]
  · iexists f
    isplitr; · ipureintro; exact hf
    iexact Hf
  · iexact HR

/-- A load of the first argument; -/
theorem step_x {α : Type} {Q : α → sProp 𝕄} {n : ℕ} {off size : Fin 2 → ℕ} {inb hl}
    {kk : ((Rect.unit (s := S4096x512) off size inb).toLoadRect.shape.Idx → Elt F .bf16) → Prog (TpuEff nD τ sig (Elt F) Λ₀ .tc) α}
    (Hk : ∀ v, (∀ j (i : S4096x512.Idx), (i 0).val = off 0 + (j 0).val → (i 1).val = off 1 + (j 1).val → v j = A.X c i) → St S A K c n ⊢ wps c (kk v) Q) :
    St S A K c n ⊢ wps c (.op (.load (cs := .vmem) (Memref.whole cc0_stg0_0 : Memref sig .tc .vmem S4096x512 .bf16) (Rect.unit (s := S4096x512) off size inb).toLoadRect hl) kk) Q := by
  obtain ⟨R, hR⟩ := St_arg S A K c n
  refine load_of c (q := fullShare) (I := Finset.univ) (P := fun f => f = (A.X c : Buf (Elt F) ((c : Thread nD τ).loc cc0_stg0_0)))
    (R := iprop((((c : Thread nD τ).loc cc0_stg1_0) ↦{fullShare} (A.Wt c : Buf (Elt F) ((c : Thread nD τ).loc cc0_stg1_0))) ∗ R)) (Finset.subset_univ _) ?_ ?_
  · rw [hR]
    unfold argPts
    refine bi_ext ?_ ?_
    · iintro ⟨⟨H1, H2⟩, H3⟩
      isplitl [H1]
      · iexists _
        isplitr; · ipureintro; rfl
        iexact H1
      isplitl [H2]; · iexact H2
      iexact H3
    · iintro ⟨⟨%f, %hf, H1⟩, H2, H3⟩
      subst hf
      isplitl [H1 H2]
      · isplitl [H1]; · iexact H1
        iexact H2
      iexact H3
  · rintro f rfl
    refine Hk _ fun j i h0 h1 => ?_
    refine congrArg (A.X c) (funext fun a => Fin.ext ?_)
    match a with
    | 0 => exact ((congrArg (off 0 + ·) (Nat.one_mul _)).trans h0.symm)
    | 1 => exact ((congrArg (off 1 + ·) (Nat.one_mul _)).trans h1.symm)

/-- a load of the second. -/
theorem step_w {α : Type} {Q : α → sProp 𝕄} {n : ℕ} {off size : Fin 2 → ℕ} {inb hl}
    {kk : ((Rect.unit (s := S512x8192) off size inb).toLoadRect.shape.Idx → Elt F .bf16) → Prog (TpuEff nD τ sig (Elt F) Λ₀ .tc) α}
    (Hk : ∀ v, (∀ j (i : S512x8192.Idx), (i 0).val = off 0 + (j 0).val → (i 1).val = off 1 + (j 1).val → v j = A.Wt c i) → St S A K c n ⊢ wps c (kk v) Q) :
    St S A K c n ⊢ wps c (.op (.load (cs := .vmem) (Memref.whole cc0_stg1_0 : Memref sig .tc .vmem S512x8192 .bf16) (Rect.unit (s := S512x8192) off size inb).toLoadRect hl) kk) Q := by
  obtain ⟨R, hR⟩ := St_arg S A K c n
  refine load_of c (q := fullShare) (I := Finset.univ) (P := fun f => f = (A.Wt c : Buf (Elt F) ((c : Thread nD τ).loc cc0_stg1_0)))
    (R := iprop((((c : Thread nD τ).loc cc0_stg0_0) ↦{fullShare} (A.X c : Buf (Elt F) ((c : Thread nD τ).loc cc0_stg0_0))) ∗ R)) (Finset.subset_univ _) ?_ ?_
  · rw [hR]
    unfold argPts
    refine bi_ext ?_ ?_
    · iintro ⟨⟨H2, H1⟩, H3⟩
      isplitl [H1]
      · iexists _
        isplitr; · ipureintro; rfl
        iexact H1
      isplitl [H2]; · iexact H2
      iexact H3
    · iintro ⟨⟨%f, %hf, H1⟩, H2, H3⟩
      subst hf
      isplitl [H1 H2]
      · isplitl [H2]; · iexact H2
        iexact H1
      iexact H3
  · rintro f rfl
    refine Hk _ fun j i h0 h1 => ?_
    refine congrArg (A.Wt c) (funext fun a => Fin.ext ?_)
    match a with
    | 0 => exact ((congrArg (off 0 + ·) (Nat.one_mul _)).trans h0.symm)
    | 1 => exact ((congrArg (off 1 + ·) (Nat.one_mul _)).trans h1.symm)

theorem own_open (b : Bf) (B : Bx) (q : PosShare TreeShare) (P : ℕ → ℕ → Elt F .bf16 → Prop) : (ownB c b B q P : sProp 𝕄) =
    iprop(∃ f : Buf (Elt F) ((bm b).view.loc (c : Thread nD τ)), ⌜∀ i ∈ boxS b B, P (i 0).val (i 1).val ((bm b).view.read (Elt F) f i)⌝
      ∗ ((bm b).view.loc (c : Thread nD τ) ↦[(bm b).view.setOn (boxS b B)]{q} f)) := rfl

/-- A load of an accumulator, of a box that is among what the event takes; -/
theorem step_lda {α : Type} {Q : α → sProp 𝕄} {n : ℕ} (hn : n < 199) (g : Fin 3) {off size : Fin 2 → ℕ} {inb hl} (B : Bx) (q : PosShare TreeShare)
    (P : ℕ → ℕ → Elt F .bf16 → Prop) (hpre : ∃ R : sProp 𝕄, bigSepL (pre (ev n)) (Psi S c) = iprop(ownB c (.acc g) B q P ∗ R))
    {kk : ((Rect.unit (s := shp (.acc g)) off size inb).toLoadRect.shape.Idx → Elt F .bf16) → Prog (TpuEff nD τ sig (Elt F) Λ₀ .tc) α}
    (h0 : off 0 = B.r) (h1 : off 1 = B.c) (s0 : size 0 = B.n) (s1 : size 1 = B.m)
    (Hk : ∀ v, (∀ x, P (B.r + (x 0).val) (B.c + (x 1).val) (v x)) → St S A K c n ⊢ wps c (kk v) Q) :
    St S A K c n ⊢ wps c (.op (.load (cs := .vmem) (bm (.acc g)) (Rect.unit (s := shp (.acc g)) off size inb).toLoadRect hl) kk) Q := by
  obtain ⟨R, hR⟩ := St_pre S A K c hn
  obtain ⟨R', hR'⟩ := hpre
  refine load_of c (m := bm (.acc g)) (q := q) (I := (bm (.acc g)).view.setOn (boxS (.acc g) B)) (R := iprop(R' ∗ R))
    (P := fun f => ∀ i ∈ boxS (.acc g) B, P (i 0).val (i 1).val ((bm (.acc g)).view.read (Elt F) f i)) ?_ ?_ ?_
  · rw [← rect_box (b := .acc g) (inb := inb) h0 h1 s0 s1]
  · rw [hR, hR']
    exact bi_assoc
  · intro f hf
    exact Hk _ fun x => read_rel (b := .acc g) (inb := inb) h0 h1 s0 s1 hf x

/-- of a send buffer. -/
theorem step_lds {α : Type} {Q : α → sProp 𝕄} {n : ℕ} (hn : n < 199) (g : Fin 3) {off size : Fin 2 → ℕ} {inb hl} (B : Bx) (q : PosShare TreeShare)
    (P : ℕ → ℕ → Elt F .bf16 → Prop) (hpre : ∃ R : sProp 𝕄, bigSepL (pre (ev n)) (Psi S c) = iprop(ownB c (.snd g) B q P ∗ R))
    {kk : ((Rect.unit (s := shp (.snd g)) off size inb).toLoadRect.shape.Idx → Elt F .bf16) → Prog (TpuEff nD τ sig (Elt F) Λ₀ .tc) α}
    (h0 : off 0 = B.r) (h1 : off 1 = B.c) (s0 : size 0 = B.n) (s1 : size 1 = B.m)
    (Hk : ∀ v, (∀ x, P (B.r + (x 0).val) (B.c + (x 1).val) (v x)) → St S A K c n ⊢ wps c (kk v) Q) :
    St S A K c n ⊢ wps c (.op (.load (cs := .vmem) (bm (.snd g)) (Rect.unit (s := shp (.snd g)) off size inb).toLoadRect hl) kk) Q := by
  obtain ⟨R, hR⟩ := St_pre S A K c hn
  obtain ⟨R', hR'⟩ := hpre
  refine load_of c (m := bm (.snd g)) (q := q) (I := (bm (.snd g)).view.setOn (boxS (.snd g) B)) (R := iprop(R' ∗ R))
    (P := fun f => ∀ i ∈ boxS (.snd g) B, P (i 0).val (i 1).val ((bm (.snd g)).view.read (Elt F) f i)) ?_ ?_ ?_
  · rw [← rect_box (b := .snd g) (inb := inb) h0 h1 s0 s1]
  · rw [hR, hR']
    exact bi_assoc
  · intro f hf
    exact Hk _ fun x => read_rel (b := .snd g) (inb := inb) h0 h1 s0 s1 hf x

/-- The events that only compute. -/
def Ev.comp : Ev → Bool
  | .init _ | .prod _ _ | .acc _ _ _ | .add1 _ _ | .fin _ _ => true
  | _ => false

theorem comp_none {e : Ev} (h : e.comp = true) : e.waits = none ∧ e.pays = none := by
  cases e <;> first
    | exact ⟨rfl, rfl⟩
    | exact absurd h (by nofun)

/-- A computing event moves the state on, once it has turned what it takes into what it leaves. -/
theorem St_comp {n : ℕ} (hn : n < 199) (h : (ev n).comp = true) : ∃ R : sProp 𝕄, (St S A K c n ⊢ iprop(bigSepL (pre (ev n)) (Psi S c) ∗ R))
    ∧ (iprop(bigSepL (post (ev n)) (Psi S c) ∗ R) ⊢ St S A K c (n + 1)) := by
  obtain ⟨R, h1, h2⟩ := St_open S A K c hn
  obtain ⟨hw, hp⟩ := comp_none h
  refine ⟨iprop(pers S K ∗ R ∗ (∃ W, owes (c : Thread nD τ) (TalkSites.tallyL (dues c n)) W) ∗ bigSepL cells (curAt c n) ∗ argPts A c), h1.trans ?_, ?_⟩
  · iintro ⟨H1, H2, H3, H4, -, H6, H7⟩
    isplitl [H2]; · iexact H2
    isplitl [H1]; · iexact H1
    isplitl [H3]; · iexact H3
    isplitl [H4]; · iexact H4
    isplitl [H6]; · iexact H6
    iexact H7
  · refine BIBase.Entails.trans ?_ h2
    rw [dues_keep hn c hp, curAt_same hn c hw]
    iintro ⟨H2, H1, H3, H4, H6, H7⟩
    isplitl [H1]; · iexact H1
    isplitl [H2]; · iexact H2
    isplitl [H3]; · iexact H3
    isplitl [H4]; · iexact H4
    isplitl [H6]; · iexact H6
    iexact H7

/-- A store to a rectangle of a buffer held in part. -/
theorem store_of {α : Type} {Q : α → sProp 𝕄} {cs : CoreSpace} {s : Shape} {m : Memref sig .tc cs s .bf16} {r : Rect s} {w : r.shape.Idx → Elt F .bf16} {hx hm}
    {I : Finset (Idx ((m.access r).loc (c : Thread nD τ)))} {P P' : Buf (Elt F) ((m.access r).loc (c : Thread nD τ)) → Prop} {T T' R : sProp 𝕄} (hI : (m.access r).set ⊆ I)
    (h : T ⊢ iprop((∃ f, ⌜P f⌝ ∗ ((m.access r).loc (c : Thread nD τ) ↦[I]{fullShare} f)) ∗ R))
    (h' : iprop((∃ f, ⌜P' f⌝ ∗ ((m.access r).loc (c : Thread nD τ) ↦[I]{fullShare} f)) ∗ R) ⊢ T')
    (hP : ∀ f, P f → P' ((m.access r).write (Elt F) f w Finset.univ))
    {kk : PUnit → Prog (TpuEff nD τ sig (Elt F) Λ₀ .tc) α}
    (Hk : T' ⊢ wps c (kk ⟨⟩) Q) :
    T ⊢ wps c (.op (.store m r w Finset.univ hx hm) kk) Q := by
  refine h.trans ?_
  iintro ⟨⟨%f, %hf, Hf⟩, HR⟩
  iapply (wp_store 𝒱₀ (c : Thread nD τ) none Set.univ (m := m) (r := r) (w := w) (hx := hx) (hm := hm) (k := kk) (f := f) hI) $$ Hf
  iintro Hf
  iapply Hk
  iapply h'
  isplitl [Hf]
  · iexists _
    isplitr; · ipureintro; exact hP f hf
    iexact Hf
  · iexact HR

/-- A store to an accumulator, of the box an event changes; -/
theorem step_sta {α : Type} {Q : α → sProp 𝕄} {n : ℕ} (hn : n < 199) (hc : (ev n).comp = true) (g : Fin 3) {off size : Fin 2 → ℕ} {inb w hx hm} (B : Bx)
    {P P' : ℕ → ℕ → Elt F .bf16 → Prop} (hpre : ∃ R : sProp 𝕄, bigSepL (pre (ev n)) (Psi S c) = iprop(ownB c (.acc g) B fullShare P ∗ R)
      ∧ bigSepL (post (ev n)) (Psi S c) = iprop(ownB c (.acc g) B fullShare P' ∗ R))
    {kk : PUnit → Prog (TpuEff nD τ sig (Elt F) Λ₀ .tc) α}
    (h0 : off 0 = B.r) (h1 : off 1 = B.c) (s0 : size 0 = B.n) (s1 : size 1 = B.m)
    (hw : ∀ x, P' (B.r + (x 0).val) (B.c + (x 1).val) (w x)) (Hk : St S A K c (n + 1) ⊢ wps c (kk ⟨⟩) Q) :
    St S A K c n ⊢ wps c (.op (.store (cs := .vmem) (bm (.acc g)) (Rect.unit (s := shp (.acc g)) off size inb) w Finset.univ hx hm) kk) Q := by
  obtain ⟨R, hR1, hR2⟩ := St_comp S A K c hn hc
  obtain ⟨R', hp, hp'⟩ := hpre
  refine store_of c (m := bm (.acc g)) (r := Rect.unit (s := shp (.acc g)) off size inb) (I := (bm (.acc g)).view.setOn (boxS (.acc g) B)) (R := iprop(R' ∗ R))
    (P := fun f => ∀ i ∈ boxS (.acc g) B, P (i 0).val (i 1).val ((bm (.acc g)).view.read (Elt F) f i))
    (P' := fun f => ∀ i ∈ boxS (.acc g) B, P' (i 0).val (i 1).val ((bm (.acc g)).view.read (Elt F) f i)) ?_ ?_ ?_ ?_ Hk
  · exact Finset.subset_of_eq (slice_set (b := .acc g) (inb := inb) h0 h1 s0 s1)
  · refine hR1.trans ?_
    rw [hp]
    exact Entails.of_eq bi_assoc
  · refine BIBase.Entails.trans ?_ hR2
    rw [hp']
    exact Entails.of_eq bi_assoc.symm
  · intro f hf
    exact write_rel (b := .acc g) (inb := inb) h0 h1 s0 s1 f w hw

/-- to a send buffer. -/
theorem step_sts {α : Type} {Q : α → sProp 𝕄} {n : ℕ} (hn : n < 199) (hc : (ev n).comp = true) (g : Fin 3) {off size : Fin 2 → ℕ} {inb w hx hm} (B : Bx)
    {P P' : ℕ → ℕ → Elt F .bf16 → Prop} (hpre : ∃ R : sProp 𝕄, bigSepL (pre (ev n)) (Psi S c) = iprop(ownB c (.snd g) B fullShare P ∗ R)
      ∧ bigSepL (post (ev n)) (Psi S c) = iprop(ownB c (.snd g) B fullShare P' ∗ R))
    {kk : PUnit → Prog (TpuEff nD τ sig (Elt F) Λ₀ .tc) α}
    (h0 : off 0 = B.r) (h1 : off 1 = B.c) (s0 : size 0 = B.n) (s1 : size 1 = B.m)
    (hw : ∀ x, P' (B.r + (x 0).val) (B.c + (x 1).val) (w x)) (Hk : St S A K c (n + 1) ⊢ wps c (kk ⟨⟩) Q) :
    St S A K c n ⊢ wps c (.op (.store (cs := .vmem) (bm (.snd g)) (Rect.unit (s := shp (.snd g)) off size inb) w Finset.univ hx hm) kk) Q := by
  obtain ⟨R, hR1, hR2⟩ := St_comp S A K c hn hc
  obtain ⟨R', hp, hp'⟩ := hpre
  refine store_of c (m := bm (.snd g)) (r := Rect.unit (s := shp (.snd g)) off size inb) (I := (bm (.snd g)).view.setOn (boxS (.snd g) B)) (R := iprop(R' ∗ R))
    (P := fun f => ∀ i ∈ boxS (.snd g) B, P (i 0).val (i 1).val ((bm (.snd g)).view.read (Elt F) f i))
    (P' := fun f => ∀ i ∈ boxS (.snd g) B, P' (i 0).val (i 1).val ((bm (.snd g)).view.read (Elt F) f i)) ?_ ?_ ?_ ?_ Hk
  · exact Finset.subset_of_eq (slice_set (b := .snd g) (inb := inb) h0 h1 s0 s1)
  · refine hR1.trans ?_
    rw [hp]
    exact Entails.of_eq bi_assoc
  · refine BIBase.Entails.trans ?_ hR2
    rw [hp']
    exact Entails.of_eq bi_assoc.symm
  · intro f hf
    exact write_rel (b := .snd g) (inb := inb) h0 h1 s0 s1 f w hw

/-! ## The computing events -/

theorem bi_emp (P : sProp 𝕄) : P = iprop(P ∗ emp) := (equiv_iff.mp BI.sep_emp).symm
theorem bi_comm {P Q : sProp 𝕄} : iprop(P ∗ Q) = iprop(Q ∗ P) := by
  refine bi_ext ?_ ?_
  · iintro ⟨H1, H2⟩
    isplitl [H2]; · iexact H2
    iexact H1
  · iintro ⟨H1, H2⟩
    isplitl [H2]; · iexact H2
    iexact H1

/-- A device's send buffer's first part, in the state before the first product and after it. -/
theorem both_init (g : Fin 3) (t : Tg) :
    (bigSepL [It.pc (.SA g) t, .pc (.SB g) t] (Psi S c) : sProp 𝕄) = ownB c (.snd g) ⟨0, 2048, 0, wid g⟩ fullShare (relT S c (.snd g) t) := by
  rw [← join_S, bigSepL_two, bigSepL_two]; rfl

/-- The half a product of the second pass goes to. -/
def bxP (g : Fin 3) (h : Bool) (c : Dev nD) : Bx := ⟨(bif h then b1 g c else 1 - b1 g c) * 1024, 1024, 0, wid g⟩
theorem one_prod (g : Fin 3) (h : Bool) (t : Tg) :
    (bigSepL [It.pc (bif h then .SB g else .SA g) t] (Psi S c) : sProp 𝕄) = ownB c (.snd g) (bxP g h c) fullShare (relT S c (.snd g) t) := by
  rw [bigSepL_one]; cases h <;> rfl
theorem pcs_acc (g : Fin 3) (h : Bool) (t : Tg) :
    (bigSepL (pcs (acPcs g h) t) (Psi S c) : sProp 𝕄) = ownB c (.acc g) (bxP g h c) fullShare (relT S c (.acc g) t) := by
  rw [pcs_Psi]
  cases h
  · exact bigSepL_one _ _
  · exact join_B S c g t
/-- The second sum's operands; -/
theorem pcs_add (g : Fin 3) (t t' : Tg) : (bigSepL (pcs (acPcs g true) t ++ [.pc (.R1 g) t']) (Psi S c) : sProp 𝕄) =
    iprop(ownB c (.acc g) (bxP g true c) fullShare (relT S c (.acc g) t) ∗ ownB c (.snd g) ⟨2048, 1024, 0, wid g⟩ fullShare (relT S c (.snd g) t')) := by
  rw [bigSepL_append, pcs_acc, bigSepL_one]; rfl
/-- the third's. -/
theorem pcs_fin (g : Fin 3) (t t' : Tg) : (bigSepL [It.pc (.B2 g false) t, .pc (.B2 g true) t, .pc (.R2 g) t'] (Psi S c) : sProp 𝕄) =
    iprop(ownB c (.acc g) ((Pc.B2 g true).box c) fullShare (relT S c (.acc g) t) ∗ ownB c (.snd g) ⟨3072, 512, 0, wid g⟩ fullShare (relT S c (.snd g) t')) := by
  rw [← join_half, bi_assoc, bigSepL_cons', bigSepL_two]; rfl

/-- The first row of the result of the half that is summed first or second. -/
def rowA (g : Fin 3) (h : Bool) (c : Dev nD) : ℕ := b0 g c * 2048 + (bif h then b1 g c else 1 - b1 g c) * 1024
/-- The first row of the result of the device's last part. -/
def rowF (g : Fin 3) (c : Dev nD) : ℕ := b0 g c * 2048 + b1 g c * 1024 + b2 g c * 512
/-- The first row of the result of a product of the second pass. -/
def rowP (g : Fin 3) (h : Bool) (c : Dev nD) : ℕ := (1 - b0 g c) * 2048 + (bif h then b1 g c else 1 - b1 g c) * 1024

theorem bxP_le (g : Fin 3) (h : Bool) : (bif h then b1 g c else 1 - b1 g c) ≤ 1 := by
  have := b1_le g c
  cases h <;> simp only [cond_true, cond_false] <;> omega

section Init
variable {n : ℕ} (hn : n < 199) (g : Fin 3) (he : ev n = .init g) {off size : Fin 2 → ℕ}
include hn he

theorem init_ld {α : Type} {Q : α → sProp 𝕄} {inb hl} {kk : ((Rect.unit (s := shp (.snd g)) off size inb).toLoadRect.shape.Idx → Elt F .bf16) → Prog (TpuEff nD τ sig (Elt F) Λ₀ .tc) α}
    (h0 : off 0 = 0) (h1 : off 1 = 0) (s0 : size 0 = 2048) (s1 : size 1 = wid g) (Hk : ∀ v, St S A K c n ⊢ wps c (kk v) Q) :
    St S A K c n ⊢ wps c (.op (.load (cs := .vmem) (bm (.snd g)) (Rect.unit (s := shp (.snd g)) off size inb).toLoadRect hl) kk) Q :=
  step_lds S A K c hn g ⟨0, 2048, 0, wid g⟩ fullShare (relT S c (.snd g) .any)
    (by rw [he]; exact ⟨_, (both_init S c g .any).trans (bi_emp _)⟩) h0 h1 s0 s1 fun v _ => Hk v

theorem init_st {α : Type} {Q : α → sProp 𝕄} {inb w hx hm} {kk : PUnit → Prog (TpuEff nD τ sig (Elt F) Λ₀ .tc) α}
    (h0 : off 0 = 0) (h1 : off 1 = 0) (s0 : size 0 = 2048) (s1 : size 1 = wid g)
    (hw : ∀ x, S.R0 c ((1 - b0 g c) * 2048 + (x 0).val) (col0 0 g + (x 1).val) (w x)) (Hk : St S A K c (n + 1) ⊢ wps c (kk ⟨⟩) Q) :
    St S A K c n ⊢ wps c (.op (.store (cs := .vmem) (bm (.snd g)) (Rect.unit (s := shp (.snd g)) off size inb) w Finset.univ hx hm) kk) Q := by
  refine step_sts S A K c hn (by rw [he]; rfl) g ⟨0, 2048, 0, wid g⟩ (P := relT S c (.snd g) .any) (P' := relT S c (.snd g) (.t 0 true 0))
    (by rw [he]; exact ⟨_, (both_init S c g .any).trans (bi_emp _), (both_init S c g _).trans (bi_emp _)⟩) h0 h1 s0 s1 (fun x => ?_) Hk
  have hx0 : (x 0).val < 2048 := lt_of_lt_of_eq (x 0).isLt s0
  have := hw x
  show S.R0 _ _ _ _
  dsimp only
  rw [Nat.zero_add, Nat.zero_add, row_s1 c g _ hx0, col_snd]
  exact this

end Init

section Prod
variable {n : ℕ} (hn : n < 199) (g : Fin 3) (h : Bool) (he : ev n = .prod g h) {off size : Fin 2 → ℕ}
include hn he

theorem prod_ld {α : Type} {Q : α → sProp 𝕄} {inb hl} {kk : ((Rect.unit (s := shp (.snd g)) off size inb).toLoadRect.shape.Idx → Elt F .bf16) → Prog (TpuEff nD τ sig (Elt F) Λ₀ .tc) α}
    (h0 : off 0 = (bif h then b1 g c else 1 - b1 g c) * 1024) (h1 : off 1 = 0) (s0 : size 0 = 1024) (s1 : size 1 = wid g) (Hk : ∀ v, St S A K c n ⊢ wps c (kk v) Q) :
    St S A K c n ⊢ wps c (.op (.load (cs := .vmem) (bm (.snd g)) (Rect.unit (s := shp (.snd g)) off size inb).toLoadRect hl) kk) Q :=
  step_lds S A K c hn g (bxP g h c) fullShare (relT S c (.snd g) (.t 0 true 0))
    (by rw [he]; exact ⟨_, (one_prod S c g h _).trans (bi_emp _)⟩) h0 h1 s0 s1 fun v _ => Hk v

theorem prod_st {α : Type} {Q : α → sProp 𝕄} {inb w hx hm} {kk : PUnit → Prog (TpuEff nD τ sig (Elt F) Λ₀ .tc) α}
    (h0 : off 0 = (bif h then b1 g c else 1 - b1 g c) * 1024) (h1 : off 1 = 0) (s0 : size 0 = 1024) (s1 : size 1 = wid g)
    (hw : ∀ x, S.R0 c (rowP g h c + (x 0).val) (col0 1 g + (x 1).val) (w x)) (Hk : St S A K c (n + 1) ⊢ wps c (kk ⟨⟩) Q) :
    St S A K c n ⊢ wps c (.op (.store (cs := .vmem) (bm (.snd g)) (Rect.unit (s := shp (.snd g)) off size inb) w Finset.univ hx hm) kk) Q := by
  refine step_sts S A K c hn (by rw [he]; rfl) g (bxP g h c) (P := relT S c (.snd g) (.t 0 true 0)) (P' := relT S c (.snd g) (.t 0 true 1))
    (by rw [he]; exact ⟨_, (one_prod S c g h _).trans (bi_emp _), (one_prod S c g h _).trans (bi_emp _)⟩) h0 h1 s0 s1 (fun x => ?_) Hk
  have hx0 : (x 0).val < 1024 := lt_of_lt_of_eq (x 0).isLt s0
  have hb := bxP_le c g h
  have := hw x
  show S.R0 _ _ _ _
  unfold rowP at this
  unfold bxP
  dsimp only
  have hr : (bif h then b1 g c else 1 - b1 g c) * 1024 + (x 0).val < 2048 := by omega
  rw [row_s1 c g _ hr, col_snd, Nat.zero_add, ← Nat.add_assoc]
  exact this

end Prod

section Acc
variable {n : ℕ} (hn : n < 199) (g : Fin 3) (p : Fin 2) (h : Bool) (he : ev n = .acc g p h) {off size : Fin 2 → ℕ}
include hn he

theorem acc_ld {α : Type} {Q : α → sProp 𝕄} {inb hl} {kk : ((Rect.unit (s := shp (.acc g)) off size inb).toLoadRect.shape.Idx → Elt F .bf16) → Prog (TpuEff nD τ sig (Elt F) Λ₀ .tc) α}
    (h0 : off 0 = (bif h then b1 g c else 1 - b1 g c) * 1024) (h1 : off 1 = 0) (s0 : size 0 = 1024) (s1 : size 1 = wid g)
    (Hk : ∀ v, (∀ x, S.R0 (nbr (0 + g) c) (rowA g h c + (x 0).val) (col0 p g + (x 1).val) (v x)) → St S A K c n ⊢ wps c (kk v) Q) :
    St S A K c n ⊢ wps c (.op (.load (cs := .vmem) (bm (.acc g)) (Rect.unit (s := shp (.acc g)) off size inb).toLoadRect hl) kk) Q := by
  refine step_lda S A K c hn g (bxP g h c) fullShare (relT S c (.acc g) (.t 0 false p))
    (by rw [he]; exact ⟨_, (pcs_acc S c g h _).trans (bi_emp _)⟩) h0 h1 s0 s1 fun v hv => Hk v fun x => ?_
  have := hv x
  change S.R0 _ _ _ _ at this
  rw [row_acc, col_acc] at this
  unfold bxP at this
  dsimp only at this
  rw [Nat.zero_add, ← Nat.add_assoc] at this
  exact this

theorem acc_st {α : Type} {Q : α → sProp 𝕄} {inb w hx hm} {kk : PUnit → Prog (TpuEff nD τ sig (Elt F) Λ₀ .tc) α}
    (h0 : off 0 = (bif h then b1 g c else 1 - b1 g c) * 1024) (h1 : off 1 = 0) (s0 : size 0 = 1024) (s1 : size 1 = wid g)
    (hw : ∀ x, S.R1 g c (rowA g h c + (x 0).val) (col0 p g + (x 1).val) (w x)) (Hk : St S A K c (n + 1) ⊢ wps c (kk ⟨⟩) Q) :
    St S A K c n ⊢ wps c (.op (.store (cs := .vmem) (bm (.acc g)) (Rect.unit (s := shp (.acc g)) off size inb) w Finset.univ hx hm) kk) Q := by
  refine step_sta S A K c hn (by rw [he]; rfl) g (bxP g h c) (P := relT S c (.acc g) (.t 0 false p)) (P' := relT S c (.acc g) (.t 1 true p))
    (by rw [he]; exact ⟨_, (pcs_acc S c g h _).trans (bi_emp _), (pcs_acc S c g h _).trans (bi_emp _)⟩) h0 h1 s0 s1 (fun x => ?_) Hk
  have := hw x
  show S.R1 _ _ _ _ _
  rw [row_acc, col_acc]
  unfold bxP
  dsimp only
  rw [Nat.zero_add, ← Nat.add_assoc]
  exact this

end Acc

section Add
variable {n : ℕ} (hn : n < 199) (g : Fin 3) (p : Fin 2) (he : ev n = .add1 g p) {off size : Fin 2 → ℕ}
include hn he

theorem add_lda {α : Type} {Q : α → sProp 𝕄} {inb hl} {kk : ((Rect.unit (s := shp (.acc g)) off size inb).toLoadRect.shape.Idx → Elt F .bf16) → Prog (TpuEff nD τ sig (Elt F) Λ₀ .tc) α}
    (h0 : off 0 = b1 g c * 1024) (h1 : off 1 = 0) (s0 : size 0 = 1024) (s1 : size 1 = wid g)
    (Hk : ∀ v, (∀ x, S.R1 g c (rowA g true c + (x 0).val) (col0 p g + (x 1).val) (v x)) → St S A K c n ⊢ wps c (kk v) Q) :
    St S A K c n ⊢ wps c (.op (.load (cs := .vmem) (bm (.acc g)) (Rect.unit (s := shp (.acc g)) off size inb).toLoadRect hl) kk) Q := by
  refine step_lda S A K c hn g (bxP g true c) fullShare (relT S c (.acc g) (.t 1 true p))
    (by rw [he]; exact ⟨_, pcs_add S c g _ _⟩) h0 h1 s0 s1 fun v hv => Hk v fun x => ?_
  have := hv x
  change S.R1 _ _ _ _ _ at this
  rw [row_acc, col_acc] at this
  unfold bxP at this
  dsimp only at this
  rw [Nat.zero_add, ← Nat.add_assoc] at this
  exact this

theorem add_lds {α : Type} {Q : α → sProp 𝕄} {inb hl} {kk : ((Rect.unit (s := shp (.snd g)) off size inb).toLoadRect.shape.Idx → Elt F .bf16) → Prog (TpuEff nD τ sig (Elt F) Λ₀ .tc) α}
    (h0 : off 0 = 2048) (h1 : off 1 = 0) (s0 : size 0 = 1024) (s1 : size 1 = wid g)
    (Hk : ∀ v, (∀ x, S.R1 g (nbr (1 + g) c) (rowA g true c + (x 0).val) (col0 p g + (x 1).val) (v x)) → St S A K c n ⊢ wps c (kk v) Q) :
    St S A K c n ⊢ wps c (.op (.load (cs := .vmem) (bm (.snd g)) (Rect.unit (s := shp (.snd g)) off size inb).toLoadRect hl) kk) Q := by
  refine step_lds S A K c hn g ⟨2048, 1024, 0, wid g⟩ fullShare (relT S c (.snd g) (.t 1 false p))
    (by rw [he]; exact ⟨_, (pcs_add S c g _ _).trans bi_comm⟩) h0 h1 s0 s1 fun v hv => Hk v fun x => ?_
  have hx0 : (x 0).val < 1024 := lt_of_lt_of_eq (x 0).isLt s0
  have := hv x
  change S.R1 _ _ _ _ _ at this
  dsimp only at this
  have hr : 2048 + (x 0).val < 3072 := by omega
  rw [row_s2 c g _ (Nat.le_add_right _ _) hr, col_snd, Nat.zero_add, Nat.add_sub_cancel_left] at this
  exact this

theorem add_st {α : Type} {Q : α → sProp 𝕄} {inb w hx hm} {kk : PUnit → Prog (TpuEff nD τ sig (Elt F) Λ₀ .tc) α}
    (h0 : off 0 = b1 g c * 1024) (h1 : off 1 = 0) (s0 : size 0 = 1024) (s1 : size 1 = wid g)
    (hw : ∀ x, S.R2 g c (rowA g true c + (x 0).val) (col0 p g + (x 1).val) (w x)) (Hk : St S A K c (n + 1) ⊢ wps c (kk ⟨⟩) Q) :
    St S A K c n ⊢ wps c (.op (.store (cs := .vmem) (bm (.acc g)) (Rect.unit (s := shp (.acc g)) off size inb) w Finset.univ hx hm) kk) Q := by
  refine step_sta S A K c hn (by rw [he]; rfl) g (bxP g true c) (P := relT S c (.acc g) (.t 1 true p)) (P' := relT S c (.acc g) (.t 2 true p))
    (by rw [he]; exact ⟨_, pcs_add S c g _ _, pcs_add S c g _ _⟩) h0 h1 s0 s1 (fun x => ?_) Hk
  have := hw x
  show S.R2 _ _ _ _ _
  rw [row_acc, col_acc]
  unfold bxP
  dsimp only
  rw [Nat.zero_add, ← Nat.add_assoc]
  exact this

end Add

section Fin
variable {n : ℕ} (hn : n < 199) (g : Fin 3) (p : Fin 2) (he : ev n = .fin g p) {off size : Fin 2 → ℕ}
include hn he

theorem fin_lda {α : Type} {Q : α → sProp 𝕄} {inb hl} {kk : ((Rect.unit (s := shp (.acc g)) off size inb).toLoadRect.shape.Idx → Elt F .bf16) → Prog (TpuEff nD τ sig (Elt F) Λ₀ .tc) α}
    (h0 : off 0 = b1 g c * 1024 + b2 g c * 512) (h1 : off 1 = 0) (s0 : size 0 = 512) (s1 : size 1 = wid g)
    (Hk : ∀ v, (∀ x, S.R2 g c (rowF g c + (x 0).val) (col0 p g + (x 1).val) (v x)) → St S A K c n ⊢ wps c (kk v) Q) :
    St S A K c n ⊢ wps c (.op (.load (cs := .vmem) (bm (.acc g)) (Rect.unit (s := shp (.acc g)) off size inb).toLoadRect hl) kk) Q := by
  refine step_lda S A K c hn g ((Pc.B2 g true).box c) fullShare (relT S c (.acc g) (.t 2 true p))
    (by rw [he]; exact ⟨_, pcs_fin S c g _ _⟩) h0 h1 s0 s1 fun v hv => Hk v fun x => ?_
  have := hv x
  change S.R2 _ _ _ _ _ at this
  rw [row_acc, col_acc] at this
  unfold Pc.box at this
  dsimp only at this
  rw [Nat.zero_add, ← Nat.add_assoc, ← Nat.add_assoc] at this
  exact this

theorem fin_lds {α : Type} {Q : α → sProp 𝕄} {inb hl} {kk : ((Rect.unit (s := shp (.snd g)) off size inb).toLoadRect.shape.Idx → Elt F .bf16) → Prog (TpuEff nD τ sig (Elt F) Λ₀ .tc) α}
    (h0 : off 0 = 3072) (h1 : off 1 = 0) (s0 : size 0 = 512) (s1 : size 1 = wid g)
    (Hk : ∀ v, (∀ x, S.R2 g (nbr (2 + g) c) (rowF g c + (x 0).val) (col0 p g + (x 1).val) (v x)) → St S A K c n ⊢ wps c (kk v) Q) :
    St S A K c n ⊢ wps c (.op (.load (cs := .vmem) (bm (.snd g)) (Rect.unit (s := shp (.snd g)) off size inb).toLoadRect hl) kk) Q := by
  refine step_lds S A K c hn g ⟨3072, 512, 0, wid g⟩ fullShare (relT S c (.snd g) (.t 2 false p))
    (by rw [he]; exact ⟨_, (pcs_fin S c g _ _).trans bi_comm⟩) h0 h1 s0 s1 fun v hv => Hk v fun x => ?_
  have := hv x
  change S.R2 _ _ _ _ _ at this
  dsimp only at this
  rw [row_s3 c g _ (Nat.le_add_right _ _), col_snd, Nat.zero_add, Nat.add_sub_cancel_left] at this
  exact this

theorem fin_st {α : Type} {Q : α → sProp 𝕄} {inb w hx hm} {kk : PUnit → Prog (TpuEff nD τ sig (Elt F) Λ₀ .tc) α}
    (h0 : off 0 = b1 g c * 1024 + b2 g c * 512) (h1 : off 1 = 0) (s0 : size 0 = 512) (s1 : size 1 = wid g)
    (hw : ∀ x, S.R3 (rowF g c + (x 0).val) (col0 p g + (x 1).val) (w x)) (Hk : St S A K c (n + 1) ⊢ wps c (kk ⟨⟩) Q) :
    St S A K c n ⊢ wps c (.op (.store (cs := .vmem) (bm (.acc g)) (Rect.unit (s := shp (.acc g)) off size inb) w Finset.univ hx hm) kk) Q := by
  refine step_sta S A K c hn (by rw [he]; rfl) g ((Pc.B2 g true).box c) (P := relT S c (.acc g) (.t 2 true p)) (P' := relT S c (.acc g) (.t 3 true p))
    (by rw [he]; exact ⟨_, pcs_fin S c g _ _, pcs_fin S c g _ _⟩) h0 h1 s0 s1 (fun x => ?_) Hk
  have := hw x
  show S.R3 _ _ _
  rw [row_acc, col_acc]
  unfold Pc.box
  dsimp only
  rw [Nat.zero_add, ← Nat.add_assoc, ← Nat.add_assoc]
  exact this

end Fin

end Cert.Hyper

end
-- ==== Proof.Values.lean ====
/-
What is asked of the contents, so that the arithmetic of every step is right, and the loads of the arguments' blocks.
-/
module

public import proofs.«01_k».proof.Proof.Compute

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What is asked of the contents -/

/-- A block of the first argument from row `r` on; a block of the second from column `k` on. -/
def XS (A : Args F) (c : Dev nD) (r : ℕ) {s : Fin 2 → ℕ} (v : (⟨2, s⟩ : Shape).Idx → Elt F .bf16) : Prop :=
  ∀ (j : (⟨2, s⟩ : Shape).Idx) (i : S4096x512.Idx), (i 0).val = r + (j 0).val → (i 1).val = (j 1).val → v j = A.X c i
@[inherit_doc XS] def WS (A : Args F) (c : Dev nD) (k : ℕ) {s : Fin 2 → ℕ} (v : (⟨2, s⟩ : Shape).Idx → Elt F .bf16) : Prop :=
  ∀ (j : (⟨2, s⟩ : Shape).Idx) (i : S512x8192.Idx), (i 0).val = (j 0).val → (i 1).val = k + (j 1).val → v j = A.Wt c i

/-- The contents fit the arithmetic: a product of the arguments' blocks is a first partial sum, and the sums of partners'
    partial sums are the next ones. -/
structure Good (S : Spec F) (A : Args F) : Prop where
  p1 : ∀ c r k (x : Vec F S2048x512 .bf16) (w : Vec F S512x1280 .bf16), XS A c r (s := ![2048, 512]) x → WS A c k (s := ![512, 1280]) w →
    ∀ j : S2048x1280.Idx, S.R0 c (r + (j 0).val) (k + (j 1).val) (k0_pay1 x w j)
  p3 : ∀ c r k (x : Vec F S2048x512 .bf16) (w : Vec F S512x1408 .bf16), XS A c r (s := ![2048, 512]) x → WS A c k (s := ![512, 1408]) w →
    ∀ j : S2048x1408.Idx, S.R0 c (r + (j 0).val) (k + (j 1).val) (k0_pay3 x w j)
  p6 : ∀ c r k (x : Vec F S1024x512 .bf16) (w : Vec F S512x1280 .bf16), XS A c r (s := ![1024, 512]) x → WS A c k (s := ![512, 1280]) w →
    ∀ j : S1024x1280.Idx, S.R0 c (r + (j 0).val) (k + (j 1).val) (k0_pay6 x w j)
  p19 : ∀ c r k (x : Vec F S1024x512 .bf16) (w : Vec F S512x1408 .bf16), XS A c r (s := ![1024, 512]) x → WS A c k (s := ![512, 1408]) w →
    ∀ j : S1024x1408.Idx, S.R0 c (r + (j 0).val) (k + (j 1).val) (k0_pay19 x w j)
  h1 : ∀ g c i j a b, S.R0 (nbr (0 + g) c) i j a → S.R0 c i j b → S.R1 g c i j (FloatOps.addf a b)
  h2 : ∀ g c i j a b, S.R1 g c i j a → S.R1 g (nbr (1 + g) c) i j b → S.R2 g c i j (FloatOps.addf a b)
  h3 : ∀ g c i j a b, S.R2 g c i j a → S.R2 g (nbr (2 + g) c) i j b → S.R3 i j (FloatOps.maximumf (FloatOps.addf a b) (Scalar.ofBits .bf16 0x0000#16))

theorem cast_self {s : Shape} {β : Type} (v : s.Idx → β) (h : s.ShapeCasts s) : shapeCast s v h = v :=
  funext fun i => congrArg v (Shape.reshapeEquiv_self _ i)

variable (S : Spec F) (A : Args F) (K : Nms) (c : Dev nD)

theorem ld_x {α : Type} {Q : α → sProp 𝕄} {n : ℕ} {off size : Fin 2 → ℕ} {inb hl} (r : ℕ)
    {kk : ((Rect.unit (s := S4096x512) off size inb).toLoadRect.shape.Idx → Elt F .bf16) → Prog (TpuEff nD τ sig (Elt F) Λ₀ .tc) α}
    (Hk : ∀ v, XS A c r (s := size) v → St S A K c n ⊢ wps c (kk v) Q)
    (h0 : off 0 = r := by apply at_dev c; decide +kernel) (h1 : off 1 = 0 := by apply at_dev c; decide +kernel) :
    St S A K c n ⊢ wps c (.op (.load (cs := .vmem) (Memref.whole cc0_stg0_0 : Memref sig .tc .vmem S4096x512 .bf16) (Rect.unit (s := S4096x512) off size inb).toLoadRect hl) kk) Q :=
  step_x S A K c fun v hv => Hk v fun j i hi hi' => hv j i (hi.trans (by rw [h0])) (hi'.trans (by rw [h1, Nat.zero_add]))

theorem ld_w {α : Type} {Q : α → sProp 𝕄} {n : ℕ} {off size : Fin 2 → ℕ} {inb hl} (k : ℕ)
    {kk : ((Rect.unit (s := S512x8192) off size inb).toLoadRect.shape.Idx → Elt F .bf16) → Prog (TpuEff nD τ sig (Elt F) Λ₀ .tc) α}
    (Hk : ∀ v, WS A c k (s := size) v → St S A K c n ⊢ wps c (kk v) Q)
    (h0 : off 0 = 0 := by rfl) (h1 : off 1 = k := by rfl) :
    St S A K c n ⊢ wps c (.op (.load (cs := .vmem) (Memref.whole cc0_stg1_0 : Memref sig .tc .vmem S512x8192 .bf16) (Rect.unit (s := S512x8192) off size inb).toLoadRect hl) kk) Q :=
  step_w S A K c fun v hv => Hk v fun j i hi hi' => hv j i (hi.trans (by rw [h0, Nat.zero_add])) (hi'.trans (by rw [h1]))

/-! ## The steps, one for each kind of event -/

theorem w_dev {α : Type} {Q : α → sProp 𝕄} {n : ℕ} {kk : Dev nD → Prog (TpuEff nD τ sig (Elt F) Λ₀ .tc) α} (Hk : St S A K c n ⊢ wps c (kk c) Q) :
    St S A K c n ⊢ wps c (.op .deviceId kk) Q :=
  Hk.trans (Entails.of_eq (wp_deviceId (c := (c : Thread nD τ)) ..).symm)

theorem w_bsig {α : Type} {Q : α → sProp 𝕄} {n : ℕ} (i : Fin 3) {c' : Dev nD} {sm : Sem sig} {k' : ℕ} {kk : PUnit → Prog (TpuEff nD τ sig (Elt F) Λ₀ .tc) α}
    (Hk : St S A K c (n + 1) ⊢ wps c (kk ⟨⟩) Q) (hn : n < 199 := by decide) (he : ev n = .bsig i := by decide +kernel)
    (hc : c' = nbr i c := by apply at_dev c; decide +kernel) (hsm : SemLoc.reg sm = CK.bar.sem := by rfl) (hk : k' = 1 := by rfl) :
    St S A K c n ⊢ wps c (.op (.semSignal (c' : Thread nD τ) sm k') kk) Q :=
  step_sig S A K c hn ⟨i, .bar, 0, i, .bwait⟩ (by rw [he]; rfl) (by rw [he]; nofun) hc hsm hk Hk

theorem w_hsig {α : Type} {Q : α → sProp 𝕄} {n : ℕ} (h : Fin 4) (g : Fin 3) {c' : Dev nD} {sm : Sem sig} {k' : ℕ} {kk : PUnit → Prog (TpuEff nD τ sig (Elt F) Λ₀ .tc) α}
    (Hk : St S A K c (n + 1) ⊢ wps c (kk ⟨⟩) Q) (hn : n < 199 := by decide) (he : ev n = .hsig h g := by decide +kernel)
    (hc : c' = nbr (via g (slotH h)) c := by apply at_dev c; decide +kernel) (hsm : SemLoc.reg sm = (CK.hsc h g).sem := by rfl) (hk : k' = 1 := by rfl) :
    St S A K c n ⊢ wps c (.op (.semSignal (c' : Thread nD τ) sm k') kk) Q :=
  step_sig S A K c hn ⟨via g (slotH h), .hsc h g, 0, 0, .hwait h g⟩ (by rw [he]; rfl) (by rw [he]; nofun) hc hsm hk Hk

theorem w_swait {α : Type} {Q : α → sProp 𝕄} {n : ℕ} (y : CK × ℕ) {sm : Sem sig} {k' : ℕ} {kk : PUnit → Prog (TpuEff nD τ sig (Elt F) Λ₀ .tc) α}
    (Hk : St S A K c (n + 1) ⊢ wps c (kk ⟨⟩) Q) (hn : n < 199 := by decide) (he : (ev n).waits = some y := by decide +kernel)
    (hsm : SemLoc.reg sm = y.1.sem := by rfl) (hk : k' = full y.1 := by rfl) :
    St S A K c n ⊢ wps c (.op (.semWait sm k') kk) Q :=
  step_wait S A K c hn y he (fun _ => wpE_semWait_eq 𝒱₀ (c : Thread nD τ) none Set.univ _) hsm hk Hk

theorem w_dwait {α : Type} {Q : α → sProp 𝕄} {n : ℕ} (y : CK × ℕ) {sp sp' : Space} {s s' : Shape} {e e' : EltTy} {sem : DmaSem sig}
    {src : Memref sig .tc sp' s' e'} {κ' : Kind} {dst : Memref sig κ' sp s e} {hsrc : src.view.WordExact} {hdst : dst.view.WordExact} {kk : PUnit → Prog (TpuEff nD τ sig (Elt F) Λ₀ .tc) α}
    (Hk : St S A K c (n + 1) ⊢ wps c (kk ⟨⟩) Q) (hn : n < 199 := by decide) (he : (ev n).waits = some y := by decide +kernel)
    (hsm : SemLoc.dma sem = y.1.sem := by rfl) (hk : dst.view.dmaCredit = full y.1 := by rfl) :
    St S A K c n ⊢ wps c (.op (.waitDma2 sem src dst hsrc hdst) kk) Q :=
  step_wait S A K c hn y he (fun _ => wpE_waitDma2_eq 𝒱₀ (c : Thread nD τ) none Set.univ _) hsm hk Hk

theorem w_send {α : Type} {Q : α → sProp 𝕄} {n : ℕ} (g : Fin 3) (k : Fin 7) (p : Fin 2) (b b' : Bf) {c' : Dev nD}
    {off off' size : Fin 2 → ℕ} {inb inb' hr hr'} {sS sR : SemLoc sig} {hsc hsrc hdst hsem} {kk : PUnit → Prog (TpuEff nD τ sig (Elt F) Λ₀ .tc) α}
    (Hk : St S A K c (n + 1) ⊢ wps c (kk ⟨⟩) Q) (hn : n < 199 := by decide) (he : ev n = .send g k p := by decide +kernel)
    (hb : b = sB g k := by rfl) (hb' : b' = dB g k := by rfl) (hc' : c' = peer g k c := by apply at_dev c; decide +kernel)
    (ho0 : off 0 = (srcBx g p c k).r := by apply at_dev c; decide +kernel) (ho1 : off 1 = (srcBx g p c k).c := by apply at_dev c; decide +kernel)
    (ho0' : off' 0 = (dstBx g p (peer g k c) k).r := by apply at_dev c; decide +kernel) (ho1' : off' 1 = (dstBx g p (peer g k c) k).c := by apply at_dev c; decide +kernel)
    (hs0 : size 0 = nr k := by rfl) (hs1 : size 1 = wid g := by rfl) (hsS : sS = (CK.snd g k).sem := by rfl) (hsR : sR = (CK.rcv g k).sem := by rfl) :
    St S A K c n ⊢ wps c (.op (.enqueueDma ((bm b).slice (Rect.unit (s := shp b) off size inb) hr)
      (.remote (c' : Thread nD τ) ((bm b').slice (Rect.unit (s := shp b') off' size inb') hr') sS hsc) sR hsrc hdst hsem) kk) Q :=
  step_send S A K c hn g k p he b b' hb hb' hc' ho0 ho1 ho0' ho1' hs0 hs1 hsS hsR Hk

theorem w_copy {α : Type} {Q : α → sProp 𝕄} {n : ℕ} (g : Fin 3) (p : Fin 2)
    {off off' size : Fin 2 → ℕ} {inb inb' hr hr'} {sR : SemLoc sig} {hsrc hdst hsem} {kk : PUnit → Prog (TpuEff nD τ sig (Elt F) Λ₀ .tc) α}
    (Hk : St S A K c (n + 1) ⊢ wps c (kk ⟨⟩) Q) (hn : n < 199 := by decide) (he : ev n = .copy g p := by decide +kernel)
    (ho0 : off 0 = b1 g c * 1024 + b2 g c * 512 := by apply at_dev c; decide +kernel) (ho1 : off 1 = 0 := by apply at_dev c; decide +kernel)
    (ho0' : off' 0 = b0 g c * 2048 + b1 g c * 1024 + b2 g c * 512 := by apply at_dev c; decide +kernel) (ho1' : off' 1 = col0 p g := by apply at_dev c; decide +kernel)
    (hs0 : size 0 = 512 := by rfl) (hs1 : size 1 = wid g := by rfl) (hsR : sR = (CK.outc g).sem := by rfl) :
    St S A K c n ⊢ wps c (.op (.enqueueDma ((bm (.acc g)).slice (Rect.unit (s := shp (.acc g)) off size inb) hr)
      (.here ((bm .out).slice (Rect.unit (s := shp .out) off' size inb') hr')) sR hsrc hdst hsem) kk) Q :=
  step_copy S A K c hn g p he (.acc g) rfl ho0 ho1 ho0' ho1' hs0 hs1 hsR Hk

theorem w_init_ld {α : Type} {Q : α → sProp 𝕄} {n : ℕ} (g : Fin 3) {off size : Fin 2 → ℕ} {inb hl}
    {kk : ((Rect.unit (s := shp (.snd g)) off size inb).toLoadRect.shape.Idx → Elt F .bf16) → Prog (TpuEff nD τ sig (Elt F) Λ₀ .tc) α}
    (Hk : ∀ v, St S A K c n ⊢ wps c (kk v) Q) (hn : n < 199 := by decide) (he : ev n = .init g := by decide +kernel)
    (h0 : off 0 = 0 := by apply at_dev c; decide +kernel) (h1 : off 1 = 0 := by apply at_dev c; decide +kernel) (s0 : size 0 = 2048 := by rfl) (s1 : size 1 = wid g := by rfl) :
    St S A K c n ⊢ wps c (.op (.load (cs := .vmem) (bm (.snd g)) (Rect.unit (s := shp (.snd g)) off size inb).toLoadRect hl) kk) Q :=
  init_ld S A K c hn g he h0 h1 s0 s1 Hk

theorem w_prod_ld {α : Type} {Q : α → sProp 𝕄} {n : ℕ} (g : Fin 3) (h : Bool) {off size : Fin 2 → ℕ} {inb hl}
    {kk : ((Rect.unit (s := shp (.snd g)) off size inb).toLoadRect.shape.Idx → Elt F .bf16) → Prog (TpuEff nD τ sig (Elt F) Λ₀ .tc) α}
    (Hk : ∀ v, St S A K c n ⊢ wps c (kk v) Q) (hn : n < 199 := by decide) (he : ev n = .prod g h := by decide +kernel)
    (h0 : off 0 = (bif h then b1 g c else 1 - b1 g c) * 1024 := by apply at_dev c; decide +kernel) (h1 : off 1 = 0 := by apply at_dev c; decide +kernel) (s0 : size 0 = 1024 := by rfl) (s1 : size 1 = wid g := by rfl) :
    St S A K c n ⊢ wps c (.op (.load (cs := .vmem) (bm (.snd g)) (Rect.unit (s := shp (.snd g)) off size inb).toLoadRect hl) kk) Q :=
  prod_ld S A K c hn g h he h0 h1 s0 s1 Hk

theorem w_acc_ld {α : Type} {Q : α → sProp 𝕄} {n : ℕ} (g : Fin 3) (p : Fin 2) (h : Bool) {off size : Fin 2 → ℕ} {inb hl}
    {kk : ((Rect.unit (s := shp (.acc g)) off size inb).toLoadRect.shape.Idx → Elt F .bf16) → Prog (TpuEff nD τ sig (Elt F) Λ₀ .tc) α}
    (Hk : ∀ v, (∀ x, S.R0 (nbr (0 + g) c) (rowA g h c + (x 0).val) (col0 p g + (x 1).val) (v x)) → St S A K c n ⊢ wps c (kk v) Q) (hn : n < 199 := by decide) (he : ev n = .acc g p h := by decide +kernel)
    (h0 : off 0 = (bif h then b1 g c else 1 - b1 g c) * 1024 := by apply at_dev c; decide +kernel) (h1 : off 1 = 0 := by apply at_dev c; decide +kernel) (s0 : size 0 = 1024 := by rfl) (s1 : size 1 = wid g := by rfl) :
    St S A K c n ⊢ wps c (.op (.load (cs := .vmem) (bm (.acc g)) (Rect.unit (s := shp (.acc g)) off size inb).toLoadRect hl) kk) Q :=
  acc_ld S A K c hn g p h he h0 h1 s0 s1 Hk

theorem w_add_lda {α : Type} {Q : α → sProp 𝕄} {n : ℕ} (g : Fin 3) (p : Fin 2) {off size : Fin 2 → ℕ} {inb hl}
    {kk : ((Rect.unit (s := shp (.acc g)) off size inb).toLoadRect.shape.Idx → Elt F .bf16) → Prog (TpuEff nD τ sig (Elt F) Λ₀ .tc) α}
    (Hk : ∀ v, (∀ x, S.R1 g c (rowA g true c + (x 0).val) (col0 p g + (x 1).val) (v x)) → St S A K c n ⊢ wps c (kk v) Q) (hn : n < 199 := by decide) (he : ev n = .add1 g p := by decide +kernel)
    (h0 : off 0 = b1 g c * 1024 := by apply at_dev c; decide +kernel) (h1 : off 1 = 0 := by apply at_dev c; decide +kernel) (s0 : size 0 = 1024 := by rfl) (s1 : size 1 = wid g := by rfl) :
    St S A K c n ⊢ wps c (.op (.load (cs := .vmem) (bm (.acc g)) (Rect.unit (s := shp (.acc g)) off size inb).toLoadRect hl) kk) Q :=
  add_lda S A K c hn g p he h0 h1 s0 s1 Hk

theorem w_add_lds {α : Type} {Q : α → sProp 𝕄} {n : ℕ} (g : Fin 3) (p : Fin 2) {off size : Fin 2 → ℕ} {inb hl}
    {kk : ((Rect.unit (s := shp (.snd g)) off size inb).toLoadRect.shape.Idx → Elt F .bf16) → Prog (TpuEff nD τ sig (Elt F) Λ₀ .tc) α}
    (Hk : ∀ v, (∀ x, S.R1 g (nbr (1 + g) c) (rowA g true c + (x 0).val) (col0 p g + (x 1).val) (v x)) → St S A K c n ⊢ wps c (kk v) Q) (hn : n < 199 := by decide) (he : ev n = .add1 g p := by decide +kernel)
    (h0 : off 0 = 2048 := by apply at_dev c; decide +kernel) (h1 : off 1 = 0 := by apply at_dev c; decide +kernel) (s0 : size 0 = 1024 := by rfl) (s1 : size 1 = wid g := by rfl) :
    St S A K c n ⊢ wps c (.op (.load (cs := .vmem) (bm (.snd g)) (Rect.unit (s := shp (.snd g)) off size inb).toLoadRect hl) kk) Q :=
  add_lds S A K c hn g p he h0 h1 s0 s1 Hk

theorem w_fin_lda {α : Type} {Q : α → sProp 𝕄} {n : ℕ} (g : Fin 3) (p : Fin 2) {off size : Fin 2 → ℕ} {inb hl}
    {kk : ((Rect.unit (s := shp (.acc g)) off size inb).toLoadRect.shape.Idx → Elt F .bf16) → Prog (TpuEff nD τ sig (Elt F) Λ₀ .tc) α}
    (Hk : ∀ v, (∀ x, S.R2 g c (rowF g c + (x 0).val) (col0 p g + (x 1).val) (v x)) → St S A K c n ⊢ wps c (kk v) Q) (hn : n < 199 := by decide) (he : ev n = .fin g p := by decide +kernel)
    (h0 : off 0 = b1 g c * 1024 + b2 g c * 512 := by apply at_dev c; decide +kernel) (h1 : off 1 = 0 := by apply at_dev c; decide +kernel) (s0 : size 0 = 512 := by rfl) (s1 : size 1 = wid g := by rfl) :
    St S A K c n ⊢ wps c (.op (.load (cs := .vmem) (bm (.acc g)) (Rect.unit (s := shp (.acc g)) off size inb).toLoadRect hl) kk) Q :=
  fin_lda S A K c hn g p he h0 h1 s0 s1 Hk

theorem w_fin_lds {α : Type} {Q : α → sProp 𝕄} {n : ℕ} (g : Fin 3) (p : Fin 2) {off size : Fin 2 → ℕ} {inb hl}
    {kk : ((Rect.unit (s := shp (.snd g)) off size inb).toLoadRect.shape.Idx → Elt F .bf16) → Prog (TpuEff nD τ sig (Elt F) Λ₀ .tc) α}
    (Hk : ∀ v, (∀ x, S.R2 g (nbr (2 + g) c) (rowF g c + (x 0).val) (col0 p g + (x 1).val) (v x)) → St S A K c n ⊢ wps c (kk v) Q) (hn : n < 199 := by decide) (he : ev n = .fin g p := by decide +kernel)
    (h0 : off 0 = 3072 := by apply at_dev c; decide +kernel) (h1 : off 1 = 0 := by apply at_dev c; decide +kernel) (s0 : size 0 = 512 := by rfl) (s1 : size 1 = wid g := by rfl) :
    St S A K c n ⊢ wps c (.op (.load (cs := .vmem) (bm (.snd g)) (Rect.unit (s := shp (.snd g)) off size inb).toLoadRect hl) kk) Q :=
  fin_lds S A K c hn g p he h0 h1 s0 s1 Hk

theorem w_init_st {α : Type} {Q : α → sProp 𝕄} {n : ℕ} (g : Fin 3) {off size : Fin 2 → ℕ} {inb w hx hm} {kk : PUnit → Prog (TpuEff nD τ sig (Elt F) Λ₀ .tc) α}
    (v : (Rect.unit (s := shp (.snd g)) off size inb).shape.Idx → Elt F .bf16) (hv : ∀ x, S.R0 c ((1 - b0 g c) * 2048 + (x 0).val) (col0 0 g + (x 1).val) (v x)) (hw : w = v) (Hk : St S A K c (n + 1) ⊢ wps c (kk ⟨⟩) Q) (hn : n < 199 := by decide) (he : ev n = .init g := by decide +kernel)
    (h0 : off 0 = 0 := by apply at_dev c; decide +kernel) (h1 : off 1 = 0 := by apply at_dev c; decide +kernel) (s0 : size 0 = 2048 := by rfl) (s1 : size 1 = wid g := by rfl) :
    St S A K c n ⊢ wps c (.op (.store (cs := .vmem) (bm (.snd g)) (Rect.unit (s := shp (.snd g)) off size inb) w Finset.univ hx hm) kk) Q :=
  init_st S A K c hn g he h0 h1 s0 s1 (fun x => by rw [hw]; exact hv x) Hk

theorem w_prod_st {α : Type} {Q : α → sProp 𝕄} {n : ℕ} (g : Fin 3) (h : Bool) {off size : Fin 2 → ℕ} {inb w hx hm} {kk : PUnit → Prog (TpuEff nD τ sig (Elt F) Λ₀ .tc) α}
    (v : (Rect.unit (s := shp (.snd g)) off size inb).shape.Idx → Elt F .bf16) (hv : ∀ x, S.R0 c (rowP g h c + (x 0).val) (col0 1 g + (x 1).val) (v x)) (hw : w = v) (Hk : St S A K c (n + 1) ⊢ wps c (kk ⟨⟩) Q) (hn : n < 199 := by decide) (he : ev n = .prod g h := by decide +kernel)
    (h0 : off 0 = (bif h then b1 g c else 1 - b1 g c) * 1024 := by apply at_dev c; decide +kernel) (h1 : off 1 = 0 := by apply at_dev c; decide +kernel) (s0 : size 0 = 1024 := by rfl) (s1 : size 1 = wid g := by rfl) :
    St S A K c n ⊢ wps c (.op (.store (cs := .vmem) (bm (.snd g)) (Rect.unit (s := shp (.snd g)) off size inb) w Finset.univ hx hm) kk) Q :=
  prod_st S A K c hn g h he h0 h1 s0 s1 (fun x => by rw [hw]; exact hv x) Hk

theorem w_acc_st {α : Type} {Q : α → sProp 𝕄} {n : ℕ} (g : Fin 3) (p : Fin 2) (h : Bool) {off size : Fin 2 → ℕ} {inb w hx hm} {kk : PUnit → Prog (TpuEff nD τ sig (Elt F) Λ₀ .tc) α}
    (v : (Rect.unit (s := shp (.acc g)) off size inb).shape.Idx → Elt F .bf16) (hv : ∀ x, S.R1 g c (rowA g h c + (x 0).val) (col0 p g + (x 1).val) (v x)) (hw : w = v)
    (Hk : St S A K c (n + 1) ⊢ wps c (kk ⟨⟩) Q) (hn : n < 199 := by decide) (he : ev n = .acc g p h := by decide +kernel)
    (h0 : off 0 = (bif h then b1 g c else 1 - b1 g c) * 1024 := by apply at_dev c; decide +kernel) (h1 : off 1 = 0 := by apply at_dev c; decide +kernel) (s0 : size 0 = 1024 := by rfl) (s1 : size 1 = wid g := by rfl) :
    St S A K c n ⊢ wps c (.op (.store (cs := .vmem) (bm (.acc g)) (Rect.unit (s := shp (.acc g)) off size inb) w Finset.univ hx hm) kk) Q :=
  acc_st S A K c hn g p h he h0 h1 s0 s1 (fun x => by rw [hw]; exact hv x) Hk

theorem w_add_st {α : Type} {Q : α → sProp 𝕄} {n : ℕ} (g : Fin 3) (p : Fin 2) {off size : Fin 2 → ℕ} {inb w hx hm} {kk : PUnit → Prog (TpuEff nD τ sig (Elt F) Λ₀ .tc) α}
    (v : (Rect.unit (s := shp (.acc g)) off size inb).shape.Idx → Elt F .bf16) (hv : ∀ x, S.R2 g c (rowA g true c + (x 0).val) (col0 p g + (x 1).val) (v x)) (hw : w = v)
    (Hk : St S A K c (n + 1) ⊢ wps c (kk ⟨⟩) Q) (hn : n < 199 := by decide) (he : ev n = .add1 g p := by decide +kernel)
    (h0 : off 0 = b1 g c * 1024 := by apply at_dev c; decide +kernel) (h1 : off 1 = 0 := by apply at_dev c; decide +kernel) (s0 : size 0 = 1024 := by rfl) (s1 : size 1 = wid g := by rfl) :
    St S A K c n ⊢ wps c (.op (.store (cs := .vmem) (bm (.acc g)) (Rect.unit (s := shp (.acc g)) off size inb) w Finset.univ hx hm) kk) Q :=
  add_st S A K c hn g p he h0 h1 s0 s1 (fun x => by rw [hw]; exact hv x) Hk

theorem w_fin_st {α : Type} {Q : α → sProp 𝕄} {n : ℕ} (g : Fin 3) (p : Fin 2) {off size : Fin 2 → ℕ} {inb w hx hm} {kk : PUnit → Prog (TpuEff nD τ sig (Elt F) Λ₀ .tc) α}
    (v : (Rect.unit (s := shp (.acc g)) off size inb).shape.Idx → Elt F .bf16) (hv : ∀ x, S.R3 (rowF g c + (x 0).val) (col0 p g + (x 1).val) (v x)) (hw : w = v)
    (Hk : St S A K c (n + 1) ⊢ wps c (kk ⟨⟩) Q) (hn : n < 199 := by decide) (he : ev n = .fin g p := by decide +kernel)
    (h0 : off 0 = b1 g c * 1024 + b2 g c * 512 := by apply at_dev c; decide +kernel) (h1 : off 1 = 0 := by apply at_dev c; decide +kernel) (s0 : size 0 = 512 := by rfl) (s1 : size 1 = wid g := by rfl) :
    St S A K c n ⊢ wps c (.op (.store (cs := .vmem) (bm (.acc g)) (Rect.unit (s := shp (.acc g)) off size inb) w Finset.univ hx hm) kk) Q :=
  fin_st S A K c hn g p he h0 h1 s0 s1 (fun x => by rw [hw]; exact hv x) Hk

end Cert.Hyper

end
-- ==== Proof.Walk1.lean ====
/-
The kernel's parts 1 to 13, walked through the protocol: each takes the state at its first event to the state after its last.
-/
module

public import proofs.«01_k».proof.Proof.Values

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A part of the kernel's body at the launch's buffers and semaphores. -/
@[reducible] def atA {β : Type 1} (f : (arg0 : Memref sig .tc .vmem S4096x512 .bf16) → arg0.IsWhole → (arg1 : Memref sig .tc .vmem S512x8192 .bf16) → arg1.IsWhole → (arg2 : Memref sig .tc .hbm S4096x8192 .bf16) → arg2.IsWhole → (arg3 : Memref sig .tc .vmem S3584x1280 .bf16) → arg3.IsWhole → (arg4 : Memref sig .tc .vmem S3584x1408 .bf16) → arg4.IsWhole → (arg5 : Memref sig .tc .vmem S3584x1408 .bf16) → arg5.IsWhole → (arg6 : Memref sig .tc .vmem S2048x1280 .bf16) → arg6.IsWhole → (arg7 : Memref sig .tc .vmem S2048x1408 .bf16) → arg7.IsWhole → (arg8 : Memref sig .tc .vmem S2048x1408 .bf16) → arg8.IsWhole → DmaSems sig S3x7 → DmaSems sig S3x7 → DmaSems sig S3 → Sems sig S_ → Sems sig S_ → Sems sig S_ → Sems sig S_ → Sems sig S_ → Sems sig S_ → Sems sig S_ → Sems sig S_ → Sems sig S_ → Sems sig S_ → Sems sig S_ → Sems sig S_ → β) : β :=
  f (Memref.whole cc0_stg0_0) (Memref.isWhole_whole _) (Memref.whole cc0_stg1_0) (Memref.isWhole_whole _) (bm .out) (Memref.isWhole_whole _) (bm (.snd 0)) (Memref.isWhole_whole _) (bm (.snd 1)) (Memref.isWhole_whole _) (bm (.snd 2)) (Memref.isWhole_whole _) (bm (.acc 0)) (Memref.isWhole_whole _) (bm (.acc 1)) (Memref.isWhole_whole _) (bm (.acc 2)) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20

variable (S : Spec F) (A : Args F) (K : Nms) (c : Dev nD) (hG : Good S A)

theorem part_1 {α : Type} {Q : α → sProp 𝕄} {kk} (Hk : ∀ v4 v6 v8 v9 v10 v11 v12 v13 v14 v15 v16 v17, St S A K c 3 ⊢ wps c (kk ⟨c, v4, v6, v8, v9, v10, v11, v12, v13, v14, v15, v16, v17, SemArray.scalar (sig.barrier 0 rfl)⟩) Q) :
    St S A K c 0 ⊢ wps c ((atA (k0_part1 (F := F))) >>= kk) Q := by
  rw [k0_part1_eq_skeleton]; unfold atA k0_part1_skel
  simp only [Prog.bind_op, Prog.bind_ret, Prog.lift, Prog.pure_eq_ret, semSignalWord]
  refine w_dev S A K c ?_
  refine w_bsig S A K c 0 ?_
  refine w_bsig S A K c 1 ?_
  refine w_bsig S A K c 2 ?_
  exact Hk _ _ _ _ _ _ _ _ _ _ _ _

include hG

theorem part_2 {α : Type} {Q : α → sProp 𝕄} {kk} v4 v6 v8 (Hk : ∀ r, St S A K c 5 ⊢ wps c (kk r) Q) :
    St S A K c 3 ⊢ wps c (((atA (k0_part2 (F := F))) c v4 v6 v8 (SemArray.scalar (sig.barrier 0 rfl))) >>= kk) Q := by
  rw [k0_part2_eq_skeleton]; unfold atA k0_part2_skel
  simp only [Prog.bind_op, Prog.bind_ret, Prog.lift, Prog.pure_eq_ret, semWaitWord]
  refine w_swait S A K c (.bar, 0) ?_
  refine ld_x S A K c ((1 - b0 0 c) * 2048) fun v46 hv46 => ?_
  refine ld_w S A K c (col0 0 0) fun v48 hv48 => ?_
  refine w_init_ld S A K c 0 fun v52 => ?_
  refine w_init_st S A K c 0 (k0_pay1 v46 v48) (hG.p1 c _ _ v46 v48 hv46 hv48) rfl ?_
  exact Hk _

theorem part_3 {α : Type} {Q : α → sProp 𝕄} {kk} v4 v6 v9 (Hk : ∀ v89, St S A K c 8 ⊢ wps c (kk v89) Q) :
    St S A K c 5 ⊢ wps c (((atA (k0_part3 (F := F))) c v4 v6 v9) >>= kk) Q := by
  rw [k0_part3_eq_skeleton]; unfold atA k0_part3_skel
  simp only [Prog.bind_op, Prog.bind_ret, Prog.lift, Prog.pure_eq_ret]
  refine w_send S A K c 0 0 0 (.snd 0) (.acc 0) ?_
  refine w_send S A K c 0 6 0 (.snd 0) (.acc 0) ?_
  refine ld_x S A K c ((1 - b0 1 c) * 2048) fun v80 hv80 => ?_
  refine ld_w S A K c (col0 0 1) fun v82 hv82 => ?_
  refine w_init_ld S A K c 1 fun v86 => ?_
  refine w_init_st S A K c 1 (k0_pay3 v80 v82) (hG.p3 c _ _ v80 v82 hv80 hv82) (cast_self _ _) ?_
  exact Hk _

theorem part_4 {α : Type} {Q : α → sProp 𝕄} {kk} v4 v12 v89 (Hk : ∀ v119, (∀ x, S.R0 c ((1 - b0 2 c) * 2048 + (x 0).val) (col0 0 2 + (x 1).val) (v119 x)) → St S A K c 10 ⊢ wps c (kk v119) Q) :
    St S A K c 8 ⊢ wps c (((atA (k0_part4 (F := F))) c v4 v12 v89) >>= kk) Q := by
  rw [k0_part4_eq_skeleton]; unfold atA k0_part4_skel
  simp only [Prog.bind_op, Prog.bind_ret, Prog.lift, Prog.pure_eq_ret]
  refine w_send S A K c 1 0 0 (.snd 1) (.acc 1) ?_
  refine w_send S A K c 1 6 0 (.snd 1) (.acc 1) ?_
  refine ld_x S A K c ((1 - b0 2 c) * 2048) fun v114 hv114 => ?_
  refine ld_w S A K c (col0 0 2) fun v116 hv116 => ?_
  exact Hk _ (hG.p3 c _ _ v114 v116 hv114 hv116)

theorem part_5 {α : Type} {Q : α → sProp 𝕄} {kk} v8 v15 v119 (hv119 : ∀ x, S.R0 c ((1 - b0 2 c) * 2048 + (x 0).val) (col0 0 2 + (x 1).val) (v119 x)) (Hk : St S A K c 13 ⊢ wps c (kk ⟨⟩) Q) :
    St S A K c 10 ⊢ wps c (((atA (k0_part5 (F := F))) c v8 v15 v119) >>= kk) Q := by
  rw [k0_part5_eq_skeleton]; unfold atA k0_part5_skel
  simp only [Prog.bind_op, Prog.bind_ret, Prog.lift, Prog.pure_eq_ret]
  refine w_init_ld S A K c 2 fun v120 => ?_
  refine w_init_st S A K c 2 v119 hv119 (cast_self _ _) ?_
  refine w_send S A K c 2 0 0 (.snd 2) (.acc 2) ?_
  refine w_send S A K c 2 6 0 (.snd 2) (.acc 2) ?_
  exact Hk

theorem part_6 {α : Type} {Q : α → sProp 𝕄} {kk} v6 v9 v28 (Hk : St S A K c 16 ⊢ wps c (kk ⟨⟩) Q) :
    St S A K c 13 ⊢ wps c (((atA (k0_part6 (F := F))) c v6 v9 v28) >>= kk) Q := by
  rw [k0_part6_eq_skeleton]; unfold atA k0_part6_skel
  simp only [Prog.bind_op, Prog.bind_ret, Prog.lift, Prog.pure_eq_ret]
  refine w_dwait S A K c (.snd 0 0, 0) ?_
  refine w_dwait S A K c (.rcv 0 0, 0) ?_
  refine w_acc_ld S A K c 0 0 false fun v158 hv158 => ?_
  refine ld_x S A K c (rowA 0 false c) fun v163 hv163 => ?_
  refine ld_w S A K c (col0 0 0) fun v165 hv165 => ?_
  refine w_acc_ld S A K c 0 0 false fun v173 hv173 => ?_
  refine w_acc_st S A K c 0 0 false (addf v158 (k0_pay6 v163 v165)) (fun x => hG.h1 0 c _ _ _ _ (hv158 x) (hG.p6 c _ _ v163 v165 hv163 hv165 x)) (cast_self _ _) ?_
  exact Hk

theorem part_7 {α : Type} {Q : α → sProp 𝕄} {kk} v6 v9 v10 v28 (Hk : ∀ v198 v207, (∀ x, S.R0 (nbr (0 + 0) c) (rowA 0 true c + (x 0).val) (col0 0 0 + (x 1).val) (v198 x)) → (∀ x, S.R0 c (rowA 0 true c + (x 0).val) (col0 0 0 + (x 1).val) (v207 x)) → St S A K c 19 ⊢ wps c (kk ⟨v198, v207⟩) Q) :
    St S A K c 16 ⊢ wps c (((atA (k0_part7 (F := F))) c v6 v9 v10 v28) >>= kk) Q := by
  rw [k0_part7_eq_skeleton]; unfold atA k0_part7_skel
  simp only [Prog.bind_op, Prog.bind_ret, Prog.lift, Prog.pure_eq_ret]
  refine w_send S A K c 0 1 0 (.acc 0) (.snd 0) ?_
  refine w_dwait S A K c (.snd 0 6, 0) ?_
  refine w_dwait S A K c (.rcv 0 6, 0) ?_
  refine w_acc_ld S A K c 0 0 true fun v198 hv198 => ?_
  refine ld_x S A K c (rowA 0 true c) fun v202 hv202 => ?_
  refine ld_w S A K c (col0 0 0) fun v204 hv204 => ?_
  exact Hk _ _ hv198 (hG.p6 c _ _ v202 v204 hv202 hv204)

theorem part_8 {α : Type} {Q : α → sProp 𝕄} {kk} v4 v6 v12 v29 v198 v207 (hv198 : ∀ x, S.R0 (nbr (0 + 0) c) (rowA 0 true c + (x 0).val) (col0 0 0 + (x 1).val) (v198 x)) (hv207 : ∀ x, S.R0 c (rowA 0 true c + (x 0).val) (col0 0 0 + (x 1).val) (v207 x)) (Hk : ∀ v238, (∀ x, S.R1 1 c (rowA 1 false c + (x 0).val) (col0 0 1 + (x 1).val) (v238 x)) → St S A K c 22 ⊢ wps c (kk v238) Q) :
    St S A K c 19 ⊢ wps c (((atA (k0_part8 (F := F))) c v4 v6 v12 v29 v198 v207) >>= kk) Q := by
  rw [k0_part8_eq_skeleton]; unfold atA k0_part8_skel
  simp only [Prog.bind_op, Prog.bind_ret, Prog.lift, Prog.pure_eq_ret]
  refine w_acc_ld S A K c 0 0 true fun v211 hv211 => ?_
  refine w_acc_st S A K c 0 0 true (addf v198 v207) (fun x => hG.h1 0 c _ _ _ _ (hv198 x) (hv207 x)) (cast_self _ _) ?_
  refine w_dwait S A K c (.snd 1 0, 0) ?_
  refine w_dwait S A K c (.rcv 1 0, 0) ?_
  refine w_acc_ld S A K c 1 0 false fun v227 hv227 => ?_
  refine ld_x S A K c (rowA 1 false c) fun v232 hv232 => ?_
  refine ld_w S A K c (col0 0 1) fun v234 hv234 => ?_
  exact Hk _ (fun x => hG.h1 1 c _ _ _ _ (hv227 x) (hG.p19 c _ _ v232 v234 hv232 hv234 x))

theorem part_9 {α : Type} {Q : α → sProp 𝕄} {kk} v4 v12 v13 v238 (hv238 : ∀ x, S.R1 1 c (rowA 1 false c + (x 0).val) (col0 0 1 + (x 1).val) (v238 x)) (Hk : ∀ c1024_i32_232, St S A K c 26 ⊢ wps c (kk c1024_i32_232) Q) :
    St S A K c 22 ⊢ wps c (((atA (k0_part9 (F := F))) c v4 v12 v13 v238) >>= kk) Q := by
  rw [k0_part9_eq_skeleton]; unfold atA k0_part9_skel
  simp only [Prog.bind_op, Prog.bind_ret, Prog.lift, Prog.pure_eq_ret]
  refine w_acc_ld S A K c 1 0 false fun v242 hv242 => ?_
  refine w_acc_st S A K c 1 0 false v238 hv238 (cast_self _ _) ?_
  refine w_send S A K c 1 1 0 (.acc 1) (.snd 1) ?_
  refine w_dwait S A K c (.snd 1 6, 0) ?_
  refine w_dwait S A K c (.rcv 1 6, 0) ?_
  exact Hk _

theorem part_10 {α : Type} {Q : α → sProp 𝕄} {kk} v4 v8 v15 v29 c1024_i32_232 (Hk : St S A K c 29 ⊢ wps c (kk ⟨⟩) Q) :
    St S A K c 26 ⊢ wps c (((atA (k0_part10 (F := F))) c v4 v8 v15 v29 c1024_i32_232) >>= kk) Q := by
  rw [k0_part10_eq_skeleton]; unfold atA k0_part10_skel
  simp only [Prog.bind_op, Prog.bind_ret, Prog.lift, Prog.pure_eq_ret]
  refine w_acc_ld S A K c 1 0 true fun v267 hv267 => ?_
  refine ld_x S A K c (rowA 1 true c) fun v271 hv271 => ?_
  refine ld_w S A K c (col0 0 1) fun v273 hv273 => ?_
  refine w_acc_ld S A K c 1 0 true fun v280 hv280 => ?_
  refine w_acc_st S A K c 1 0 true (addf v267 (k0_pay19 v271 v273)) (fun x => hG.h1 1 c _ _ _ _ (hv267 x) (hG.p19 c _ _ v271 v273 hv271 hv273 x)) (cast_self _ _) ?_
  refine w_dwait S A K c (.snd 2 0, 0) ?_
  refine w_dwait S A K c (.rcv 2 0, 0) ?_
  exact Hk

theorem part_11 {α : Type} {Q : α → sProp 𝕄} {kk} v8 v16 v30 (Hk : St S A K c 31 ⊢ wps c (kk ⟨⟩) Q) :
    St S A K c 29 ⊢ wps c (((atA (k0_part11 (F := F))) c v8 v16 v30) >>= kk) Q := by
  rw [k0_part11_eq_skeleton]; unfold atA k0_part11_skel
  simp only [Prog.bind_op, Prog.bind_ret, Prog.lift, Prog.pure_eq_ret]
  refine w_acc_ld S A K c 2 0 false fun v296 hv296 => ?_
  refine ld_x S A K c (rowA 2 false c) fun v301 hv301 => ?_
  refine ld_w S A K c (col0 0 2) fun v303 hv303 => ?_
  refine w_acc_ld S A K c 2 0 false fun v311 hv311 => ?_
  refine w_acc_st S A K c 2 0 false (addf v296 (k0_pay19 v301 v303)) (fun x => hG.h1 2 c _ _ _ _ (hv296 x) (hG.p19 c _ _ v301 v303 hv301 hv303 x)) (cast_self _ _) ?_
  refine w_send S A K c 2 1 0 (.acc 2) (.snd 2) ?_
  exact Hk

theorem part_12 {α : Type} {Q : α → sProp 𝕄} {kk} v8 v15 v30 (Hk : St S A K c 35 ⊢ wps c (kk ⟨⟩) Q) :
    St S A K c 31 ⊢ wps c (((atA (k0_part12 (F := F))) c v8 v15 v30) >>= kk) Q := by
  rw [k0_part12_eq_skeleton]; unfold atA k0_part12_skel
  simp only [Prog.bind_op, Prog.bind_ret, Prog.lift, Prog.pure_eq_ret]
  refine w_dwait S A K c (.snd 2 6, 0) ?_
  refine w_dwait S A K c (.rcv 2 6, 0) ?_
  refine w_acc_ld S A K c 2 0 true fun v336 hv336 => ?_
  refine ld_x S A K c (rowA 2 true c) fun v340 hv340 => ?_
  refine ld_w S A K c (col0 0 2) fun v342 hv342 => ?_
  refine w_acc_ld S A K c 2 0 true fun v349 hv349 => ?_
  refine w_acc_st S A K c 2 0 true (addf v336 (k0_pay19 v340 v342)) (fun x => hG.h1 2 c _ _ _ _ (hv336 x) (hG.p19 c _ _ v340 v342 hv340 hv342 x)) (cast_self _ _) ?_
  refine w_dwait S A K c (.snd 0 1, 0) ?_
  exact Hk

theorem part_13 {α : Type} {Q : α → sProp 𝕄} {kk} v4 v9 v10 v11 v31 (Hk : St S A K c 39 ⊢ wps c (kk ⟨⟩) Q) :
    St S A K c 35 ⊢ wps c (((atA (k0_part13 (F := F))) c v4 v9 v10 v11 v31) >>= kk) Q := by
  rw [k0_part13_eq_skeleton]; unfold atA k0_part13_skel
  simp only [Prog.bind_op, Prog.bind_ret, Prog.lift, Prog.pure_eq_ret, semSignalWord]
  refine w_dwait S A K c (.rcv 0 1, 0) ?_
  refine w_hsig S A K c 3 0 ?_
  refine w_add_lda S A K c 0 0 fun v365 hv365 => ?_
  refine w_add_lds S A K c 0 0 fun v366 hv366 => ?_
  refine w_add_lda S A K c 0 0 fun v369 hv369 => ?_
  refine w_add_st S A K c 0 0 (addf v365 v366) (fun x => hG.h2 0 c _ _ _ _ (hv365 x) (hv366 x)) (cast_self _ _) ?_
  refine w_hsig S A K c 1 0 ?_
  exact Hk

end Cert.Hyper

end
-- ==== Proof.Walk2.lean ====
/-
The kernel's parts 14 to 26, walked through the protocol: each takes the state at its first event to the state after its last.
-/
module

public import proofs.«01_k».proof.Proof.Walk1

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (S : Spec F) (A : Args F) (K : Nms) (c : Dev nD) (hG : Good S A)

include hG

theorem part_14 {α : Type} {Q : α → sProp 𝕄} {kk} v6 v8 v9 (Hk : St S A K c 43 ⊢ wps c (kk ⟨⟩) Q) :
    St S A K c 39 ⊢ wps c (((atA (k0_part14 (F := F))) c v6 v8 v9) >>= kk) Q := by
  rw [k0_part14_eq_skeleton]; unfold atA k0_part14_skel
  simp only [Prog.bind_op, Prog.bind_ret, Prog.lift, Prog.pure_eq_ret, semWaitWord]
  refine w_send S A K c 0 2 0 (.acc 0) (.snd 0) ?_
  refine ld_x S A K c (rowP 0 false c) fun v391 hv391 => ?_
  refine ld_w S A K c (col0 1 0) fun v393 hv393 => ?_
  refine w_prod_ld S A K c 0 false fun v400 => ?_
  refine w_prod_st S A K c 0 false (k0_pay6 v391 v393) (hG.p6 c _ _ v391 v393 hv391 hv393) (cast_self _ _) ?_
  refine w_swait S A K c (.hsc 3 0, 0) ?_
  refine w_send S A K c 0 0 1 (.snd 0) (.acc 0) ?_
  exact Hk

theorem part_15 {α : Type} {Q : α → sProp 𝕄} {kk} v8 v12 v13 v32 (Hk : St S A K c 48 ⊢ wps c (kk ⟨⟩) Q) :
    St S A K c 43 ⊢ wps c (((atA (k0_part15 (F := F))) c v8 v12 v13 v32) >>= kk) Q := by
  rw [k0_part15_eq_skeleton]; unfold atA k0_part15_skel
  simp only [Prog.bind_op, Prog.bind_ret, Prog.lift, Prog.pure_eq_ret, semSignalWord]
  refine w_dwait S A K c (.snd 1 1, 0) ?_
  refine w_dwait S A K c (.rcv 1 1, 0) ?_
  refine w_hsig S A K c 3 1 ?_
  refine w_add_lda S A K c 1 0 fun v428 hv428 => ?_
  refine w_add_lds S A K c 1 0 fun v429 hv429 => ?_
  refine w_add_lda S A K c 1 0 fun v432 hv432 => ?_
  refine w_add_st S A K c 1 0 (addf v428 v429) (fun x => hG.h2 1 c _ _ _ _ (hv428 x) (hv429 x)) (cast_self _ _) ?_
  refine w_hsig S A K c 1 1 ?_
  exact Hk

theorem part_16 {α : Type} {Q : α → sProp 𝕄} {kk} v4 v6 v14 (Hk : St S A K c 51 ⊢ wps c (kk ⟨⟩) Q) :
    St S A K c 48 ⊢ wps c (((atA (k0_part16 (F := F))) c v4 v6 v14) >>= kk) Q := by
  rw [k0_part16_eq_skeleton]; unfold atA k0_part16_skel
  simp only [Prog.bind_op, Prog.bind_ret, Prog.lift, Prog.pure_eq_ret, semWaitWord]
  refine w_send S A K c 1 2 0 (.acc 1) (.snd 1) ?_
  refine ld_x S A K c (rowP 1 false c) fun v454 hv454 => ?_
  refine ld_w S A K c (col0 1 1) fun v456 hv456 => ?_
  refine w_prod_ld S A K c 1 false fun v463 => ?_
  refine w_prod_st S A K c 1 false (k0_pay19 v454 v456) (hG.p19 c _ _ v454 v456 hv454 hv456) (cast_self _ _) ?_
  refine w_swait S A K c (.hsc 3 1, 0) ?_
  exact Hk

theorem part_17 {α : Type} {Q : α → sProp 𝕄} {kk} v12 v15 v16 v33 (Hk : ∀ v493 v495, (∀ x, S.R2 2 c (rowA 2 true c + (x 0).val) (col0 0 2 + (x 1).val) (v493 x)) → St S A K c 55 ⊢ wps c (kk ⟨v493, v495⟩) Q) :
    St S A K c 51 ⊢ wps c (((atA (k0_part17 (F := F))) c v12 v15 v16 v33) >>= kk) Q := by
  rw [k0_part17_eq_skeleton]; unfold atA k0_part17_skel
  simp only [Prog.bind_op, Prog.bind_ret, Prog.lift, Prog.pure_eq_ret, semSignalWord]
  refine w_send S A K c 1 0 1 (.snd 1) (.acc 1) ?_
  refine w_dwait S A K c (.snd 2 1, 0) ?_
  refine w_dwait S A K c (.rcv 2 1, 0) ?_
  refine w_hsig S A K c 3 2 ?_
  refine w_add_lda S A K c 2 0 fun v491 hv491 => ?_
  refine w_add_lds S A K c 2 0 fun v492 hv492 => ?_
  refine w_add_lda S A K c 2 0 fun v495 hv495 => ?_
  exact Hk _ _ (fun x => hG.h2 2 c _ _ _ _ (hv491 x) (hv492 x))

theorem part_18 {α : Type} {Q : α → sProp 𝕄} {kk} v4 v6 v8 v16 v17 v33 v493 v495 (hv493 : ∀ x, S.R2 2 c (rowA 2 true c + (x 0).val) (col0 0 2 + (x 1).val) (v493 x)) (Hk : ∀ v522, (∀ x, S.R0 c (rowP 2 false c + (x 0).val) (col0 1 2 + (x 1).val) (v522 x)) → St S A K c 58 ⊢ wps c (kk v522) Q) :
    St S A K c 55 ⊢ wps c (((atA (k0_part18 (F := F))) c v4 v6 v8 v16 v17 v33 v493 v495) >>= kk) Q := by
  rw [k0_part18_eq_skeleton]; unfold atA k0_part18_skel
  simp only [Prog.bind_op, Prog.bind_ret, Prog.lift, Prog.pure_eq_ret, semSignalWord]
  refine w_add_st S A K c 2 0 v493 hv493 (cast_self _ _) ?_
  refine w_hsig S A K c 1 2 ?_
  refine w_send S A K c 2 2 0 (.acc 2) (.snd 2) ?_
  refine ld_x S A K c (rowP 2 false c) fun v517 hv517 => ?_
  refine ld_w S A K c (col0 1 2) fun v519 hv519 => ?_
  refine w_prod_ld S A K c 2 false fun v526 => ?_
  exact Hk _ (hG.p19 c _ _ v517 v519 hv517 hv519)

theorem part_19 {α : Type} {Q : α → sProp 𝕄} {kk} v8 v11 v15 v36 v522 (hv522 : ∀ x, S.R0 c (rowP 2 false c + (x 0).val) (col0 1 2 + (x 1).val) (v522 x)) (Hk : St S A K c 63 ⊢ wps c (kk ⟨⟩) Q) :
    St S A K c 58 ⊢ wps c (((atA (k0_part19 (F := F))) c v8 v11 v15 v36 v522) >>= kk) Q := by
  rw [k0_part19_eq_skeleton]; unfold atA k0_part19_skel
  simp only [Prog.bind_op, Prog.bind_ret, Prog.lift, Prog.pure_eq_ret, semWaitWord]
  refine w_prod_st S A K c 2 false v522 hv522 (cast_self _ _) ?_
  refine w_swait S A K c (.hsc 3 2, 0) ?_
  refine w_send S A K c 2 0 1 (.snd 2) (.acc 2) ?_
  refine w_dwait S A K c (.snd 0 2, 0) ?_
  refine w_dwait S A K c (.rcv 0 2, 0) ?_
  exact Hk

theorem part_20 {α : Type} {Q : α → sProp 𝕄} {kk} v11 v28 v36 (Hk : St S A K c 68 ⊢ wps c (kk ⟨⟩) Q) :
    St S A K c 63 ⊢ wps c (((atA (k0_part20 (F := F))) c v11 v28 v36) >>= kk) Q := by
  rw [k0_part20_eq_skeleton]; unfold atA k0_part20_skel
  simp only [Prog.bind_op, Prog.bind_ret, Prog.lift, Prog.pure_eq_ret, semSignalWord]
  refine w_fin_lda S A K c 0 0 fun v552 hv552 => ?_
  refine w_fin_lds S A K c 0 0 fun v553 hv553 => ?_
  refine w_fin_lda S A K c 0 0 fun v558 hv558 => ?_
  refine w_fin_st S A K c 0 0 (maximumf (addf v552 v553) (broadcast _ (Scalar.ofBits .bf16 0x0000#16))) (fun x => hG.h3 0 c _ _ _ _ (hv552 x) (hv553 x)) (cast_self _ _) ?_
  refine w_hsig S A K c 2 0 ?_
  refine w_copy S A K c 0 0 ?_
  refine w_send S A K c 0 3 0 (.acc 0) .out ?_
  refine w_dwait S A K c (.snd 1 2, 0) ?_
  exact Hk

theorem part_21 {α : Type} {Q : α → sProp 𝕄} {kk} v14 v29 v39 (Hk : St S A K c 72 ⊢ wps c (kk ⟨⟩) Q) :
    St S A K c 68 ⊢ wps c (((atA (k0_part21 (F := F))) c v14 v29 v39) >>= kk) Q := by
  rw [k0_part21_eq_skeleton]; unfold atA k0_part21_skel
  simp only [Prog.bind_op, Prog.bind_ret, Prog.lift, Prog.pure_eq_ret, semSignalWord]
  refine w_dwait S A K c (.rcv 1 2, 0) ?_
  refine w_fin_lda S A K c 1 0 fun v587 hv587 => ?_
  refine w_fin_lds S A K c 1 0 fun v588 hv588 => ?_
  refine w_fin_lda S A K c 1 0 fun v593 hv593 => ?_
  refine w_fin_st S A K c 1 0 (maximumf (addf v587 v588) (broadcast _ (Scalar.ofBits .bf16 0x0000#16))) (fun x => hG.h3 1 c _ _ _ _ (hv587 x) (hv588 x)) (cast_self _ _) ?_
  refine w_hsig S A K c 2 1 ?_
  refine w_copy S A K c 1 0 ?_
  exact Hk

theorem part_22 {α : Type} {Q : α → sProp 𝕄} {kk} v17 v30 v42 (Hk : St S A K c 77 ⊢ wps c (kk ⟨⟩) Q) :
    St S A K c 72 ⊢ wps c (((atA (k0_part22 (F := F))) c v17 v30 v42) >>= kk) Q := by
  rw [k0_part22_eq_skeleton]; unfold atA k0_part22_skel
  simp only [Prog.bind_op, Prog.bind_ret, Prog.lift, Prog.pure_eq_ret, semSignalWord]
  refine w_send S A K c 1 3 0 (.acc 1) .out ?_
  refine w_dwait S A K c (.snd 2 2, 0) ?_
  refine w_dwait S A K c (.rcv 2 2, 0) ?_
  refine w_fin_lda S A K c 2 0 fun v622 hv622 => ?_
  refine w_fin_lds S A K c 2 0 fun v623 hv623 => ?_
  refine w_fin_lda S A K c 2 0 fun v628 hv628 => ?_
  refine w_fin_st S A K c 2 0 (maximumf (addf v622 v623) (broadcast _ (Scalar.ofBits .bf16 0x0000#16))) (fun x => hG.h3 2 c _ _ _ _ (hv622 x) (hv623 x)) (cast_self _ _) ?_
  refine w_hsig S A K c 2 2 ?_
  exact Hk

theorem part_23 {α : Type} {Q : α → sProp 𝕄} {kk} v9 v11 v17 (Hk : ∀ v660 c0_i32_612, St S A K c 82 ⊢ wps c (kk ⟨v660, c0_i32_612⟩) Q) :
    St S A K c 77 ⊢ wps c (((atA (k0_part23 (F := F))) c v9 v11 v17) >>= kk) Q := by
  rw [k0_part23_eq_skeleton]; unfold atA k0_part23_skel
  simp only [Prog.bind_op, Prog.bind_ret, Prog.lift, Prog.pure_eq_ret]
  refine w_copy S A K c 2 0 ?_
  refine w_send S A K c 2 3 0 (.acc 2) .out ?_
  refine w_dwait S A K c (.snd 0 3, 0) ?_
  refine w_dwait S A K c (.rcv 0 3, 0) ?_
  refine w_dwait S A K c (.outc 0, 0) ?_
  exact Hk _ _

theorem part_24 {α : Type} {Q : α → sProp 𝕄} {kk} v6 v8 v9 v10 v28 v31 v660 c0_i32_612 (Hk : ∀ v689 c0_i32_639, St S A K c 86 ⊢ wps c (kk ⟨v689, c0_i32_639⟩) Q) :
    St S A K c 82 ⊢ wps c (((atA (k0_part24 (F := F))) c v6 v8 v9 v10 v28 v31 v660 c0_i32_612) >>= kk) Q := by
  rw [k0_part24_eq_skeleton]; unfold atA k0_part24_skel
  simp only [Prog.bind_op, Prog.bind_ret, Prog.lift, Prog.pure_eq_ret, semSignalWord, semWaitWord]
  refine w_hsig S A K c 0 0 ?_
  refine w_send S A K c 0 4 0 .out .out ?_
  refine ld_x S A K c (rowP 0 true c) fun v676 hv676 => ?_
  refine ld_w S A K c (col0 1 0) fun v678 hv678 => ?_
  refine w_prod_ld S A K c 0 true fun v684 => ?_
  refine w_prod_st S A K c 0 true (k0_pay6 v676 v678) (hG.p6 c _ _ v676 v678 hv676 hv678) (cast_self _ _) ?_
  refine w_swait S A K c (.hsc 0 0, 0) ?_
  exact Hk _ _

theorem part_25 {α : Type} {Q : α → sProp 𝕄} {kk} v12 v13 v14 v29 v32 v689 c0_i32_639 (Hk : St S A K c 91 ⊢ wps c (kk ⟨⟩) Q) :
    St S A K c 86 ⊢ wps c (((atA (k0_part25 (F := F))) c v12 v13 v14 v29 v32 v689 c0_i32_639) >>= kk) Q := by
  rw [k0_part25_eq_skeleton]; unfold atA k0_part25_skel
  simp only [Prog.bind_op, Prog.bind_ret, Prog.lift, Prog.pure_eq_ret, semSignalWord]
  refine w_send S A K c 0 6 1 (.snd 0) (.acc 0) ?_
  refine w_dwait S A K c (.snd 1 3, 0) ?_
  refine w_dwait S A K c (.rcv 1 3, 0) ?_
  refine w_dwait S A K c (.outc 1, 0) ?_
  refine w_hsig S A K c 0 1 ?_
  exact Hk

theorem part_26 {α : Type} {Q : α → sProp 𝕄} {kk} v4 v6 v12 (Hk : St S A K c 95 ⊢ wps c (kk ⟨⟩) Q) :
    St S A K c 91 ⊢ wps c (((atA (k0_part26 (F := F))) c v4 v6 v12) >>= kk) Q := by
  rw [k0_part26_eq_skeleton]; unfold atA k0_part26_skel
  simp only [Prog.bind_op, Prog.bind_ret, Prog.lift, Prog.pure_eq_ret, semWaitWord]
  refine w_send S A K c 1 4 0 .out .out ?_
  refine ld_x S A K c (rowP 1 true c) fun v727 hv727 => ?_
  refine ld_w S A K c (col0 1 1) fun v729 hv729 => ?_
  refine w_prod_ld S A K c 1 true fun v735 => ?_
  refine w_prod_st S A K c 1 true (k0_pay19 v727 v729) (hG.p19 c _ _ v727 v729 hv727 hv729) (cast_self _ _) ?_
  refine w_swait S A K c (.hsc 0 1, 0) ?_
  refine w_send S A K c 1 6 1 (.snd 1) (.acc 1) ?_
  exact Hk

end Cert.Hyper

end
-- ==== Proof.Walk3.lean ====
/-
The kernel's parts 27 to 39, walked through the protocol: each takes the state at its first event to the state after its last.
-/
module

public import proofs.«01_k».proof.Proof.Walk1

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (S : Spec F) (A : Args F) (K : Nms) (c : Dev nD) (hG : Good S A)

include hG

theorem part_27 {α : Type} {Q : α → sProp 𝕄} {kk} v4 v15 v16 v17 v30 v33 (Hk : ∀ v773, St S A K c 100 ⊢ wps c (kk v773) Q) :
    St S A K c 95 ⊢ wps c (((atA (k0_part27 (F := F))) c v4 v15 v16 v17 v30 v33) >>= kk) Q := by
  rw [k0_part27_eq_skeleton]; unfold atA k0_part27_skel
  simp only [Prog.bind_op, Prog.bind_ret, Prog.lift, Prog.pure_eq_ret, semSignalWord]
  refine w_dwait S A K c (.snd 2 3, 0) ?_
  refine w_dwait S A K c (.rcv 2 3, 0) ?_
  refine w_dwait S A K c (.outc 2, 0) ?_
  refine w_hsig S A K c 0 2 ?_
  refine w_send S A K c 2 4 0 .out .out ?_
  exact Hk _

theorem part_28 {α : Type} {Q : α → sProp 𝕄} {kk} v8 v15 v773 (Hk : St S A K c 104 ⊢ wps c (kk ⟨⟩) Q) :
    St S A K c 100 ⊢ wps c (((atA (k0_part28 (F := F))) c v8 v15 v773) >>= kk) Q := by
  rw [k0_part28_eq_skeleton]; unfold atA k0_part28_skel
  simp only [Prog.bind_op, Prog.bind_ret, Prog.lift, Prog.pure_eq_ret, semWaitWord]
  refine ld_x S A K c (rowP 2 true c) fun v778 hv778 => ?_
  refine ld_w S A K c (col0 1 2) fun v780 hv780 => ?_
  refine w_prod_ld S A K c 2 true fun v786 => ?_
  refine w_prod_st S A K c 2 true (k0_pay19 v778 v780) (hG.p19 c _ _ v778 v780 hv778 hv780) (cast_self _ _) ?_
  refine w_swait S A K c (.hsc 0 2, 0) ?_
  refine w_send S A K c 2 6 1 (.snd 2) (.acc 2) ?_
  refine w_dwait S A K c (.snd 0 4, 0) ?_
  exact Hk

theorem part_29 {α : Type} {Q : α → sProp 𝕄} {kk} v9 v10 v13 (Hk : St S A K c 108 ⊢ wps c (kk ⟨⟩) Q) :
    St S A K c 104 ⊢ wps c (((atA (k0_part29 (F := F))) c v9 v10 v13) >>= kk) Q := by
  rw [k0_part29_eq_skeleton]; unfold atA k0_part29_skel
  simp only [Prog.bind_op, Prog.bind_ret, Prog.lift, Prog.pure_eq_ret]
  refine w_dwait S A K c (.rcv 0 4, 0) ?_
  refine w_send S A K c 0 5 0 .out .out ?_
  refine w_dwait S A K c (.snd 1 4, 0) ?_
  refine w_dwait S A K c (.rcv 1 4, 0) ?_
  exact Hk

theorem part_30 {α : Type} {Q : α → sProp 𝕄} {kk} v12 v15 v16 (Hk : St S A K c 112 ⊢ wps c (kk ⟨⟩) Q) :
    St S A K c 108 ⊢ wps c (((atA (k0_part30 (F := F))) c v12 v15 v16) >>= kk) Q := by
  rw [k0_part30_eq_skeleton]; unfold atA k0_part30_skel
  simp only [Prog.bind_op, Prog.bind_ret, Prog.lift, Prog.pure_eq_ret]
  refine w_send S A K c 1 5 0 .out .out ?_
  refine w_dwait S A K c (.snd 2 4, 0) ?_
  refine w_dwait S A K c (.rcv 2 4, 0) ?_
  refine w_send S A K c 2 5 0 .out .out ?_
  exact Hk

theorem part_31 {α : Type} {Q : α → sProp 𝕄} {kk} v9 v12 (Hk : St S A K c 116 ⊢ wps c (kk ⟨⟩) Q) :
    St S A K c 112 ⊢ wps c (((atA (k0_part31 (F := F))) c v9 v12) >>= kk) Q := by
  rw [k0_part31_eq_skeleton]; unfold atA k0_part31_skel
  simp only [Prog.bind_op, Prog.bind_ret, Prog.lift, Prog.pure_eq_ret]
  refine w_dwait S A K c (.snd 0 5, 0) ?_
  refine w_dwait S A K c (.rcv 0 5, 0) ?_
  refine w_dwait S A K c (.snd 1 5, 0) ?_
  refine w_dwait S A K c (.rcv 1 5, 0) ?_
  exact Hk

theorem part_32 {α : Type} {Q : α → sProp 𝕄} {kk} v6 v9 v15 v28 (Hk : ∀ v896 v899, (∀ x, S.R0 (nbr (0 + 0) c) (rowA 0 false c + (x 0).val) (col0 1 0 + (x 1).val) (v896 x)) → St S A K c 120 ⊢ wps c (kk ⟨v896, v899⟩) Q) :
    St S A K c 116 ⊢ wps c (((atA (k0_part32 (F := F))) c v6 v9 v15 v28) >>= kk) Q := by
  rw [k0_part32_eq_skeleton]; unfold atA k0_part32_skel
  simp only [Prog.bind_op, Prog.bind_ret, Prog.lift, Prog.pure_eq_ret]
  refine w_dwait S A K c (.snd 2 5, 0) ?_
  refine w_dwait S A K c (.rcv 2 5, 0) ?_
  refine w_dwait S A K c (.snd 0 0, 1) ?_
  refine w_dwait S A K c (.rcv 0 0, 1) ?_
  refine w_acc_ld S A K c 0 1 false fun v896 hv896 => ?_
  exact Hk _ _ hv896

theorem part_33 {α : Type} {Q : α → sProp 𝕄} {kk} v6 v10 v896 v899 (hv896 : ∀ x, S.R0 (nbr (0 + 0) c) (rowA 0 false c + (x 0).val) (col0 1 0 + (x 1).val) (v896 x)) (Hk : St S A K c 124 ⊢ wps c (kk ⟨⟩) Q) :
    St S A K c 120 ⊢ wps c (((atA (k0_part33 (F := F))) c v6 v10 v896 v899) >>= kk) Q := by
  rw [k0_part33_eq_skeleton]; unfold atA k0_part33_skel
  simp only [Prog.bind_op, Prog.bind_ret, Prog.lift, Prog.pure_eq_ret, semWaitWord]
  refine ld_x S A K c (rowA 0 false c) fun v901 hv901 => ?_
  refine ld_w S A K c (col0 1 0) fun v903 hv903 => ?_
  refine w_acc_ld S A K c 0 1 false fun v911 hv911 => ?_
  refine w_acc_st S A K c 0 1 false (addf v896 (k0_pay6 v901 v903)) (fun x => hG.h1 0 c _ _ _ _ (hv896 x) (hG.p6 c _ _ v901 v903 hv901 hv903 x)) (cast_self _ _) ?_
  refine w_swait S A K c (.hsc 1 0, 0) ?_
  refine w_send S A K c 0 1 1 (.acc 0) (.snd 0) ?_
  refine w_dwait S A K c (.snd 0 6, 1) ?_
  exact Hk

theorem part_34 {α : Type} {Q : α → sProp 𝕄} {kk} v6 v9 v12 v28 (Hk : ∀ v956, St S A K c 127 ⊢ wps c (kk v956) Q) :
    St S A K c 124 ⊢ wps c (((atA (k0_part34 (F := F))) c v6 v9 v12 v28) >>= kk) Q := by
  rw [k0_part34_eq_skeleton]; unfold atA k0_part34_skel
  simp only [Prog.bind_op, Prog.bind_ret, Prog.lift, Prog.pure_eq_ret]
  refine w_dwait S A K c (.rcv 0 6, 1) ?_
  refine w_acc_ld S A K c 0 1 true fun v936 hv936 => ?_
  refine ld_x S A K c (rowA 0 true c) fun v940 hv940 => ?_
  refine ld_w S A K c (col0 1 0) fun v942 hv942 => ?_
  refine w_acc_ld S A K c 0 1 true fun v949 hv949 => ?_
  refine w_acc_st S A K c 0 1 true (addf v936 (k0_pay6 v940 v942)) (fun x => hG.h1 0 c _ _ _ _ (hv936 x) (hG.p6 c _ _ v940 v942 hv940 hv942 x)) (cast_self _ _) ?_
  refine w_dwait S A K c (.snd 1 0, 1) ?_
  exact Hk _

theorem part_35 {α : Type} {Q : α → sProp 𝕄} {kk} v4 v13 v29 v956 (Hk : St S A K c 130 ⊢ wps c (kk ⟨⟩) Q) :
    St S A K c 127 ⊢ wps c (((atA (k0_part35 (F := F))) c v4 v13 v29 v956) >>= kk) Q := by
  rw [k0_part35_eq_skeleton]; unfold atA k0_part35_skel
  simp only [Prog.bind_op, Prog.bind_ret, Prog.lift, Prog.pure_eq_ret, semWaitWord]
  refine w_dwait S A K c (.rcv 1 0, 1) ?_
  refine w_acc_ld S A K c 1 1 false fun v965 hv965 => ?_
  refine ld_x S A K c (rowA 1 false c) fun v970 hv970 => ?_
  refine ld_w S A K c (col0 1 1) fun v972 hv972 => ?_
  refine w_acc_ld S A K c 1 1 false fun v980 hv980 => ?_
  refine w_acc_st S A K c 1 1 false (addf v965 (k0_pay19 v970 v972)) (fun x => hG.h1 1 c _ _ _ _ (hv965 x) (hG.p19 c _ _ v970 v972 hv970 hv972 x)) (cast_self _ _) ?_
  refine w_swait S A K c (.hsc 1 1, 0) ?_
  exact Hk

theorem part_36 {α : Type} {Q : α → sProp 𝕄} {kk} v4 v12 v29 (Hk : ∀ v1015 v1018, (∀ x, S.R1 1 c (rowA 1 true c + (x 0).val) (col0 1 1 + (x 1).val) (v1015 x)) → (∀ x, S.R0 (nbr (0 + 1) c) (rowA 1 true c + (x 0).val) (col0 1 1 + (x 1).val) (v1018 x)) → St S A K c 133 ⊢ wps c (kk ⟨v1015, v1018⟩) Q) :
    St S A K c 130 ⊢ wps c (((atA (k0_part36 (F := F))) c v4 v12 v29) >>= kk) Q := by
  rw [k0_part36_eq_skeleton]; unfold atA k0_part36_skel
  simp only [Prog.bind_op, Prog.bind_ret, Prog.lift, Prog.pure_eq_ret]
  refine w_send S A K c 1 1 1 (.acc 1) (.snd 1) ?_
  refine w_dwait S A K c (.snd 1 6, 1) ?_
  refine w_dwait S A K c (.rcv 1 6, 1) ?_
  refine w_acc_ld S A K c 1 1 true fun v1005 hv1005 => ?_
  refine ld_x S A K c (rowA 1 true c) fun v1009 hv1009 => ?_
  refine ld_w S A K c (col0 1 1) fun v1011 hv1011 => ?_
  refine w_acc_ld S A K c 1 1 true fun v1018 hv1018 => ?_
  exact Hk _ _ (fun x => hG.h1 1 c _ _ _ _ (hv1005 x) (hG.p19 c _ _ v1009 v1011 hv1009 hv1011 x)) hv1018

theorem part_37 {α : Type} {Q : α → sProp 𝕄} {kk} v8 v15 v30 v1015 v1018 (hv1015 : ∀ x, S.R1 1 c (rowA 1 true c + (x 0).val) (col0 1 1 + (x 1).val) (v1015 x)) (hv1018 : ∀ x, S.R0 (nbr (0 + 1) c) (rowA 1 true c + (x 0).val) (col0 1 1 + (x 1).val) (v1018 x)) (Hk : ∀ v1045, (∀ x, S.R1 2 c (rowA 2 false c + (x 0).val) (col0 1 2 + (x 1).val) (v1045 x)) → St S A K c 136 ⊢ wps c (kk v1045) Q) :
    St S A K c 133 ⊢ wps c (((atA (k0_part37 (F := F))) c v8 v15 v30 v1015 v1018) >>= kk) Q := by
  rw [k0_part37_eq_skeleton]; unfold atA k0_part37_skel
  simp only [Prog.bind_op, Prog.bind_ret, Prog.lift, Prog.pure_eq_ret]
  refine w_acc_st S A K c 1 1 true v1015 hv1015 (cast_self _ _) ?_
  refine w_dwait S A K c (.snd 2 0, 1) ?_
  refine w_dwait S A K c (.rcv 2 0, 1) ?_
  refine w_acc_ld S A K c 2 1 false fun v1034 hv1034 => ?_
  refine ld_x S A K c (rowA 2 false c) fun v1039 hv1039 => ?_
  refine ld_w S A K c (col0 1 2) fun v1041 hv1041 => ?_
  exact Hk _ (fun x => hG.h1 2 c _ _ _ _ (hv1034 x) (hG.p19 c _ _ v1039 v1041 hv1039 hv1041 x))

theorem part_38 {α : Type} {Q : α → sProp 𝕄} {kk} v8 v15 v16 v1045 (hv1045 : ∀ x, S.R1 2 c (rowA 2 false c + (x 0).val) (col0 1 2 + (x 1).val) (v1045 x)) (Hk : St S A K c 141 ⊢ wps c (kk ⟨⟩) Q) :
    St S A K c 136 ⊢ wps c (((atA (k0_part38 (F := F))) c v8 v15 v16 v1045) >>= kk) Q := by
  rw [k0_part38_eq_skeleton]; unfold atA k0_part38_skel
  simp only [Prog.bind_op, Prog.bind_ret, Prog.lift, Prog.pure_eq_ret, semWaitWord]
  refine w_acc_ld S A K c 2 1 false fun v1049 hv1049 => ?_
  refine w_acc_st S A K c 2 1 false v1045 hv1045 (cast_self _ _) ?_
  refine w_swait S A K c (.hsc 1 2, 0) ?_
  refine w_send S A K c 2 1 1 (.acc 2) (.snd 2) ?_
  refine w_dwait S A K c (.snd 2 6, 1) ?_
  refine w_dwait S A K c (.rcv 2 6, 1) ?_
  exact Hk

theorem part_39 {α : Type} {Q : α → sProp 𝕄} {kk} v8 v10 v30 v31 (Hk : ∀ v1103, (∀ x, S.R2 0 c (rowA 0 true c + (x 0).val) (col0 1 0 + (x 1).val) (v1103 x)) → St S A K c 144 ⊢ wps c (kk v1103) Q) :
    St S A K c 141 ⊢ wps c (((atA (k0_part39 (F := F))) c v8 v10 v30 v31) >>= kk) Q := by
  rw [k0_part39_eq_skeleton]; unfold atA k0_part39_skel
  simp only [Prog.bind_op, Prog.bind_ret, Prog.lift, Prog.pure_eq_ret]
  refine w_acc_ld S A K c 2 1 true fun v1074 hv1074 => ?_
  refine ld_x S A K c (rowA 2 true c) fun v1078 hv1078 => ?_
  refine ld_w S A K c (col0 1 2) fun v1080 hv1080 => ?_
  refine w_acc_ld S A K c 2 1 true fun v1087 hv1087 => ?_
  refine w_acc_st S A K c 2 1 true (addf v1074 (k0_pay19 v1078 v1080)) (fun x => hG.h1 2 c _ _ _ _ (hv1074 x) (hG.p19 c _ _ v1078 v1080 hv1078 hv1080 x)) (cast_self _ _) ?_
  refine w_dwait S A K c (.snd 0 1, 1) ?_
  refine w_dwait S A K c (.rcv 0 1, 1) ?_
  refine w_add_lda S A K c 0 1 fun v1101 hv1101 => ?_
  refine w_add_lds S A K c 0 1 fun v1102 hv1102 => ?_
  exact Hk _ (fun x => hG.h2 0 c _ _ _ _ (hv1101 x) (hv1102 x))

end Cert.Hyper

end
-- ==== Proof.Walk4.lean ====
/-
The kernel's parts 40 to 51, walked through the protocol: each takes the state at its first event to the state after its last.
-/
module

public import proofs.«01_k».proof.Proof.Walk1

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (S : Spec F) (A : Args F) (K : Nms) (c : Dev nD) (hG : Good S A)

include hG

theorem part_40 {α : Type} {Q : α → sProp 𝕄} {kk} v4 v11 v13 v31 v1103 (hv1103 : ∀ x, S.R2 0 c (rowA 0 true c + (x 0).val) (col0 1 0 + (x 1).val) (v1103 x)) (Hk : St S A K c 148 ⊢ wps c (kk ⟨⟩) Q) :
    St S A K c 144 ⊢ wps c (((atA (k0_part40 (F := F))) c v4 v11 v13 v31 v1103) >>= kk) Q := by
  rw [k0_part40_eq_skeleton]; unfold atA k0_part40_skel
  simp only [Prog.bind_op, Prog.bind_ret, Prog.lift, Prog.pure_eq_ret, semWaitWord]
  refine w_add_lda S A K c 0 1 fun v1105 hv1105 => ?_
  refine w_add_st S A K c 0 1 v1103 hv1103 (cast_self _ _) ?_
  refine w_swait S A K c (.hsc 2 0, 0) ?_
  refine w_send S A K c 0 2 1 (.acc 0) (.snd 0) ?_
  refine w_dwait S A K c (.snd 1 1, 1) ?_
  exact Hk

theorem part_41 {α : Type} {Q : α → sProp 𝕄} {kk} v8 v14 v16 v32 (Hk : ∀ v1152 c0_i32_1128, St S A K c 153 ⊢ wps c (kk ⟨v1152, c0_i32_1128⟩) Q) :
    St S A K c 148 ⊢ wps c (((atA (k0_part41 (F := F))) c v8 v14 v16 v32) >>= kk) Q := by
  rw [k0_part41_eq_skeleton]; unfold atA k0_part41_skel
  simp only [Prog.bind_op, Prog.bind_ret, Prog.lift, Prog.pure_eq_ret, semWaitWord]
  refine w_dwait S A K c (.rcv 1 1, 1) ?_
  refine w_add_lda S A K c 1 1 fun v1130 hv1130 => ?_
  refine w_add_lds S A K c 1 1 fun v1131 hv1131 => ?_
  refine w_add_lda S A K c 1 1 fun v1134 hv1134 => ?_
  refine w_add_st S A K c 1 1 (addf v1130 v1131) (fun x => hG.h2 1 c _ _ _ _ (hv1130 x) (hv1131 x)) (cast_self _ _) ?_
  refine w_swait S A K c (.hsc 2 1, 0) ?_
  refine w_send S A K c 1 2 1 (.acc 1) (.snd 1) ?_
  refine w_dwait S A K c (.snd 2 1, 1) ?_
  exact Hk _ _

theorem part_42 {α : Type} {Q : α → sProp 𝕄} {kk} v6 v17 v33 v1152 c0_i32_1128 (Hk : St S A K c 157 ⊢ wps c (kk ⟨⟩) Q) :
    St S A K c 153 ⊢ wps c (((atA (k0_part42 (F := F))) c v6 v17 v33 v1152 c0_i32_1128) >>= kk) Q := by
  rw [k0_part42_eq_skeleton]; unfold atA k0_part42_skel
  simp only [Prog.bind_op, Prog.bind_ret, Prog.lift, Prog.pure_eq_ret, semWaitWord]
  refine w_dwait S A K c (.rcv 2 1, 1) ?_
  refine w_add_lda S A K c 2 1 fun v1159 hv1159 => ?_
  refine w_add_lds S A K c 2 1 fun v1160 hv1160 => ?_
  refine w_add_lda S A K c 2 1 fun v1163 hv1163 => ?_
  refine w_add_st S A K c 2 1 (addf v1159 v1160) (fun x => hG.h2 2 c _ _ _ _ (hv1159 x) (hv1160 x)) (cast_self _ _) ?_
  refine w_swait S A K c (.hsc 2 2, 0) ?_
  refine w_send S A K c 2 2 1 (.acc 2) (.snd 2) ?_
  exact Hk

theorem part_43 {α : Type} {Q : α → sProp 𝕄} {kk} v11 v28 v36 (Hk : St S A K c 162 ⊢ wps c (kk ⟨⟩) Q) :
    St S A K c 157 ⊢ wps c (((atA (k0_part43 (F := F))) c v11 v28 v36) >>= kk) Q := by
  rw [k0_part43_eq_skeleton]; unfold atA k0_part43_skel
  simp only [Prog.bind_op, Prog.bind_ret, Prog.lift, Prog.pure_eq_ret]
  refine w_dwait S A K c (.snd 0 2, 1) ?_
  refine w_dwait S A K c (.rcv 0 2, 1) ?_
  refine w_fin_lda S A K c 0 1 fun v1188 hv1188 => ?_
  refine w_fin_lds S A K c 0 1 fun v1189 hv1189 => ?_
  refine w_fin_lda S A K c 0 1 fun v1194 hv1194 => ?_
  refine w_fin_st S A K c 0 1 (maximumf (addf v1188 v1189) (broadcast _ (Scalar.ofBits .bf16 0x0000#16))) (fun x => hG.h3 0 c _ _ _ _ (hv1188 x) (hv1189 x)) (cast_self _ _) ?_
  refine w_copy S A K c 0 1 ?_
  refine w_send S A K c 0 3 1 (.acc 0) .out ?_
  exact Hk

theorem part_44 {α : Type} {Q : α → sProp 𝕄} {kk} v14 v29 v39 (Hk : ∀ v1235 c0_i32_1210, St S A K c 166 ⊢ wps c (kk ⟨v1235, c0_i32_1210⟩) Q) :
    St S A K c 162 ⊢ wps c (((atA (k0_part44 (F := F))) c v14 v29 v39) >>= kk) Q := by
  rw [k0_part44_eq_skeleton]; unfold atA k0_part44_skel
  simp only [Prog.bind_op, Prog.bind_ret, Prog.lift, Prog.pure_eq_ret]
  refine w_dwait S A K c (.snd 1 2, 1) ?_
  refine w_dwait S A K c (.rcv 1 2, 1) ?_
  refine w_fin_lda S A K c 1 1 fun v1221 hv1221 => ?_
  refine w_fin_lds S A K c 1 1 fun v1222 hv1222 => ?_
  refine w_fin_lda S A K c 1 1 fun v1227 hv1227 => ?_
  refine w_fin_st S A K c 1 1 (maximumf (addf v1221 v1222) (broadcast _ (Scalar.ofBits .bf16 0x0000#16))) (fun x => hG.h3 1 c _ _ _ _ (hv1221 x) (hv1222 x)) (cast_self _ _) ?_
  refine w_copy S A K c 1 1 ?_
  exact Hk _ _

theorem part_45 {α : Type} {Q : α → sProp 𝕄} {kk} v17 v30 v42 v1235 c0_i32_1210 (Hk : St S A K c 170 ⊢ wps c (kk ⟨⟩) Q) :
    St S A K c 166 ⊢ wps c (((atA (k0_part45 (F := F))) c v17 v30 v42 v1235 c0_i32_1210) >>= kk) Q := by
  rw [k0_part45_eq_skeleton]; unfold atA k0_part45_skel
  simp only [Prog.bind_op, Prog.bind_ret, Prog.lift, Prog.pure_eq_ret]
  refine w_send S A K c 1 3 1 (.acc 1) .out ?_
  refine w_dwait S A K c (.snd 2 2, 1) ?_
  refine w_dwait S A K c (.rcv 2 2, 1) ?_
  refine w_fin_lda S A K c 2 1 fun v1254 hv1254 => ?_
  refine w_fin_lds S A K c 2 1 fun v1255 hv1255 => ?_
  refine w_fin_lda S A K c 2 1 fun v1260 hv1260 => ?_
  refine w_fin_st S A K c 2 1 (maximumf (addf v1254 v1255) (broadcast _ (Scalar.ofBits .bf16 0x0000#16))) (fun x => hG.h3 2 c _ _ _ _ (hv1254 x) (hv1255 x)) (cast_self _ _) ?_
  exact Hk

theorem part_46 {α : Type} {Q : α → sProp 𝕄} {kk} v11 v17 v28 v31 (Hk : St S A K c 175 ⊢ wps c (kk ⟨⟩) Q) :
    St S A K c 170 ⊢ wps c (((atA (k0_part46 (F := F))) c v11 v17 v28 v31) >>= kk) Q := by
  rw [k0_part46_eq_skeleton]; unfold atA k0_part46_skel
  simp only [Prog.bind_op, Prog.bind_ret, Prog.lift, Prog.pure_eq_ret]
  refine w_copy S A K c 2 1 ?_
  refine w_send S A K c 2 3 1 (.acc 2) .out ?_
  refine w_dwait S A K c (.snd 0 3, 1) ?_
  refine w_dwait S A K c (.rcv 0 3, 1) ?_
  refine w_dwait S A K c (.outc 0, 1) ?_
  exact Hk

theorem part_47 {α : Type} {Q : α → sProp 𝕄} {kk} v10 v13 v14 v29 v32 (Hk : St S A K c 179 ⊢ wps c (kk ⟨⟩) Q) :
    St S A K c 175 ⊢ wps c (((atA (k0_part47 (F := F))) c v10 v13 v14 v29 v32) >>= kk) Q := by
  rw [k0_part47_eq_skeleton]; unfold atA k0_part47_skel
  simp only [Prog.bind_op, Prog.bind_ret, Prog.lift, Prog.pure_eq_ret]
  refine w_send S A K c 0 4 1 .out .out ?_
  refine w_dwait S A K c (.snd 1 3, 1) ?_
  refine w_dwait S A K c (.rcv 1 3, 1) ?_
  refine w_dwait S A K c (.outc 1, 1) ?_
  exact Hk

theorem part_48 {α : Type} {Q : α → sProp 𝕄} {kk} v16 v17 v30 v33 (Hk : St S A K c 184 ⊢ wps c (kk ⟨⟩) Q) :
    St S A K c 179 ⊢ wps c (((atA (k0_part48 (F := F))) c v16 v17 v30 v33) >>= kk) Q := by
  rw [k0_part48_eq_skeleton]; unfold atA k0_part48_skel
  simp only [Prog.bind_op, Prog.bind_ret, Prog.lift, Prog.pure_eq_ret]
  refine w_send S A K c 1 4 1 .out .out ?_
  refine w_dwait S A K c (.snd 2 3, 1) ?_
  refine w_dwait S A K c (.rcv 2 3, 1) ?_
  refine w_dwait S A K c (.outc 2, 1) ?_
  refine w_send S A K c 2 4 1 .out .out ?_
  exact Hk

theorem part_49 {α : Type} {Q : α → sProp 𝕄} {kk} v9 v10 (Hk : St S A K c 188 ⊢ wps c (kk ⟨⟩) Q) :
    St S A K c 184 ⊢ wps c (((atA (k0_part49 (F := F))) c v9 v10) >>= kk) Q := by
  rw [k0_part49_eq_skeleton]; unfold atA k0_part49_skel
  simp only [Prog.bind_op, Prog.bind_ret, Prog.lift, Prog.pure_eq_ret]
  refine w_dwait S A K c (.snd 0 4, 1) ?_
  refine w_dwait S A K c (.rcv 0 4, 1) ?_
  refine w_send S A K c 0 5 1 .out .out ?_
  refine w_dwait S A K c (.snd 1 4, 1) ?_
  exact Hk

theorem part_50 {α : Type} {Q : α → sProp 𝕄} {kk} v12 v13 v16 (Hk : ∀ c1_i32_1388, St S A K c 192 ⊢ wps c (kk c1_i32_1388) Q) :
    St S A K c 188 ⊢ wps c (((atA (k0_part50 (F := F))) c v12 v13 v16) >>= kk) Q := by
  rw [k0_part50_eq_skeleton]; unfold atA k0_part50_skel
  simp only [Prog.bind_op, Prog.bind_ret, Prog.lift, Prog.pure_eq_ret]
  refine w_dwait S A K c (.rcv 1 4, 1) ?_
  refine w_send S A K c 1 5 1 .out .out ?_
  refine w_dwait S A K c (.snd 2 4, 1) ?_
  refine w_dwait S A K c (.rcv 2 4, 1) ?_
  exact Hk _

theorem part_51 {α : Type} {Q : α → sProp 𝕄} {kk} v9 v12 v15 c1_i32_1388 (Hk : St S A K c 196 ⊢ wps c (kk ⟨⟩) Q) :
    St S A K c 192 ⊢ wps c (((atA (k0_part51 (F := F))) c v9 v12 v15 c1_i32_1388) >>= kk) Q := by
  rw [k0_part51_eq_skeleton]; unfold atA k0_part51_skel
  simp only [Prog.bind_op, Prog.bind_ret, Prog.lift, Prog.pure_eq_ret]
  refine w_send S A K c 2 5 1 .out .out ?_
  refine w_dwait S A K c (.snd 0 5, 1) ?_
  refine w_dwait S A K c (.rcv 0 5, 1) ?_
  refine w_dwait S A K c (.snd 1 5, 1) ?_
  exact Hk

end Cert.Hyper

end
-- ==== Proof.Walk.lean ====
/-
The kernel's whole body: its parts one after another, then the last three waits.
-/
module

public import proofs.«01_k».proof.Proof.Walk1
public import proofs.«01_k».proof.Proof.Walk2
public import proofs.«01_k».proof.Proof.Walk3
public import proofs.«01_k».proof.Proof.Walk4

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (S : Spec F) (A : Args F) (K : Nms) (c : Dev nD) (hG : Good S A)

include hG

theorem part_52 {α : Type} {Q : α → sProp 𝕄} {kk} (Hk : ∀ v15, St S A K c 197 ⊢ wps c (kk ⟨c, v15⟩) Q) :
    St S A K c 0 ⊢ wps c ((atA (k0_part52 (F := F))) >>= kk) Q := by
  rw [k0_part52_eq_skeleton]; unfold atA k0_part52_skel
  simp only [bind_assoc]
  refine part_1 S A K c (fun v4 v6 v8 v9 v10 v11 v12 v13 v14 v15 v16 v17 => ?_)
  refine part_2 S A K c hG _ _ _ (fun r => ?_)
  refine part_3 S A K c hG _ _ _ (fun v89 => ?_)
  refine part_4 S A K c hG _ _ _ (fun v119 hv119 => ?_)
  refine part_5 S A K c hG _ _ _ hv119 ?_
  refine part_6 S A K c hG _ _ _ ?_
  refine part_7 S A K c hG _ _ _ _ (fun v198 v207 hv198 hv207 => ?_)
  refine part_8 S A K c hG _ _ _ _ _ _ hv198 hv207 (fun v238 hv238 => ?_)
  refine part_9 S A K c hG _ _ _ _ hv238 (fun c1024_i32_232 => ?_)
  refine part_10 S A K c hG _ _ _ _ _ ?_
  refine part_11 S A K c hG _ _ _ ?_
  refine part_12 S A K c hG _ _ _ ?_
  refine part_13 S A K c hG _ _ _ _ _ ?_
  refine part_14 S A K c hG _ _ _ ?_
  refine part_15 S A K c hG _ _ _ _ ?_
  refine part_16 S A K c hG _ _ _ ?_
  refine part_17 S A K c hG _ _ _ _ (fun v493 v495 hv493 => ?_)
  refine part_18 S A K c hG _ _ _ _ _ _ _ _ hv493 (fun v522 hv522 => ?_)
  refine part_19 S A K c hG _ _ _ _ _ hv522 ?_
  refine part_20 S A K c hG _ _ _ ?_
  refine part_21 S A K c hG _ _ _ ?_
  refine part_22 S A K c hG _ _ _ ?_
  refine part_23 S A K c hG _ _ _ (fun v660 c0_i32_612 => ?_)
  refine part_24 S A K c hG _ _ _ _ _ _ _ _ (fun v689 c0_i32_639 => ?_)
  refine part_25 S A K c hG _ _ _ _ _ _ _ ?_
  refine part_26 S A K c hG _ _ _ ?_
  refine part_27 S A K c hG _ _ _ _ _ _ (fun v773 => ?_)
  refine part_28 S A K c hG _ _ _ ?_
  refine part_29 S A K c hG _ _ _ ?_
  refine part_30 S A K c hG _ _ _ ?_
  refine part_31 S A K c hG _ _ ?_
  refine part_32 S A K c hG _ _ _ _ (fun v896 v899 hv896 => ?_)
  refine part_33 S A K c hG _ _ _ _ hv896 ?_
  refine part_34 S A K c hG _ _ _ _ (fun v956 => ?_)
  refine part_35 S A K c hG _ _ _ _ ?_
  refine part_36 S A K c hG _ _ _ (fun v1015 v1018 hv1015 hv1018 => ?_)
  refine part_37 S A K c hG _ _ _ _ _ hv1015 hv1018 (fun v1045 hv1045 => ?_)
  refine part_38 S A K c hG _ _ _ _ hv1045 ?_
  refine part_39 S A K c hG _ _ _ _ (fun v1103 hv1103 => ?_)
  refine part_40 S A K c hG _ _ _ _ _ hv1103 ?_
  refine part_41 S A K c hG _ _ _ _ (fun v1152 c0_i32_1128 => ?_)
  refine part_42 S A K c hG _ _ _ _ _ ?_
  refine part_43 S A K c hG _ _ _ ?_
  refine part_44 S A K c hG _ _ _ (fun v1235 c0_i32_1210 => ?_)
  refine part_45 S A K c hG _ _ _ _ _ ?_
  refine part_46 S A K c hG _ _ _ _ ?_
  refine part_47 S A K c hG _ _ _ _ _ ?_
  refine part_48 S A K c hG _ _ _ _ ?_
  refine part_49 S A K c hG _ _ ?_
  refine part_50 S A K c hG _ _ _ (fun c1_i32_1388 => ?_)
  refine part_51 S A K c hG _ _ _ _ ?_
  simp only [Prog.lift, Prog.bind_op, Prog.bind_ret, Prog.pure_eq_ret]
  refine w_dwait S A K c (.rcv 1 5, 1) ?_
  exact Hk _

theorem body_run {α : Type} {Q : α → sProp 𝕄} {kk : PUnit → Prog (TpuEff nD τ sig (Elt F) Λ₀ .tc) α} (Hk : St S A K c 199 ⊢ wps c (kk ⟨⟩) Q) :
    St S A K c 0 ⊢ wps c ((atA (cc0_body (F := F))) >>= kk) Q := by
  rw [cc0_body_eq_skeleton]; unfold atA cc0_body_skel
  simp only [bind_assoc]
  refine part_52 S A K c hG (fun v15 => ?_)
  simp only [Prog.lift, Prog.bind_op, Prog.bind_ret, Prog.pure_eq_ret]
  refine w_dwait S A K c (.snd 2 5, 1) ?_
  refine w_dwait S A K c (.rcv 2 5, 1) ?_
  exact Hk

end Cert.Hyper

end
-- ==== Proof.Run.lean ====
/-
The launch: every device's body, started from what the launch deals, ends with its arguments unchanged, its semaphores
at zero and its result at the contents the specification says.
-/
module

public import proofs.«01_k».proof.Proof.Fund
public import proofs.«01_k».proof.Proof.Walk
public import Idealize.ShloMosaic.Lib.Pipeline.CollectiveSegs
public import proofs.«01_k».proof.Proof.Gen.KernelIdeal.Points

@[expose] public section

noncomputable section

namespace Cert.Hyper

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev s₀ : MemSt nD τ sig (Elt F) := ⟨m, fun _ => 0, ρ⟩

/-- The arguments' blocks as the launch stages them. -/
def args : Args F where
  X c := (win0_0.blk (0 : Fin 1)).view.read (Elt F) (m ((c : Thread nD τ).loc main_arg0))
  Wt c := (win0_1.blk (0 : Fin 1)).view.read (Elt F) (m ((c : Thread nD τ).loc main_arg1))

variable (S : Spec F)

/-- What a device has before its body, besides its scratch buffers. -/
def start (c : Dev nD) : sProp 𝕄 :=
  iprop(G' S c ∗ levAts (SiteBlocks.L 200) SiteBlocks.lv ∗ (bigSepL prog fun e => bigSepL e.creds fun y => cred (tallyAt (cell c y.1) y.2 (amt y.1)))
    ∗ someB c .out)
/-- What it has after. -/
def fin (c : Dev nD) : sProp 𝕄 := iprop(unscopedSems0 c ∗ outIs S c)

def Φ₀ (c : Dev nD) : sProp 𝕄 := iprop(start S c ∗ bigSepL bufs (someB c))
def Φ₁ (c : Dev nD) : sProp 𝕄 := iprop(bigSepL cells (fun x => semVal (cell c x) 0) ∗ outIs S c ∗ bigSepL bufs (someB c))

def O₀ (c : Dev nD) : CellTallies nD τ sig ℕ := TalkSites.tallyL (dues c 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (args m).X c
    | ⟨1, _⟩ => (args m).Wt c
  Φ t := match t with
    | ⟨0, _⟩ => Φ₀ S c
    | ⟨_ + 1, _⟩ => Φ₁ S c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

/-- All positions closed. -/
theorem close_all (K : Nms) (c : Dev nD) : (l : List CK) → (iprop(pers S K ∗ bigSepL l (curAt c 199)) : sProp 𝕄) ⊢ |={Set.univ}=> bigSepL l fun x => semVal (cell c x) 0
  | [] => by iintro -; imodintro; iempintro
  | x :: l => by
    rw [bigSepL_cons', bigSepL_cons']
    have hc : ∀ r, 2 ≤ r ∨ (dut x 1 = ∅ ∧ 1 ≤ r) → (Rd S).duties (cell c x) r = ∅ := fun r hr => by
      rw [duties_cell]
      rcases hr with h | ⟨h, h'⟩
      · exact dut_later x r h
      · rcases Nat.lt_or_ge r 2 with h2 | h2
        · rw [show r = 1 by omega]; exact h
        · exact dut_later x r h2
    have hn : 2 ≤ cnt 199 x ∨ (dut x 1 = ∅ ∧ 1 ≤ cnt 199 x) := by
      have hd : ∀ x ∈ cells, 2 ≤ cnt 199 x ∨ (dut x 1 = ∅ ∧ 1 ≤ cnt 199 x) := by decide +kernel
      exact hd x (mem_cells x)
    iintro ⟨#HP, H1, H2⟩
    ihave H1 := (Entails.of_eq (curAt_def c 199 x)) $$ H1
    icases H1 with ⟨Hat, -⟩
    imod (Rounds.cell_close ER (Rd S) (Set.mem_univ (K (c, x))) (fun h => h) (R := cnt 199 x)
      (fun r hr => hc r (by rcases hn with h | ⟨h, h'⟩; · exact Or.inl (by omega)
                            exact Or.inr ⟨h, by omega⟩))) $$ [Hat] with Hz
    · isplitr; · iapply (pers_inv S K c x); iexact HP
      iexact Hat
    imod (close_all K c l) $$ [H2] with Hs
    · isplitr; · iexact HP
      iexact H2
    imodintro
    isplitl [Hz] <;> iassumption

/-- The device's first state. -/
theorem St_first (A : Args F) (c : Dev nD) (W : Waits sig ℕ) :
    (iprop(Φ₀ S c ∗ owes (c : Thread nD τ) (O₀ c) W ∗ argPts A c) : sProp 𝕄) ⊢ iprop(∃ K, St S A K c 0) := by
  unfold Φ₀ start G' mine
  iintro ⟨⟨⟨⟨%K, HR, Hcur, Htok⟩, Hlev, Hcr, Hout⟩, Hbufs⟩, HO, HA⟩
  iexists K
  unfold St
  isplitl [HR Hlev]
  · unfold pers recs
    icases HR with ⟨H1, H2⟩
    isplitl [H1]; · iexact H1
    isplitl [H2]; · iexact H2
    iexact Hlev
  isplitl [Hout Hbufs]
  · iapply (start_pieces S c)
    isplitl [Hout] <;> iassumption
  unfold side
  isplitl [HO]
  · iexists W; iexact HO
  isplitl [Htok Hcr]
  · rw [List.drop_zero]
    iapply (tok_all c)
    isplitl [Htok] <;> iassumption
  isplitl [Hcur]; · iexact Hcur
  iexact HA

/-- Its last. -/
theorem St_last (A : Args F) (K : Nms) (c : Dev nD) :
    (St S A K c 199 : sProp 𝕄) ⊢ |={Set.univ}=> iprop(Φ₁ S c ∗ (∃ W, owes (c : Thread nD τ) 0 W) ∗ argPts A c) := by
  unfold St side
  iintro ⟨#HP, Hits, HO, -, Hcur, HA⟩
  imod (close_all S K c cells) $$ [Hcur] with Hz
  · isplitr; · iexact HP
    iexact Hcur
  imodintro
  rw [dues_end]
  isplitl [Hz Hits]
  · unfold Φ₁
    isplitl [Hz]; · iexact Hz
    iapply (last_pieces S c); iexact Hits
  isplitl [HO]; · iexact HO
  iexact HA

def bodyPost (c : Dev nD) : sProp 𝕄 :=
  iprop(Φ₁ S c ∗ (dats m ρ S 0 c).owesAt 0 t0_0.succ ∗ stg c cc0_stg0_0 ((args m).X c) ∗ stg c cc0_stg1_0 ((args m).Wt c))

def bodyPre (c : Dev nD) : sProp 𝕄 :=
  iprop(Φ₀ S c ∗ (dats m ρ S 0 c).owesAt 0 t0_0.castSucc
    ∗ (∃ d, stg c cc0_stg0_0 ((dats m ρ S 0 c).before (0 : Fin 2) t0_0 d))
    ∗ (∃ d, stg c cc0_stg1_0 ((dats m ρ S 0 c).before (1 : Fin 2) t0_0 d)))

theorem sound_body (hG : Good S (args m)) (c : Dev nD) :
    bodyPre m ρ S c ⊢ wp frame (wpE (defs₀ (F := F)) 𝒱₀ c none) Set.univ (atA (cc0_body (F := F))) (fun _ => bodyPost m ρ S c) := by
  unfold bodyPre
  iintro ⟨HΦ, Ho, ⟨%d0, %g0, %hg0, Hx⟩, ⟨%d1, %g1, %hg1, Hw⟩⟩
  have hx : g0 = (args m).X c := by rw [hg0]; unfold Dat.before; rw [if_pos (fetch0_0 t0_0)]; rfl
  have hw : g1 = (args m).Wt c := by rw [hg1]; unfold Dat.before; rw [if_pos (fetch0_1 t0_0)]; rfl
  subst hx
  subst hw
  unfold Dat.owesAt Pipeline.owesWithin
  icases Ho with ⟨%W, %hW, HO⟩
  rw [show (dats m ρ S 0 c).owed t0_0.castSucc = O₀ c from rfl]
  ihave HS := (St_first S (args m) c W) $$ [HΦ HO Hx Hw]
  · isplitl [HΦ]; · iexact HΦ
    isplitl [HO]; · iexact HO
    unfold argPts
    isplitl [Hx]; · iexact Hx
    iexact Hw
  icases HS with ⟨%K, HS⟩
  have hrun := body_run S (args m) K c hG (Q := fun _ => bodyPost m ρ S c) (kk := fun u => .ret u) (by
    show _ ⊢ wp _ _ _ _ _
    rw [wp_ret]
    refine (St_last S (args m) K c).trans (BI.fupd_mono ?_)
    unfold bodyPost Dat.owesAt Pipeline.owesWithin argPts
    rw [show (dats m ρ S 0 c).owed t0_0.succ = 0 from rfl]
    iintro ⟨H, ⟨%W, HO⟩, Hx, Hw⟩
    isplitl [H]; · iexact H
    isplitl [HO]
    · iexists W
      isplitr; · ipureintro; exact fun _ _ => Or.inl trivial
      iexact HO
    isplitl [Hx]
    · iexists _; isplitr; · (ipureintro; rfl)
      iexact Hx
    iexists _; isplitr; · (ipureintro; rfl)
    iexact Hw)
  rw [show (fun u : PUnit => (Prog.ret u : Prog (TpuEff nD τ sig (Elt F) Λ₀ .tc) PUnit)) = Pure.pure from rfl, bind_pure] at hrun
  iapply hrun
  iexact HS

set_option maxRecDepth 100000 in
theorem body_obligation (hG : Good S (args m)) (c : Dev nD) : BodyObligation (dats (F := F) m ρ S 0 c) (defs₀ (F := F)) 𝒱₀ 0 Set.univ := fun t => by
  rw [fin_N0 t]
  rw [bigSep_W0, bigSep_W0]
  simp only [owns_whole_eq]
  exact sound_body m ρ S hG c

theorem share_eq (c : Dev nD) (w : Fin cfg0.W) : (dats m ρ S 0 c).share w = fullShare := by unfold Dat.share; split <;> rfl

/-! ## The launch's side conditions -/

theorem start_intro (c : Dev nD) :
    iprop(Pipeline.unscopedRestP Pipeline.Prefetch.none cfg0.spec c (fun b => m ((c : Thread nD τ).loc b)) ∗ levAts (SiteBlocks.L 200) SiteBlocks.lv
        ∗ Pipeline.launchCred O₀ c ∗ prngReg c (ρ c) ∗ G' S c)
      ⊢ |={Set.univ}=> iprop(start S c ∗ emp) := by
  have hcr : (Pipeline.launchCred O₀ c : sProp 𝕄) ⊢ bigSepL prog fun e => bigSepL e.creds fun y => cred (tallyAt (cell c y.1) y.2 (amt y.1)) := creds_all c
  rw [Pipeline.unscopedRestP_eq_of_list _ _ _ _ [main_v1] (by decide) (by decide), bigSepL_one]
  iintro ⟨Hout, Hlev, Hcr, -, HG⟩
  ihave Hc := hcr $$ Hcr
  imodintro
  unfold start
  isplitl
  · isplitl [HG]; · iexact HG
    isplitl [Hlev]; · iexact Hlev
    isplitl [Hc]; · iexact Hc
    unfold someB
    iexists (m ((c : Thread nD τ).loc main_v1))
    iexact Hout
  · iempintro

theorem six (P Q R P' Q' R' : sProp 𝕄) : iprop(P ∗ Q ∗ R ∗ P' ∗ Q' ∗ R') = iprop(P ∗ Q ∗ R ∗ P' ∗ Q' ∗ R' ∗ emp) := by
  exact congrArg (fun X => iprop(P ∗ Q ∗ R ∗ P' ∗ Q' ∗ X)) (equiv_iff.mp BI.sep_emp).symm

theorem bufs_eq (c : Dev nD) : (Pipeline.scopedRest cfg0.spec c : sProp 𝕄) = bigSepL bufs (someB c) := by
  refine (scopedRest0_eq c).trans ?_
  unfold bufs someB
  simp only [bigSepL_cons', bigSepL_nil']
  exact six _ _ _ _ _ _

theorem phi0_intro (c : Dev nD) :
    iprop(start S c ∗ Pipeline.prefHeld Pipeline.Prefetch.none c (fun _ => fullShare.right) (fun k => k.elim0) ∗ Pipeline.scopedRest cfg0.spec c)
      ⊢ (dats m ρ S 0 c).Φ 0 := by
  rw [show (dats m ρ S 0 c).Φ 0 = Φ₀ S c from rfl, bufs_eq]
  unfold Φ₀
  iintro ⟨Hs, -, Hr⟩
  isplitl [Hs] <;> iassumption

theorem phi1_exit (c : Dev nD) :
    (dats m ρ S 0 c).Φ (Fin.last cfg0.N) ⊢ iprop(fin S c ∗ Pipeline.ownSems0 osem c ∗ Pipeline.scopedRest cfg0.spec c) := by
  rw [show (dats m ρ S 0 c).Φ (Fin.last cfg0.N) = Φ₁ S c from rfl, bufs_eq]
  unfold Φ₁ fin
  rw [sems_eq]
  iintro ⟨⟨H1, H2⟩, H3, H4⟩
  isplitl [H2 H3]
  · isplitl [H2] <;> iassumption
  isplitl [H1] <;> iassumption

theorem wait_ok (c : Dev nD) (sm : SemLoc sig) (O : CellTallies nD τ sig ℕ) (hO : O = O₀ c ∨ O = 0) :
    (levAts (SiteBlocks.L 200) SiteBlocks.lv : sProp 𝕄) ⊢ MayWait (c : Thread nD τ) sm 0 O := by
  rcases hO with rfl | rfl
  · refine MayOwe.of_cut (L := SiteBlocks.L 200) (lev := SiteBlocks.lv) 0 (fun p hp => by rw [Finset.mem_singleton.mp hp]; exact SiteBlocks.mem_L _ _ (Nat.zero_lt_succ 199))
      (fun g u hg => (dues_above (by decide) c g u hg).1) (fun p hp => by rw [Finset.mem_singleton.mp hp]; exact le_refl _)
      (fun g u hg => lt_trans (Nat.zero_lt_succ _) (dues_above (by decide) c g u hg).2)
  · rw [MayWait_zero]; iintro -; iempintro

theorem waits (c : Dev nD) : (levAts (SiteBlocks.L 200) SiteBlocks.lv : sProp 𝕄) ⊢ Pipeline.cellsWaits cfgs (dats m ρ S) 0 0 c :=
  Pipeline.cellsWaits_intro cfgs (dats m ρ S) 0 0 c fun w s t =>
    wait_ok c _ _ (by
      rcases t with ⟨_ | _, ht⟩
      · exact Or.inl rfl
      · exact Or.inr rfl)

/-! ## The run -/

/-- What the run ends with. -/
def Ends (r : PUnit × MemSt nD τ sig (Elt F)) : Prop :=
  ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0)
    ∧ ∀ c : Dev nD, ∀ i : S4096x8192.Idx, S.R3 (i 0).val (i 1).val ((r.2.mem ((c.tc : Thread nD τ).loc main_v1) : Vec F S4096x8192 .bf16) i)

theorem out_read (c : Dev nD) (s' : Phys nD τ sig (Elt F)) : (iprop(outIs S c ∗ SI s') : sProp 𝕄)
    ⊢ iprop(⌜∀ i : S4096x8192.Idx, S.R3 (i 0).val (i 1).val ((s'.mem.mem ((c.tc : Thread nD τ).loc main_v1) : Vec F S4096x8192 .bf16) i)⌝ ∗ SI s') := by
  unfold outIs
  iintro ⟨⟨%f, %hf, Hf⟩, HSI⟩
  icombine HSI Hf gives %h
  isplitr
  · ipureintro
    intro i
    have hi := hf i
    have e : s'.mem.mem ((c.tc : Thread nD τ).loc main_v1) = f := funext fun j => h j (Finset.mem_univ j)
    rw [e]
    exact hi
  · iexact HSI

set_option maxRecDepth 100000 in
theorem run_main (hG : Good S (args m)) : θ_run defs (onTc (τ := τ) (main (F := F))) (s₀ m ρ) (Ends m S) :=
  Pipeline.θ_run_region_owing_glob_pf (fun p => (cfgs p).toPCfg) (fun p => (cfgs p).toPCfg_adm) (dats m ρ S) 0 cellOf_inj (0 : Fin 1)
    winFacts0.to₀ ownSemFacts (Pipeline.PreFacts.none _) EP defs₀ 𝒱₀ m ρ main
    (hmain := fun _ => rfl)
    (hbody := body_obligation m ρ S hG) (hne := fun w => by fin_cases w <;> exact Nat.succ_pos _) (harr := arr_whole0) (hstage := stage_whole0) (hshare := share_eq m ρ S)
    (hdistinct := winFacts0.arr_inj)
    (O₀ := O₀) (howed₀ := fun _ => rfl) (howedN := fun _ => rfl)
    (L := SiteBlocks.L 200) (lv := SiteBlocks.lv) (hL := SiteBlocks.hL 200) (hwaits := waits m ρ S)
    (G := G S) (G' := G' S) (u₀ := u₀)
    (hu₀ := by
      unfold u₀
      iintro Hu
      ihave H := (ownU_pair _ _) $$ Hu
      icases H with ⟨HP, HX⟩
      imod (fund_all S) $$ HX with HG
      imodintro
      isplitl [HP] <;> iassumption)
    (hglob := glob S)
    (hA := fun _ _ => rfl) (hpf := fun _ k => k.elim0)
    (X := start S) (Y := fin S) (Z := fun _ => iprop(emp))
    (hX := start_intro m ρ S) (hin := phi0_intro m ρ S) (hout := phi1_exit m ρ S)
    (QY := fun c s => (∀ sm : SemLoc sig, sm.isScoped .tc = false → s.sem ((c.tc : Thread nD τ), sm) = 0)
      ∧ ∀ i : S4096x8192.Idx, S.R3 (i 0).val (i 1).val ((s.mem ((c.tc : Thread nD τ).loc main_v1) : Vec F S4096x8192 .bf16) i))
    (hY := fun c s' => by
      unfold fin
      iintro ⟨⟨Hu, Ho⟩, -, HSI⟩
      ihave H := (out_read S c s') $$ [Ho HSI]
      · isplitl [Ho] <;> iassumption
      icases H with ⟨%h, HSI⟩
      imod (Pipeline.unscopedSems0_read (X := unscopedSems0 c) (c := c) fupd_intro s') $$ [Hu HSI] with ⟨%hz, HSI⟩
      · isplitl [Hu] <;> iassumption
      imodintro
      isplitr
      · ipureintro; exact ⟨hz, h⟩
      · iexact HSI)
    (hQ := fun _ h hs => ⟨⟨fun c => ⟨((h c).1 0).trans ((dats (F := F) m ρ S 0 c).arrAt_in (0 : Fin 2) rfl _), ((h c).1 1).trans ((dats (F := F) m ρ S 0 c).arrAt_in (1 : Fin 2) rfl _)⟩,
      sem_eq_zero hs fun c => (h c).2.2.1⟩, fun c => (h c).2.2.2⟩)

end Cert.Hyper

end
-- ==== Proof.Frames.lean ====
/-
The frames: the run with nothing said of the contents.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Hyper

open Idealize.ShloMosaic Idealize.SL.Sem

/-- Contents of which nothing is said. -/
def anyS (F : FTy → Type) : Spec F := ⟨fun _ _ _ _ => True, fun _ _ _ _ _ => True, fun _ _ _ _ _ => True, fun _ _ _ => True⟩

theorem any_good {F : FTy → Type} [FloatOps F] (A : Args F) : Good (anyS F) A where
  p1 _ _ _ _ _ _ _ _ := trivial
  p3 _ _ _ _ _ _ _ _ := trivial
  p6 _ _ _ _ _ _ _ _ := trivial
  p19 _ _ _ _ _ _ _ _ := trivial
  h1 _ _ _ _ _ _ _ _ := trivial
  h2 _ _ _ _ _ _ _ _ := trivial
  h3 _ _ _ _ _ _ _ _ := trivial

theorem frame_kernelIdeal : Cert.quiescent_KernelIdeal := fun m ρ _ =>
  (θ_run Cert.KernelIdeal.defs _ _).mono (fun _ h => h.1) (run_main (F := Ideal) m ρ (anyS Ideal) (any_good _))

/-! The two programs of the kernel have the same text. -/

set_option maxRecDepth 100000 in
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl

set_option maxRecDepth 100000 in
theorem defs_eq : Cert.Kernel.defs (F := Bits) = Cert.KernelIdeal.defs (F := Bits) := by
  unfold Cert.Kernel.defs Cert.KernelIdeal.defs
  rw [bodies_eq]; rfl

theorem frame_kernel : Cert.quiescent_Kernel := fun m ρ _ => by
  rw [defs_eq]
  exact (θ_run Cert.KernelIdeal.defs _ _).mono (fun _ h => h.1) (run_main (F := Bits) m ρ (anyS Bits) (any_good _))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Hyper

end
-- ==== Proof.Sums.lean ====
/-
Sums over the devices: a device's sum over the four pairs its three neighbours give is the sum over all devices, and
a sum over the devices of sums over their 512 columns is the sum over all 4096 columns.
-/
module

public import proofs.«01_k».proof.Proof.Proto
public import Mathlib.Algebra.BigOperators.Fin
public import Mathlib.Tactic.Abel

@[expose] public section

noncomputable section

namespace Cert.Hyper

open Cert.KernelIdeal
open Idealize.ShloMosaic
open scoped BigOperators

variable {M : Type} [AddCommMonoid M]

/-- The sum of a device's value and its first partner's; of those two and the second partner's two. -/
def two (g : Fin 3) (f : Dev nD → M) (c : Dev nD) : M := f c + f (nbr (0 + g) c)
@[inherit_doc two] def four (g : Fin 3) (f : Dev nD → M) (c : Dev nD) : M := two g f c + two g f (nbr (1 + g) c)

/-- Every device is one of the eight the three neighbours reach, each once. -/
theorem reach : ∀ (g : Fin 3) (c : Dev nD), (Finset.univ : Finset (Dev nD)).val
    = {c, nbr (0 + g) c, nbr (1 + g) c, nbr (0 + g) (nbr (1 + g) c), nbr (2 + g) c, nbr (0 + g) (nbr (2 + g) c),
       nbr (1 + g) (nbr (2 + g) c), nbr (0 + g) (nbr (1 + g) (nbr (2 + g) c))} := by unfold nbr; decide +kernel

theorem eight (g : Fin 3) (f : Dev nD → M) (c : Dev nD) : four g f c + four g f (nbr (2 + g) c) = ∑ d : Dev nD, f d := by
  unfold Finset.sum
  rw [reach g c]
  simp only [four, two, Multiset.insert_eq_cons, Multiset.map_cons, Multiset.map_singleton, Multiset.sum_cons, Multiset.sum_singleton]
  abel

/-- The column of the whole array that column `k` of device `d` is. -/
def wholeCol (d : Dev nD) (k : Fin 512) : Fin 4096 := ⟨d.val * 512 + k.val, by have := k.isLt; have : d.val < 8 := d.isLt; omega⟩

theorem all_cols (f : Fin 4096 → M) : ∑ d : Dev nD, ∑ k : Fin 512, f (wholeCol d k) = ∑ K : Fin 4096, f K := by
  rw [← Fintype.sum_prod_type' (f := fun (d : Fin 8) (k : Fin 512) => f (wholeCol d k))]
  refine Fintype.sum_equiv (finProdFinEquiv (m := 8) (n := 512)) _ _ fun p => congrArg f (Fin.ext ?_)
  show p.1.val * 512 + p.2.val = p.2.val + 512 * p.1.val
  omega

end Cert.Hyper

end
-- ==== Proof.Exact.lean ====
/-
The contents in exact arithmetic: a first partial sum is a device's own part of the product, the next ones are the
parts of two and of four devices, and the result is the larger of zero and the sum of all eight parts.
-/
module

public import proofs.«01_k».proof.Proof.Values
public import proofs.«01_k».proof.Proof.Sums
public import Idealize.ShloMosaic.Lib.MatmulPlain
public import Idealize.ShloMosaic.Lib.IdealHost
public import Idealize.ShloMosaic.Lib.Pipeline.Value

@[expose] public section

noncomputable section

namespace Cert.Hyper

open Cert.KernelIdeal Cert.KernelIdeal.Gen
open Idealize.ShloMosaic Idealize.ShloMosaic.ValueIdx
open scoped BigOperators

/-- Device `c`'s part of the product at row `i` and column `j`. -/
def part (A : Args Ideal) (i : Fin 4096) (j : Fin 8192) (c : Dev nD) : EReal := ∑ k : Fin 512, A.X c (ix2 i k) * A.Wt c (ix2 k j)

/-- A value at a row and a column is what `f` says, where they are the array's. -/
def At (f : Fin 4096 → Fin 8192 → EReal) (i j : ℕ) (v : Elt Ideal .bf16) : Prop :=
  ∀ (hi : i < 4096) (hj : j < 8192), (v : EReal) = f ⟨i, hi⟩ ⟨j, hj⟩

/-- The exact contents. -/
def exact (A : Args Ideal) : Spec Ideal where
  R0 c := At fun i j => part A i j c
  R1 g c := At fun i j => two g (part A i j) c
  R2 g c := At fun i j => four g (part A i j) c
  R3 := At fun i j => max (∑ d, part A i j d) 0

/-- A block of rows against a block of columns gives the device's part there. -/
theorem prod_part (A : Args Ideal) (M N : ℕ) (c : Dev nD) (r k : ℕ) (x : FVec Ideal ⟨2, ![M, 512]⟩ .bf16) (w : FVec Ideal ⟨2, ![512, N]⟩ .bf16)
    (hx : XS A c r (s := ![M, 512]) x) (hw : WS A c k (s := ![512, N]) w) (j : (⟨2, ![M, N]⟩ : Shape).Idx) :
    At (fun a b => part A a b c) (r + (j 0).val) (k + (j 1).val)
      (FloatOps.matmul (DotDims.plain M 512 N) none x w (constant ⟨2, ![M, N]⟩ .f32 0x00000000#32) j) := by
  intro hi hj
  obtain ⟨a, b, rfl⟩ : ∃ a b, j = ix2 a b := ⟨_, _, eq_ix2 j⟩
  rw [Ideal.matmul_plain_apply]
  show Ideal.ofBits .f32 0x00000000#32 + _ = _
  rw [Ideal.ofBits_zero_f32, zero_add]
  refine Finset.sum_congr rfl fun q _ => ?_
  rw [hx (ix2 a q) (ix2 ⟨r + a.val, hi⟩ q) rfl rfl, hw (ix2 q b) (ix2 q ⟨k + b.val, hj⟩) rfl rfl]
  rfl

theorem exact_good (A : Args Ideal) : Good (exact A) A where
  p1 c r k x w hx hw j := by
    simp only [k0_pay1, shapeCast_self]
    exact prod_part A 2048 1280 c r k x w hx hw j
  p3 c r k x w hx hw j := by
    simp only [k0_pay3, shapeCast_self]
    exact prod_part A 2048 1408 c r k x w hx hw j
  p6 c r k x w hx hw j := by
    simp only [k0_pay6, shapeCast_self]
    exact prod_part A 1024 1280 c r k x w hx hw j
  p19 c r k x w hx hw j := by
    simp only [k0_pay19, shapeCast_self]
    exact prod_part A 1024 1408 c r k x w hx hw j
  h1 g c i j a b ha hb hi hj := by
    show (a : EReal) + b = two g _ c
    rw [ha hi hj, hb hi hj]; exact add_comm _ _
  h2 g c i j a b ha hb hi hj := by
    show (a : EReal) + b = four g _ c
    rw [ha hi hj, hb hi hj]; rfl
  h3 g c i j a b ha hb hi hj := by
    show max ((a : EReal) + b) (Ideal.ofBits .bf16 0x0000#16) = max _ 0
    rw [ha hi hj, hb hi hj, Ideal.ofBits_zero_bf16, eight]

end Cert.Hyper

end
-- ==== Proof.Whole.lean ====
/-
The reference's value at an entry, and the equation: the devices' parts, their arguments the blocks of the whole
arrays, add to the reference's product.
-/
module

public import proofs.«01_k».proof.Proof.Exact
public import proofs.«01_k».proof.Proof.Frames
public import Idealize.ShloMosaic.Lib.StackMember

@[expose] public section

noncomputable section

namespace Cert.Hyper

open Idealize.ShloMosaic Idealize.ShloMosaic.ValueIdx Idealize.ShloMosaic.TcCoe Idealize.SL.Sem
open scoped BigOperators

/-! ## The reference -/

section Reference
open Cert.ReferenceIdeal Cert.ReferenceIdeal.Gen

/-- The reference's result, as its run leaves it. -/
def refVal (x : FVec Ideal S4096x4096 .bf16) (w : FVec Ideal S4096x8192 .bf16) : FVec Ideal S4096x8192 .bf16 :=
  truncf .bf16 (maximumf (extf .f32 (truncf .bf16 (Host.dotGeneral dot_S4096x4096_S4096x8192_S4096x8192_1_0_0_1_n_n none x w) bitsLt_bf16_f32) bitsLt_bf16_f32)
    (broadcastInDim S4096x8192 ![] bcast_S_S4096x8192 (constant S_ .f32 0x00000000#32))) bitsLt_bf16_f32

theorem refVal_apply (x : FVec Ideal S4096x4096 .bf16) (w : FVec Ideal S4096x8192 .bf16) (i : Fin 4096) (j : Fin 8192) :
    refVal x w (ix2 i j) = max (∑ k : Fin 4096, x (ix2 i k) * w (ix2 k j)) (0 : EReal) := by
  show max (Host.dotGeneral (DotDims.plain 4096 4096 8192) none x w (ix2 i j) : EReal) (Ideal.ofBits .f32 0x00000000#32) = _
  rw [Ideal.ofBits_zero_f32, StackMember.dotGeneral_plain_apply]

end Reference

/-! ## The equation -/

open Cert.KernelIdeal Cert.KernelIdeal.Gen

variable (m : (ℓ : Loc nD τ sig) → Buf (Elt Ideal) ℓ)

/-- The staged blocks are the argument arrays. -/
theorem args_X (c : Dev nD) : (args m).X c = m ((c : Thread nD τ).loc main_arg0) := by
  unfold args
  funext i
  refine congrArg (m ((c : Thread nD τ).loc main_arg0)) (funext fun a => Fin.ext ?_)
  refine (Rect.emb_apply (r := win0_0.rect (0 : Fin 1)) i a).trans ?_
  rw [show (win0_0.rect (0 : Fin 1)).off a = 0 from Nat.zero_mul _, show (win0_0.rect (0 : Fin 1)).stride a = 1 from rfl, Nat.zero_add, Nat.one_mul]
theorem args_Wt (c : Dev nD) : (args m).Wt c = m ((c : Thread nD τ).loc main_arg1) := by
  unfold args
  funext i
  refine congrArg (m ((c : Thread nD τ).loc main_arg1)) (funext fun a => Fin.ext ?_)
  refine (Rect.emb_apply (r := win0_1.rect (0 : Fin 1)) i a).trans ?_
  rw [show (win0_1.rect (0 : Fin 1)).off a = 0 from Nat.zero_mul _, show (win0_1.rect (0 : Fin 1)).stride a = 1 from rfl, Nat.zero_add, Nat.one_mul]

/-- The devices' arguments are the blocks of the whole arrays `x` and `w`. -/
def Cut (x : FVec Ideal Cert.ReferenceIdeal.S4096x4096 .bf16) (w : FVec Ideal Cert.ReferenceIdeal.S4096x8192 .bf16) : Prop :=
  ∀ c : Dev nD, m ((c.tc : Thread nD τ).loc main_arg0) = Layout.block ⟨2, ![4096, 512]⟩ ⟨2, ![4096, 4096]⟩ 1 8 c x
    ∧ m ((c.tc : Thread nD τ).loc main_arg1) = Layout.block ⟨2, ![512, 8192]⟩ ⟨2, ![4096, 8192]⟩ 0 8 c w

variable {m}
variable {x : FVec Ideal Cert.ReferenceIdeal.S4096x4096 .bf16} {w : FVec Ideal Cert.ReferenceIdeal.S4096x8192 .bf16}

theorem Cut.X (h : Cut m x w) (c : Dev nD) (i : Fin 4096) (k : Fin 512) : (args m).X c (ix2 i k) = x (ix2 i (wholeCol c k)) := by
  rw [args_X, (h c).1, Layout.block_apply]
  refine congrArg x (funext fun a => Fin.ext ?_)
  match a with
  | ⟨0, _⟩ => rfl
  | ⟨1, _⟩ => rfl

theorem Cut.Wt (h : Cut m x w) (c : Dev nD) (k : Fin 512) (j : Fin 8192) : (args m).Wt c (ix2 k j) = w (ix2 (wholeCol c k) j) := by
  rw [args_Wt, (h c).2, Layout.block_apply]
  refine congrArg w (funext fun a => Fin.ext ?_)
  match a with
  | ⟨0, _⟩ => rfl
  | ⟨1, _⟩ => rfl

theorem Cut.sum (h : Cut m x w) (i : Fin 4096) (j : Fin 8192) : ∑ d, part (args m) i j d = ∑ k : Fin 4096, x (ix2 i k) * w (ix2 k j) := by
  rw [← all_cols fun k => x (ix2 i k) * w (ix2 k j)]
  exact Finset.sum_congr rfl fun d _ => Finset.sum_congr rfl fun k _ => by rw [h.X d i k, h.Wt d k j]

/-- A result that is exact everywhere is the reference's. -/
theorem Cut.result (h : Cut m x w) (v : FVec Ideal S4096x8192 .bf16)
    (hv : ∀ i : S4096x8192.Idx, (exact (args m)).R3 (i 0).val (i 1).val (v i)) : v = refVal x w := by
  funext i
  obtain ⟨a, b, rfl⟩ : ∃ a b, i = ix2 a b := ⟨_, _, eq_ix2 i⟩
  rw [refVal_apply, ← h.sum a b]
  exact hv (ix2 a b) a.isLt b.isLt

theorem algebraic : Cert.algebraic_KernelIdeal_ReferenceIdeal := fun m ρ m' ρ' _ hc =>
  ⟨refVal (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun r h c => ⟨Cut.result (m := m) hc _ (h.2 c), h.1.1 c⟩)
      (run_main (F := Ideal) m ρ (exact (args m)) (exact_good _)),
    (θ_run Cert.ReferenceIdeal.defs _ _).mono (fun r h => h 0) (Cert.ReferenceIdeal.Value.run (F := Ideal) m' ρ')⟩

end Cert.Hyper

end
-- ==== Proof.lean ====
/-
The proof of the claim. The kernel's run on eight devices, for any float values and with the contents it leaves, is
`Cert.Hyper.run_main` (Proof/Run.lean); the three frames are in Proof/Frames.lean; the value, at exact arithmetic,
against the reference's is in Proof/Whole.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Frames
public import proofs.«01_k».proof.Proof.Whole
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Hyper.frame_kernel, Cert.Hyper.frame_kernelIdeal, Cert.Hyper.frame_reference, trivial, Cert.Hyper.algebraic⟩

end Cert.Proof

end
